-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)) (v2 : (c : Dev Cert.KernelIdeal.nD) → Buf (Elt Ideal) ((c.tc : Thread Cert.KernelIdeal.nD Cert.KernelIdeal.τ).loc Cert.KernelIdeal.main_v107_2)) (v3 : (c : Dev Cert.KernelIdeal.nD) → Buf (Elt Ideal) ((c.tc : Thread Cert.KernelIdeal.nD Cert.KernelIdeal.τ).loc Cert.KernelIdeal.main_v107_3)) (v4 : (c : Dev Cert.KernelIdeal.nD) → Buf (Elt Ideal) ((c.tc : Thread Cert.KernelIdeal.nD Cert.KernelIdeal.τ).loc Cert.KernelIdeal.main_v107_4)) (v5 : (c : Dev Cert.KernelIdeal.nD) → Buf (Elt Ideal) ((c.tc : Thread Cert.KernelIdeal.nD Cert.KernelIdeal.τ).loc Cert.KernelIdeal.main_v107_5)) (v6 : (c : Dev Cert.KernelIdeal.nD) → Buf (Elt Ideal) ((c.tc : Thread Cert.KernelIdeal.nD Cert.KernelIdeal.τ).loc Cert.KernelIdeal.main_v107_6)) (v7 : (c : Dev Cert.KernelIdeal.nD) → Buf (Elt Ideal) ((c.tc : Thread Cert.KernelIdeal.nD Cert.KernelIdeal.τ).loc Cert.KernelIdeal.main_v107_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_1) = v1 c
          ∧ r.2.mem ((c.tc : Thread Cert.KernelIdeal.nD Cert.KernelIdeal.τ).loc Cert.KernelIdeal.main_v107_2) = v2 c
          ∧ r.2.mem ((c.tc : Thread Cert.KernelIdeal.nD Cert.KernelIdeal.τ).loc Cert.KernelIdeal.main_v107_3) = v3 c
          ∧ r.2.mem ((c.tc : Thread Cert.KernelIdeal.nD Cert.KernelIdeal.τ).loc Cert.KernelIdeal.main_v107_4) = v4 c
          ∧ r.2.mem ((c.tc : Thread Cert.KernelIdeal.nD Cert.KernelIdeal.τ).loc Cert.KernelIdeal.main_v107_5) = v5 c
          ∧ r.2.mem ((c.tc : Thread Cert.KernelIdeal.nD Cert.KernelIdeal.τ).loc Cert.KernelIdeal.main_v107_6) = v6 c
          ∧ r.2.mem ((c.tc : Thread Cert.KernelIdeal.nD Cert.KernelIdeal.τ).loc Cert.KernelIdeal.main_v107_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_v287) = v2 c
          ∧ r.2.mem ((c.tc : Thread Cert.ReferenceIdeal.nD Cert.ReferenceIdeal.τ).loc Cert.ReferenceIdeal.main_v264) = v3 c
          ∧ r.2.mem ((c.tc : Thread Cert.ReferenceIdeal.nD Cert.ReferenceIdeal.τ).loc Cert.ReferenceIdeal.main_v263) = v4 c
          ∧ r.2.mem ((c.tc : Thread Cert.ReferenceIdeal.nD Cert.ReferenceIdeal.τ).loc Cert.ReferenceIdeal.main_v335) = v5 c
          ∧ r.2.mem ((c.tc : Thread Cert.ReferenceIdeal.nD Cert.ReferenceIdeal.τ).loc Cert.ReferenceIdeal.main_v336) = v6 c
          ∧ r.2.mem ((c.tc : Thread Cert.ReferenceIdeal.nD Cert.ReferenceIdeal.τ).loc Cert.ReferenceIdeal.main_v340) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S8192x1024 : Shape := ⟨2, ![8192, 1024]⟩
abbrev S8192x1152 : Shape := ⟨2, ![8192, 1152]⟩
abbrev S_ : Shape := ⟨0, ![]⟩

class Facts : Prop where
  slices_S8192x6400_S8192x1152_0_1024 : S8192x6400.Slices ![0, 1024] S8192x1152
  bcast_S_S8192x1152 : S_.BroadcastsInDim S8192x1152 (![] : Fin 0 → Fin S8192x1152.rank)
  reducesTo_S8192x1152_S_d0_1 : S8192x1152.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v14 : IVec S_ 1) (main_v15 : FVec F S1x16 .f32) (main_v16 : FVec F S1x16 .f32) : IVec S_ 1 :=
  let main_v17 : IVec S1x16 1 := cmpf .olt main_v15 main_v16
  let main_c_5 : IVec S_ 1 := constantI S_ 1 1#1
  let main_v18 : IVec S_ 1 := (fun x v => Host.reduce IntOp.andi x v reducesTo_S1x16_S_d0_1 h_S_) main_v17 main_c_5
  let main_v19 : IVec S_ 1 := andi main_v14 main_v18
  let main_v20 : FVec F S32x16 .f32 := Host.absf main_arg4
  let main_cst_6 : FVec F S_ .f32 := constant S_ .f32 0x7F800000#32
  let main_v21 : FVec F S32x16 .f32 := broadcastInDim S32x16 ![] bcast_S_S32x16 main_cst_6
  let main_v22 : IVec S32x16 1 := cmpf .olt main_v20 main_v21
  let main_c_7 : IVec S_ 1 := constantI S_ 1 1#1
  let main_v23 : IVec S_ 1 := (fun x v => Host.reduce IntOp.andi x v reducesTo_S32x16_S_d0_1 h_S_) main_v22 main_c_7
  let main_v24 : IVec S_ 1 := andi main_v19 main_v23
  main_v24

def fn {F : FTy → Type} [FloatOps F] (main_arg0 : FVec F S8192x6400 .f32) (main_arg1 : FVec F S1x64 .f32) (main_arg2 : FVec F S1x64 .f32) (main_arg3 : FVec F S1x16 .f32) (main_arg4 : FVec F S32x16 .f32) (main_arg5 : FVec F S8192x1024 .f32) : IVec S_ 1 :=
  let main_v0 : FVec F S8192x1152 .f32 := (extractStridedSlice S8192x1152 ![0, 1024] · slices_S8192x6400_S8192x1152_0_1024) main_arg0
  let main_v1 : FVec F S8192x1152 .f32 := Host.absf main_v0
  let main_cst : FVec F S_ .f32 := constant S_ .f32 0x7F800000#32
  let main_v2 : FVec F S8192x1152 .f32 := broadcastInDim S8192x1152 ![] bcast_S_S8192x1152 main_cst
  let main_v3 : IVec S8192x1152 1 := cmpf .olt main_v1 main_v2
  let main_c : IVec S_ 1 := constantI S_ 1 1#1
  let main_v4 : IVec S_ 1 := (fun x v => Host.reduce IntOp.andi x v reducesTo_S8192x1152_S_d0_1 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : IVec S_ 1 := andi main_v4 main_v8
  let main_v10 : FVec F S1x64 .f32 := Host.absf main_arg2
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v9 main_v13
  let main_v15 : FVec F S1x16 .f32 := Host.absf main_arg3
  let main_cst_4 : FVec F S_ .f32 := constant S_ .f32 0x7F800000#32
  let main_v16 : FVec F S1x16 .f32 := broadcastInDim S1x16 ![] bcast_S_S1x16 main_cst_4
  fn_part1 (F := F) main_arg4 main_v14 main_v15 main_v16
-- ==== Kernel.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S8192x1024 : Shape := ⟨2, ![8192, 1024]⟩
abbrev S2x1x8x1 : Shape := ⟨4, ![2, 1, 8, 1]⟩
abbrev S2x1x8x128 : Shape := ⟨4, ![2, 1, 8, 128]⟩
abbrev S2x1x1024 : Shape := ⟨3, ![2, 1, 1024]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S2x256x8x128 : Shape := ⟨4, ![2, 256, 8, 128]⟩
abbrev S2x256x1024 : Shape := ⟨3, ![2, 256, 1024]⟩
abbrev S1x128 : Shape := ⟨2, ![1, 128]⟩
abbrev S8192x128 : Shape := ⟨2, ![8192, 128]⟩
abbrev S8x128 : Shape := ⟨2, ![8, 128]⟩
abbrev S128x512 : Shape := ⟨2, ![128, 512]⟩
abbrev S128x128 : Shape := ⟨2, ![128, 128]⟩
abbrev S128x1024 : Shape := ⟨2, ![128, 1024]⟩
abbrev S256x128 : Shape := ⟨2, ![256, 128]⟩
abbrev S256x1 : Shape := ⟨2, ![256, 1]⟩
abbrev S512x128 : Shape := ⟨2, ![512, 128]⟩
abbrev S256x512 : Shape := ⟨2, ![256, 512]⟩
abbrev S1x256x512 : Shape := ⟨3, ![1, 256, 512]⟩
abbrev S1x1x512 : Shape := ⟨3, ![1, 1, 512]⟩
abbrev S1x512 : Shape := ⟨2, ![1, 512]⟩
abbrev S512 : Shape := ⟨1, ![512]⟩
abbrev S6x128 : Shape := ⟨2, ![6, 128]⟩

abbrev nBuf : Space → Nat
  | .hbm => 149
  | .vmem => 31
  | .smem => 0
  | _ => 0

abbrev hbmTy0_0 (i : Nat) : BufTy := match i % 128 with
  | 0 => ⟨S8192x6400, .f32⟩
  | 1 => ⟨S1x64, .f32⟩
  | 2 => ⟨S1x64, .f32⟩
  | 3 => ⟨S1x16, .f32⟩
  | 4 => ⟨S32x16, .f32⟩
  | 5 => ⟨S8192x1024, .f32⟩
  | 6 => ⟨S2x1x8x1, .f32⟩
  | 7 => ⟨S2x1x8x128, .f32⟩
  | 8 => ⟨S2x1x1024, .f32⟩
  | 9 => ⟨S128, .i32⟩
  | 10 => ⟨S128x1, .i32⟩
  | 11 => ⟨S_, .i32⟩
  | 12 => ⟨S128x1, .i32⟩
  | 13 => ⟨S128x1, .i32⟩
  | 14 => ⟨S256, .i32⟩
  | 15 => ⟨S1x256, .i32⟩
  | 16 => ⟨S128x256, .i32⟩
  | 17 => ⟨S128x256, .i32⟩
  | 18 => ⟨S128x256, .i32⟩
  | 19 => ⟨S_, .i32⟩
  | 20 => ⟨S128x256, .i32⟩
  | 21 => ⟨S128x256, .i1⟩
  | 22 => ⟨S_, .i32⟩
  | 23 => ⟨S128x256, .i32⟩
  | 24 => ⟨S128x256, .i1⟩
  | 25 => ⟨S128x256, .i1⟩
  | 26 => ⟨S128x256x1, .i1⟩
  | 27 => ⟨S128, .i32⟩
  | 28 => ⟨S128x1, .i32⟩
  | 29 => ⟨S_, .i32⟩
  | 30 => ⟨S128x1, .i32⟩
  | 31 => ⟨S128x1, .i32⟩
  | 32 => ⟨S256, .i32⟩
  | 33 => ⟨S1x256, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S128x256, .i32⟩
  | 47 => ⟨S_, .i32⟩
  | 48 => ⟨S128x256, .i32⟩
  | 49 => ⟨S128x256, .i32⟩
  | 50 => ⟨S_, .i32⟩
  | 51 => ⟨S128x256, .i32⟩
  | 52 => ⟨S128x256, .i1⟩
  | 53 => ⟨S128x256, .i32⟩
  | 54 => ⟨S128x256, .i32⟩
  | 55 => ⟨S_, .i32⟩
  | 56 => ⟨S128x256, .i32⟩
  | 57 => ⟨S128x256, .i1⟩
  | 58 => ⟨S128x256, .i32⟩
  | 59 => ⟨S128x256, .i32⟩
  | 60 => ⟨S_, .i32⟩
  | 61 => ⟨S128x256, .i32⟩
  | 62 => ⟨S128x256, .i1⟩
  | 63 => ⟨S128x256, .i32⟩
  | 64 => ⟨S128x256, .i32⟩
  | 65 => ⟨S_, .i32⟩
  | 66 => ⟨S128x256, .i32⟩
  | 67 => ⟨S128x256, .i1⟩
  | 68 => ⟨S128x256, .i32⟩
  | 69 => ⟨S128x256, .i32⟩
  | 70 => ⟨S_, .i32⟩
  | 71 => ⟨S128x256, .i32⟩
  | 72 => ⟨S128x256, .i1⟩
  | 73 => ⟨S128x256, .i32⟩
  | 74 => ⟨S128x256, .i32⟩
  | 75 => ⟨S_, .i32⟩
  | 76 => ⟨S128x256, .i32⟩
  | 77 => ⟨S128x256, .i1⟩
  | 78 => ⟨S128x256, .i32⟩
  | 79 => ⟨S128x256, .i32⟩
  | 80 => ⟨S_, .i32⟩
  | 81 => ⟨S128x256, .i32⟩
  | 82 => ⟨S128x256, .i1⟩
  | 83 => ⟨S128x256, .i32⟩
  | 84 => ⟨S128x256, .i32⟩
  | 85 => ⟨S_, .i32⟩
  | 86 => ⟨S128x256, .i32⟩
  | 87 => ⟨S128x256, .i1⟩
  | 88 => ⟨S128x256, .i32⟩
  | 89 => ⟨S128x256, .i32⟩
  | 90 => ⟨S_, .i32⟩
  | 91 => ⟨S128x256, .i32⟩
  | 92 => ⟨S128x256, .i1⟩
  | 93 => ⟨S128x256, .i32⟩
  | 94 => ⟨S128x256, .i32⟩
  | 95 => ⟨S_, .i32⟩
  | 96 => ⟨S128x256, .i32⟩
  | 97 => ⟨S128x256, .i1⟩
  | 98 => ⟨S128x256, .i32⟩
  | 99 => ⟨S128x256, .i32⟩
  | 100 => ⟨S_, .i32⟩
  | 101 => ⟨S128x256, .i32⟩
  | 102 => ⟨S128x256, .i1⟩
  | 103 => ⟨S128x256, .i32⟩
  | 104 => ⟨S128x256, .i32⟩
  | 105 => ⟨S_, .i32⟩
  | 106 => ⟨S128x256, .i32⟩
  | 107 => ⟨S128x256, .i1⟩
  | 108 => ⟨S128x256, .i32⟩
  | 109 => ⟨S128x256, .i32⟩
  | 110 => ⟨S_, .i32⟩
  | 111 => ⟨S128x256, .i32⟩
  | 112 => ⟨S128x256, .i1⟩
  | 113 => ⟨S128x256, .i32⟩
  | 114 => ⟨S128x256, .i32⟩
  | 115 => ⟨S_, .i32⟩
  | 116 => ⟨S128x256, .i32⟩
  | 117 => ⟨S128x256, .i1⟩
  | 118 => ⟨S128x256, .i32⟩
  | 119 => ⟨S128x256, .i32⟩
  | 120 => ⟨S128x256, .i32⟩
  | 121 => ⟨S_, .i32⟩
  | 122 => ⟨S128x256, .i32⟩
  | 123 => ⟨S128x256, .i1⟩
  | 124 => ⟨S_, .i32⟩
  | 125 => ⟨S128x256, .i32⟩
  | 126 => ⟨S128x256, .i32⟩
  | 127 => ⟨S128x256, .i32⟩
  | _ => ⟨S8192x6400, .f32⟩

abbrev hbmTy0_1 (i : Nat) : BufTy := match i % 128 with
  | 0 => ⟨S128x256x1, .i32⟩
  | 1 => ⟨S128x256x16, .f32⟩
  | 2 => ⟨S_, .f32⟩
  | 3 => ⟨S_, .f32⟩
  | 4 => ⟨S128x256x16, .i1⟩
  | 5 => ⟨S128x256x16, .f32⟩
  | 6 => ⟨S128x256x16, .f32⟩
  | 7 => ⟨S16x128x256, .f32⟩
  | 8 => ⟨S2x8x128x256, .f32⟩
  | 9 => ⟨S2x256x8x128, .f32⟩
  | 10 => ⟨S2x256x1024, .f32⟩
  | 11 => ⟨S1x128, .f32⟩
  | 12 => ⟨S1x128, .f32⟩
  | 13 => ⟨S8192x1024, .bf16⟩
  | 14 => ⟨S8192x128, .f32⟩
  | 15 => ⟨S8192x128, .f32⟩
  | 16 => ⟨S8192x128, .f32⟩
  | 17 => ⟨S8192x128, .f32⟩
  | 18 => ⟨S2x256x1024, .f32⟩
  | 19 => ⟨S2x1x1024, .f32⟩
  | 20 => ⟨S8x128, .f32⟩
  | _ => ⟨S8192x6400, .f32⟩

abbrev hbmTy (i : Nat) : BufTy := match i / 128 with
  | 0 => hbmTy0_0 i
  | 1 => hbmTy0_1 i
  | _ => ⟨S8192x6400, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S2x1x1024, .f32⟩
  | .local _ .vmem, ⟨15, _⟩ => ⟨S2x256x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .bf16⟩
  | .local _ .vmem, ⟨19, _⟩ => ⟨S128x1024, .bf16⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S2x256x1024, .f32⟩
  | .local _ .vmem, ⟨29, _⟩ => ⟨S2x1x1024, .f32⟩
  | .local _ .vmem, ⟨30, _⟩ => ⟨S8x128, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_17 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_20 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_21 : Ref sig .tc := ⟨.hbm, 121, rfl⟩
abbrev main_v93 : Ref sig .tc := ⟨.hbm, 122, rfl⟩
abbrev main_v94 : Ref sig .tc := ⟨.hbm, 123, rfl⟩
abbrev main_c_22 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst : Ref sig .tc := ⟨.hbm, 130, rfl⟩
abbrev main_call0_v0 : Ref sig .tc := ⟨.hbm, 131, rfl⟩
abbrev main_call0_v1 : Ref sig .tc := ⟨.hbm, 132, rfl⟩
abbrev main_call0_v2 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107_0 : Ref sig .tc := ⟨.hbm, 141, rfl⟩
abbrev main_v107_1 : Ref sig .tc := ⟨.hbm, 142, rfl⟩
abbrev main_v107_2 : Ref sig .tc := ⟨.hbm, 143, rfl⟩
abbrev main_v107_3 : Ref sig .tc := ⟨.hbm, 144, rfl⟩
abbrev main_v107_4 : Ref sig .tc := ⟨.hbm, 145, rfl⟩
abbrev main_v107_5 : Ref sig .tc := ⟨.hbm, 146, rfl⟩
abbrev main_v107_6 : Ref sig .tc := ⟨.hbm, 147, rfl⟩
abbrev main_v107_7 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_5 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S8192x1024 : Shape := ⟨2, ![8192, 1024]⟩
abbrev S8192x128 : Shape := ⟨2, ![8192, 128]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S8320x128 : Shape := ⟨2, ![8320, 128]⟩
abbrev S2x64 : Shape := ⟨2, ![2, 64]⟩
abbrev S16x1 : Shape := ⟨2, ![16, 1]⟩
abbrev S16x128 : Shape := ⟨2, ![16, 128]⟩
abbrev S64x128x8x2x64 : Shape := ⟨5, ![64, 128, 8, 2, 64]⟩
abbrev S64x128x8x2 : Shape := ⟨4, ![64, 128, 8, 2]⟩
abbrev S64x128x8x2x1 : Shape := ⟨5, ![64, 128, 8, 2, 1]⟩
abbrev S1x1x1x2x64 : Shape := ⟨5, ![1, 1, 1, 2, 64]⟩
abbrev S64x128x2x8x64 : Shape := ⟨5, ![64, 128, 2, 8, 64]⟩
abbrev S64x128x2x64 : Shape := ⟨4, ![64, 128, 2, 64]⟩
abbrev S64x128x2 : Shape := ⟨3, ![64, 128, 2]⟩
abbrev S64x128x2x1 : Shape := ⟨4, ![64, 128, 2, 1]⟩
abbrev S1x1x2x64 : Shape := ⟨4, ![1, 1, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S64x16x128x256 : Shape := ⟨4, ![64, 16, 128, 256]⟩
abbrev S1x16x128x256 : Shape := ⟨4, ![1, 16, 128, 256]⟩
abbrev S64 : Shape := ⟨1, ![64]⟩
abbrev S64x1x1 : Shape := ⟨3, ![64, 1, 1]⟩
abbrev S1x128x1 : Shape := ⟨3, ![1, 128, 1]⟩
abbrev S64x128x1 : Shape := ⟨3, ![64, 128, 1]⟩
abbrev S1x1x256 : Shape := ⟨3, ![1, 1, 256]⟩
abbrev S64x1x256 : Shape := ⟨3, ![64, 1, 256]⟩
abbrev S64x128x256 : Shape := ⟨3, ![64, 128, 256]⟩
abbrev S64x1x128x256 : Shape := ⟨4, ![64, 1, 128, 256]⟩
abbrev S64x16x128 : Shape := ⟨3, ![64, 16, 128]⟩
abbrev S64x16x128x1 : Shape := ⟨4, ![64, 16, 128, 1]⟩
abbrev S64x16x128x257 : Shape := ⟨4, ![64, 16, 128, 257]⟩
abbrev S64x2x64x8x128 : Shape := ⟨5, ![64, 2, 64, 8, 128]⟩
abbrev S64x2x64x256 : Shape := ⟨4, ![64, 2, 64, 256]⟩
abbrev S64x2x128x8x64 : Shape := ⟨5, ![64, 2, 128, 8, 64]⟩
abbrev S64x2x256x64 : Shape := ⟨4, ![64, 2, 256, 64]⟩
abbrev S2x8x128x256 : Shape := ⟨4, ![2, 8, 128, 256]⟩
abbrev S2x256x8x128 : Shape := ⟨4, ![2, 256, 8, 128]⟩
abbrev S2x256x1024 : Shape := ⟨3, ![2, 256, 1024]⟩
abbrev S2x1x1024 : Shape := ⟨3, ![2, 1, 1024]⟩
abbrev S1x128 : Shape := ⟨2, ![1, 128]⟩
abbrev S6x128 : Shape := ⟨2, ![6, 128]⟩
abbrev S8x128 : Shape := ⟨2, ![8, 128]⟩

abbrev nBuf : Space → Nat
  | .hbm => 433
  | .vmem => 0
  | .smem => 0
  | _ => 0

abbrev hbmTy0_0 (i : Nat) : BufTy := match i % 128 with
  | 0 => ⟨S8192x6400, .f32⟩
  | 1 => ⟨S1x64, .f32⟩
  | 2 => ⟨S1x64, .f32⟩
  | 3 => ⟨S1x16, .f32⟩
  | 4 => ⟨S32x16, .f32⟩
  | 5 => ⟨S8192x1024, .f32⟩
  | 6 => ⟨S8192x1024, .f32⟩
  | 7 => ⟨S8192x128, .f32⟩
  | 8 => ⟨S8192x128, .f32⟩
  | 9 => ⟨S128, .i32⟩
  | 10 => ⟨S128x1, .i32⟩
  | 11 => ⟨S_, .i32⟩
  | 12 => ⟨S128x1, .i32⟩
  | 13 => ⟨S128x1, .i32⟩
  | 14 => ⟨S256, .i32⟩
  | 15 => ⟨S1x256, .i32⟩
  | 16 => ⟨S128x256, .i32⟩
  | 17 => ⟨S128x256, .i32⟩
  | 18 => ⟨S128x256, .i32⟩
  | 19 => ⟨S_, .i32⟩
  | 20 => ⟨S128x256, .i32⟩
  | 21 => ⟨S128x256, .i32⟩
  | 22 => ⟨S_, .i32⟩
  | 23 => ⟨S128x256, .i32⟩
  | 24 => ⟨S128x256, .i32⟩
  | 25 => ⟨S_, .i32⟩
  | 26 => ⟨S128x256, .i32⟩
  | 27 => ⟨S128x256, .i1⟩
  | 28 => ⟨S128x256, .i32⟩
  | 29 => ⟨S_, .i32⟩
  | 30 => ⟨S128x256, .i32⟩
  | 31 => ⟨S128x256, .i32⟩
  | 32 => ⟨S_, .i32⟩
  | 33 => ⟨S128x256, .i32⟩
  | 34 => ⟨S128x256, .i1⟩
  | 35 => ⟨S128x256, .i32⟩
  | 36 => ⟨S128x256, .i32⟩
  | 37 => ⟨S_, .i32⟩
  | 38 => ⟨S128x256, .i32⟩
  | 39 => ⟨S128x256, .i1⟩
  | 40 => ⟨S128x256, .i32⟩
  | 41 => ⟨S128x256, .i32⟩
  | 42 => ⟨S_, .i32⟩
  | 43 => ⟨S128x256, .i32⟩
  | 44 => ⟨S128x256, .i1⟩
  | 45 => ⟨S128x256, .i32⟩
  | 46 => ⟨S128x256, .i32⟩
  | 47 => ⟨S_, .i32⟩
  | 48 => ⟨S128x256, .i32⟩
  | 49 => ⟨S128x256, .i1⟩
  | 50 => ⟨S128x256, .i32⟩
  | 51 => ⟨S128x256, .i32⟩
  | 52 => ⟨S_, .i32⟩
  | 53 => ⟨S128x256, .i32⟩
  | 54 => ⟨S128x256, .i1⟩
  | 55 => ⟨S128x256, .i32⟩
  | 56 => ⟨S128x256, .i32⟩
  | 57 => ⟨S_, .i32⟩
  | 58 => ⟨S128x256, .i32⟩
  | 59 => ⟨S128x256, .i1⟩
  | 60 => ⟨S128x256, .i32⟩
  | 61 => ⟨S128x256, .i32⟩
  | 62 => ⟨S_, .i32⟩
  | 63 => ⟨S128x256, .i32⟩
  | 64 => ⟨S128x256, .i1⟩
  | 65 => ⟨S128x256, .i32⟩
  | 66 => ⟨S128x256, .i32⟩
  | 67 => ⟨S_, .i32⟩
  | 68 => ⟨S128x256, .i32⟩
  | 69 => ⟨S128x256, .i1⟩
  | 70 => ⟨S128x256, .i32⟩
  | 71 => ⟨S128x256, .i32⟩
  | 72 => ⟨S_, .i32⟩
  | 73 => ⟨S128x256, .i32⟩
  | 74 => ⟨S128x256, .i1⟩
  | 75 => ⟨S128x256, .i32⟩
  | 76 => ⟨S128x256, .i32⟩
  | 77 => ⟨S_, .i32⟩
  | 78 => ⟨S128x256, .i32⟩
  | 79 => ⟨S128x256, .i1⟩
  | 80 => ⟨S128x256, .i32⟩
  | 81 => ⟨S128x256, .i32⟩
  | 82 => ⟨S_, .i32⟩
  | 83 => ⟨S128x256, .i32⟩
  | 84 => ⟨S128x256, .i1⟩
  | 85 => ⟨S128x256, .i32⟩
  | 86 => ⟨S128x256, .i32⟩
  | 87 => ⟨S_, .i32⟩
  | 88 => ⟨S128x256, .i32⟩
  | 89 => ⟨S128x256, .i1⟩
  | 90 => ⟨S128x256, .i32⟩
  | 91 => ⟨S128x256, .i32⟩
  | 92 => ⟨S_, .i32⟩
  | 93 => ⟨S128x256, .i32⟩
  | 94 => ⟨S128x256, .i1⟩
  | 95 => ⟨S128x256, .i32⟩
  | 96 => ⟨S128x256, .i32⟩
  | 97 => ⟨S_, .i32⟩
  | 98 => ⟨S128x256, .i32⟩
  | 99 => ⟨S128x256, .i1⟩
  | 100 => ⟨S128x256, .i32⟩
  | 101 => ⟨S128x256, .i32⟩
  | 102 => ⟨S128x256, .i32⟩
  | 103 => ⟨S_, .i32⟩
  | 104 => ⟨S128x256, .i32⟩
  | 105 => ⟨S128x256, .i1⟩
  | 106 => ⟨S_, .i32⟩
  | 107 => ⟨S128x256, .i32⟩
  | 108 => ⟨S128x256, .i32⟩
  | 109 => ⟨S128x256, .i32⟩
  | 110 => ⟨S128x256x1, .i32⟩
  | 111 => ⟨S128x256x16, .f32⟩
  | 112 => ⟨S16x128x256, .f32⟩
  | 113 => ⟨S_, .i32⟩
  | 114 => ⟨S_, .f32⟩
  | 115 => ⟨S8320x128, .f32⟩
  | 116 => ⟨S8192x128, .f32⟩
  | 117 => ⟨S_, .i32⟩
  | 118 => ⟨S_, .f32⟩
  | 119 => ⟨S8320x128, .f32⟩
  | 120 => ⟨S8192x128, .f32⟩
  | 121 => ⟨S2x64, .f32⟩
  | 122 => ⟨S2x64, .f32⟩
  | 123 => ⟨S16x1, .f32⟩
  | 124 => ⟨S16x128, .f32⟩
  | 125 => ⟨S64x128x8x2x64, .f32⟩
  | 126 => ⟨S64x128x8x2x64, .f32⟩
  | 127 => ⟨S_, .f32⟩
  | _ => ⟨S8192x6400, .f32⟩

abbrev hbmTy0_1 (i : Nat) : BufTy := match i % 128 with
  | 0 => ⟨S64x128x8x2, .f32⟩
  | 1 => ⟨S64x128x8x2x1, .f32⟩
  | 2 => ⟨S_, .f32⟩
  | 3 => ⟨S64x128x8x2x1, .f32⟩
  | 4 => ⟨S64x128x8x2x1, .f32⟩
  | 5 => ⟨S_, .f32⟩
  | 6 => ⟨S64x128x8x2x1, .f32⟩
  | 7 => ⟨S64x128x8x2x1, .f32⟩
  | 8 => ⟨S64x128x8x2x1, .f32⟩
  | 9 => ⟨S64x128x8x2x1, .f32⟩
  | 10 => ⟨S_, .f32⟩
  | 11 => ⟨S64x128x8x2x1, .f32⟩
  | 12 => ⟨S64x128x8x2x1, .f32⟩
  | 13 => ⟨S64x128x8x2x64, .f32⟩
  | 14 => ⟨S64x128x8x2x64, .f32⟩
  | 15 => ⟨S1x1x1x2x64, .f32⟩
  | 16 => ⟨S64x128x8x2x64, .f32⟩
  | 17 => ⟨S64x128x8x2x64, .f32⟩
  | 18 => ⟨S64x128x2x8x64, .f32⟩
  | 19 => ⟨S64x128x2x64, .f32⟩
  | 20 => ⟨S64x128x2x64, .f32⟩
  | 21 => ⟨S_, .f32⟩
  | 22 => ⟨S64x128x2, .f32⟩
  | 23 => ⟨S64x128x2x1, .f32⟩
  | 24 => ⟨S_, .f32⟩
  | 25 => ⟨S64x128x2x1, .f32⟩
  | 26 => ⟨S64x128x2x1, .f32⟩
  | 27 => ⟨S_, .f32⟩
  | 28 => ⟨S64x128x2x1, .f32⟩
  | 29 => ⟨S64x128x2x1, .f32⟩
  | 30 => ⟨S64x128x2x1, .f32⟩
  | 31 => ⟨S64x128x2x1, .f32⟩
  | 32 => ⟨S_, .f32⟩
  | 33 => ⟨S64x128x2x1, .f32⟩
  | 34 => ⟨S64x128x2x1, .f32⟩
  | 35 => ⟨S64x128x2x64, .f32⟩
  | 36 => ⟨S64x128x2x64, .f32⟩
  | 37 => ⟨S1x1x2x64, .f32⟩
  | 38 => ⟨S64x128x2x64, .f32⟩
  | 39 => ⟨S64x128x2x64, .f32⟩
  | 40 => ⟨S64x128x2x64, .f32⟩
  | 41 => ⟨S64x128x2x64, .f32⟩
  | 42 => ⟨S_, .f32⟩
  | 43 => ⟨S64x128x2, .f32⟩
  | 44 => ⟨S64x128x2x1, .f32⟩
  | 45 => ⟨S_, .f32⟩
  | 46 => ⟨S64x128x2x1, .f32⟩
  | 47 => ⟨S64x128x2x1, .f32⟩
  | 48 => ⟨S_, .f32⟩
  | 49 => ⟨S64x128x2x1, .f32⟩
  | 50 => ⟨S64x128x2x1, .f32⟩
  | 51 => ⟨S64x128x2x1, .f32⟩
  | 52 => ⟨S64x128x2x1, .f32⟩
  | 53 => ⟨S_, .f32⟩
  | 54 => ⟨S64x128x2x1, .f32⟩
  | 55 => ⟨S64x128x2x1, .f32⟩
  | 56 => ⟨S64x128x2x64, .f32⟩
  | 57 => ⟨S64x128x2x64, .f32⟩
  | 58 => ⟨S1x1x2x64, .f32⟩
  | 59 => ⟨S64x128x2x64, .f32⟩
  | 60 => ⟨S64x128x2x64, .f32⟩
  | 61 => ⟨S64x256x2x64, .f32⟩
  | 62 => ⟨S64x128x2x64, .f32⟩
  | 63 => ⟨S64x128x2x64, .f32⟩
  | 64 => ⟨S64x256x2x64, .f32⟩
  | 65 => ⟨S64x2x256x128x8, .f32⟩
  | 66 => ⟨S64x2x8x128x256, .f32⟩
  | 67 => ⟨S64x16x128x256, .f32⟩
  | 68 => ⟨S_, .f32⟩
  | 69 => ⟨S64x16x128x256, .f32⟩
  | 70 => ⟨S64x16x128x256, .f32⟩
  | 71 => ⟨S1x16x128x256, .f32⟩
  | 72 => ⟨S64x16x128x256, .f32⟩
  | 73 => ⟨S64x16x128x256, .f32⟩
  | 74 => ⟨S64, .i32⟩
  | 75 => ⟨S64x1x1, .i32⟩
  | 76 => ⟨S_, .i32⟩
  | 77 => ⟨S64x1x1, .i32⟩
  | 78 => ⟨S64x1x1, .i32⟩
  | 79 => ⟨S128, .i32⟩
  | 80 => ⟨S1x128x1, .i32⟩
  | 81 => ⟨S64x128x1, .i32⟩
  | 82 => ⟨S64x128x1, .i32⟩
  | 83 => ⟨S64x128x1, .i32⟩
  | 84 => ⟨S_, .i32⟩
  | 85 => ⟨S64x1x1, .i32⟩
  | 86 => ⟨S64x1x1, .i32⟩
  | 87 => ⟨S_, .i32⟩
  | 88 => ⟨S64x1x1, .i32⟩
  | 89 => ⟨S64x1x1, .i32⟩
  | 90 => ⟨S256, .i32⟩
  | 91 => ⟨S1x1x256, .i32⟩
  | 92 => ⟨S64x1x256, .i32⟩
  | 93 => ⟨S64x1x256, .i32⟩
  | 94 => ⟨S64x1x256, .i32⟩
  | 95 => ⟨S64x128x256, .i32⟩
  | 96 => ⟨S64x128x256, .i32⟩
  | 97 => ⟨S64x128x256, .i32⟩
  | 98 => ⟨S_, .i32⟩
  | 99 => ⟨S64x128x256, .i32⟩
  | 100 => ⟨S64x128x256, .i1⟩
  | 101 => ⟨S_, .i32⟩
  | 102 => ⟨S64x128x256, .i32⟩
  | 103 => ⟨S64x128x256, .i1⟩
  | 104 => ⟨S64x128x256, .i1⟩
  | 105 => ⟨S_, .i32⟩
  | 106 => ⟨S64x1x256, .i32⟩
  | 107 => ⟨S64x1x256, .i1⟩
  | 108 => ⟨S64x128x256, .i1⟩
  | 109 => ⟨S64x128x256, .i1⟩
  | 110 => ⟨S64x1x128x256, .i1⟩
  | 111 => ⟨S_, .f32⟩
  | 112 => ⟨S_, .f32⟩
  | 113 => ⟨S64x16x128x256, .i1⟩
  | 114 => ⟨S64x16x128x256, .f32⟩
  | 115 => ⟨S64x16x128x256, .f32⟩
  | 116 => ⟨S_, .f32⟩
  | 117 => ⟨S64x16x128x256, .f32⟩
  | 118 => ⟨S64x16x128, .f32⟩
  | 119 => ⟨S64x16x128x1, .f32⟩
  | 120 => ⟨S64x16x128x257, .f32⟩
  | 121 => ⟨S_, .f32⟩
  | 122 => ⟨S64x16x128, .f32⟩
  | 123 => ⟨S64x16x128x1, .f32⟩
  | 124 => ⟨S64x16x128x257, .f32⟩
  | 125 => ⟨S64x16x128x257, .i1⟩
  | 126 => ⟨S64x16x128x257, .f32⟩
  | 127 => ⟨S_, .f32⟩
  | _ => ⟨S8192x6400, .f32⟩

abbrev hbmTy0_2 (i : Nat) : BufTy := match i % 128 with
  | 0 => ⟨S64x16x128, .f32⟩
  | 1 => ⟨S_, .f32⟩
  | 2 => ⟨S64x16x128, .f32⟩
  | 3 => ⟨S64x16x128, .f32⟩
  | 4 => ⟨S_, .f32⟩
  | 5 => ⟨S64x16x128, .f32⟩
  | 6 => ⟨S64x16x128, .i1⟩
  | 7 => ⟨S_, .f32⟩
  | 8 => ⟨S64x16x128, .f32⟩
  | 9 => ⟨S64x16x128, .i1⟩
  | 10 => ⟨S_, .f32⟩
  | 11 => ⟨S64x16x128, .f32⟩
  | 12 => ⟨S_, .f32⟩
  | 13 => ⟨S64x16x128, .f32⟩
  | 14 => ⟨S_, .f32⟩
  | 15 => ⟨S64x16x128, .f32⟩
  | 16 => ⟨S64x16x128, .f32⟩
  | 17 => ⟨S64x16x128, .f32⟩
  | 18 => ⟨S64x16x128x1, .f32⟩
  | 19 => ⟨S64x16x128x257, .f32⟩
  | 20 => ⟨S64x16x128x257, .f32⟩
  | 21 => ⟨S64x16x128x257, .f32⟩
  | 22 => ⟨S_, .f32⟩
  | 23 => ⟨S64x16x128, .f32⟩
  | 24 => ⟨S64x16x128x1, .f32⟩
  | 25 => ⟨S64x16x128x257, .f32⟩
  | 26 => ⟨S64x16x128x257, .f32⟩
  | 27 => ⟨S64x16x128x1, .f32⟩
  | 28 => ⟨S_, .f32⟩
  | 29 => ⟨S64x16x128x1, .f32⟩
  | 30 => ⟨S64x16x128x1, .f32⟩
  | 31 => ⟨S64x16x128x256, .f32⟩
  | 32 => ⟨S64x2x8x128x256, .f32⟩
  | 33 => ⟨S64x2x64x8x128, .f32⟩
  | 34 => ⟨S64x128x2x8x64, .f32⟩
  | 35 => ⟨S8192x1024, .f32⟩
  | 36 => ⟨S64x128x2x8x64, .f32⟩
  | 37 => ⟨S64x2x64x8x128, .f32⟩
  | 38 => ⟨S64x2x8x128x256, .f32⟩
  | 39 => ⟨S64x2x64x256, .f32⟩
  | 40 => ⟨S64x256x2x64, .f32⟩
  | 41 => ⟨S64x16x128x256, .f32⟩
  | 42 => ⟨S_, .f32⟩
  | 43 => ⟨S64x16x128x257, .f32⟩
  | 44 => ⟨S64x16x128x257, .f32⟩
  | 45 => ⟨S64x16x128x257, .f32⟩
  | 46 => ⟨S64x16x128x257, .f32⟩
  | 47 => ⟨S_, .f32⟩
  | 48 => ⟨S64x16x128, .f32⟩
  | 49 => ⟨S64x16x128x1, .f32⟩
  | 50 => ⟨S64x16x128x1, .f32⟩
  | 51 => ⟨S64x16x128x257, .f32⟩
  | 52 => ⟨S64x16x128x257, .f32⟩
  | 53 => ⟨S_, .f32⟩
  | 54 => ⟨S64x16x128, .f32⟩
  | 55 => ⟨S64x16x128x257, .f32⟩
  | 56 => ⟨S64x16x128x257, .f32⟩
  | 57 => ⟨S64x16x128x257, .f32⟩
  | 58 => ⟨S64x16x128x256, .f32⟩
  | 59 => ⟨S64x16x128x1, .f32⟩
  | 60 => ⟨S_, .f32⟩
  | 61 => ⟨S64x16x128, .f32⟩
  | 62 => ⟨S_, .f32⟩
  | 63 => ⟨S16x128, .f32⟩
  | 64 => ⟨S_, .f32⟩
  | 65 => ⟨S64x16x128x256, .f32⟩
  | 66 => ⟨S64x16x128x256, .f32⟩
  | 67 => ⟨S_, .f32⟩
  | 68 => ⟨S16x128x256, .f32⟩
  | 69 => ⟨S1x16x128x256, .f32⟩
  | 70 => ⟨S_, .f32⟩
  | 71 => ⟨S16x128x256, .f32⟩
  | 72 => ⟨S_, .f32⟩
  | 73 => ⟨S64x16x128x256, .f32⟩
  | 74 => ⟨S64x16x128x256, .f32⟩
  | 75 => ⟨S64x2x8x128x256, .f32⟩
  | 76 => ⟨S64x2x256x128x8, .f32⟩
  | 77 => ⟨S64x2x128x8x64, .f32⟩
  | 78 => ⟨S64x128x2x8x64, .f32⟩
  | 79 => ⟨S64x2x256x64, .f32⟩
  | 80 => ⟨S64x256x2x64, .f32⟩
  | 81 => ⟨S64x128x2x64, .f32⟩
  | 82 => ⟨S64x128x2x64, .f32⟩
  | 83 => ⟨S8192x128, .f32⟩
  | 84 => ⟨S8192x128, .f32⟩
  | 85 => ⟨S64x128x2x64, .f32⟩
  | 86 => ⟨S64x128x2x64, .f32⟩
  | 87 => ⟨S64x128x2x64, .f32⟩
  | 88 => ⟨S_, .f32⟩
  | 89 => ⟨S2x64, .f32⟩
  | 90 => ⟨S1x1x2x64, .f32⟩
  | 91 => ⟨S64x128x2x64, .f32⟩
  | 92 => ⟨S64x128x2x64, .f32⟩
  | 93 => ⟨S_, .f32⟩
  | 94 => ⟨S2x64, .f32⟩
  | 95 => ⟨S64x128x2x64, .f32⟩
  | 96 => ⟨S_, .f32⟩
  | 97 => ⟨S64x128x2, .f32⟩
  | 98 => ⟨S64x128x2x1, .f32⟩
  | 99 => ⟨S64x128x2x64, .f32⟩
  | 100 => ⟨S64x128x2x64, .f32⟩
  | 101 => ⟨S64x128x2x1, .f32⟩
  | 102 => ⟨S_, .f32⟩
  | 103 => ⟨S64x128x2x1, .f32⟩
  | 104 => ⟨S64x128x2x1, .f32⟩
  | 105 => ⟨S_, .f32⟩
  | 106 => ⟨S64x128x2, .f32⟩
  | 107 => ⟨S64x128x2x64, .f32⟩
  | 108 => ⟨S64x128x2x64, .f32⟩
  | 109 => ⟨S64x128x2x64, .f32⟩
  | 110 => ⟨S64x128x2x64, .f32⟩
  | 111 => ⟨S64x128x2x64, .f32⟩
  | 112 => ⟨S8192x128, .f32⟩
  | 113 => ⟨S64x128x2x64, .f32⟩
  | 114 => ⟨S_, .f32⟩
  | 115 => ⟨S2x64, .f32⟩
  | 116 => ⟨S1x1x2x64, .f32⟩
  | 117 => ⟨S64x128x2x64, .f32⟩
  | 118 => ⟨S64x128x2x64, .f32⟩
  | 119 => ⟨S_, .f32⟩
  | 120 => ⟨S2x64, .f32⟩
  | 121 => ⟨S2x64, .f32⟩
  | 122 => ⟨S64x128x2x64, .f32⟩
  | 123 => ⟨S_, .f32⟩
  | 124 => ⟨S64x128x2, .f32⟩
  | 125 => ⟨S64x128x2x1, .f32⟩
  | 126 => ⟨S64x128x2x64, .f32⟩
  | 127 => ⟨S64x128x2x64, .f32⟩
  | _ => ⟨S8192x6400, .f32⟩

abbrev hbmTy0_3 (i : Nat) : BufTy := match i % 128 with
  | 0 => ⟨S64x128x2x1, .f32⟩
  | 1 => ⟨S_, .f32⟩
  | 2 => ⟨S64x128x2x1, .f32⟩
  | 3 => ⟨S64x128x2x1, .f32⟩
  | 4 => ⟨S_, .f32⟩
  | 5 => ⟨S64x128x2, .f32⟩
  | 6 => ⟨S64x128x2x64, .f32⟩
  | 7 => ⟨S64x128x2x64, .f32⟩
  | 8 => ⟨S64x128x2x64, .f32⟩
  | 9 => ⟨S64x128x2x64, .f32⟩
  | 10 => ⟨S64x128x2x64, .f32⟩
  | 11 => ⟨S8192x128, .f32⟩
  | 12 => ⟨S64x128x8x2x64, .f32⟩
  | 13 => ⟨S64x128x8x2x64, .f32⟩
  | 14 => ⟨S_, .f32⟩
  | 15 => ⟨S2x64, .f32⟩
  | 16 => ⟨S1x1x1x2x64, .f32⟩
  | 17 => ⟨S64x128x8x2x64, .f32⟩
  | 18 => ⟨S64x128x8x2x64, .f32⟩
  | 19 => ⟨S_, .f32⟩
  | 20 => ⟨S2x64, .f32⟩
  | 21 => ⟨S64x128x8x2x64, .f32⟩
  | 22 => ⟨S_, .f32⟩
  | 23 => ⟨S64x128x8x2, .f32⟩
  | 24 => ⟨S64x128x8x2x1, .f32⟩
  | 25 => ⟨S64x128x8x2x64, .f32⟩
  | 26 => ⟨S64x128x8x2x64, .f32⟩
  | 27 => ⟨S64x128x8x2x1, .f32⟩
  | 28 => ⟨S_, .f32⟩
  | 29 => ⟨S64x128x8x2x1, .f32⟩
  | 30 => ⟨S64x128x8x2x1, .f32⟩
  | 31 => ⟨S_, .f32⟩
  | 32 => ⟨S64x128x8x2, .f32⟩
  | 33 => ⟨S64x128x8x2x64, .f32⟩
  | 34 => ⟨S64x128x8x2x64, .f32⟩
  | 35 => ⟨S64x128x8x2x64, .f32⟩
  | 36 => ⟨S64x128x8x2x64, .f32⟩
  | 37 => ⟨S64x128x8x2x64, .f32⟩
  | 38 => ⟨S8192x1024, .f32⟩
  | 39 => ⟨S8192x1024, .bf16⟩
  | 40 => ⟨S2x8x128x256, .f32⟩
  | 41 => ⟨S2x256x8x128, .f32⟩
  | 42 => ⟨S2x256x1024, .f32⟩
  | 43 => ⟨S2x1x1024, .f32⟩
  | 44 => ⟨S1x128, .f32⟩
  | 45 => ⟨S1x128, .f32⟩
  | 46 => ⟨S_, .f32⟩
  | 47 => ⟨S6x128, .f32⟩
  | 48 => ⟨S8x128, .f32⟩
  | _ => ⟨S8192x6400, .f32⟩

abbrev hbmTy (i : Nat) : BufTy := match i / 128 with
  | 0 => hbmTy0_0 i
  | 1 => hbmTy0_1 i
  | 2 => hbmTy0_2 i
  | 3 => hbmTy0_3 i
  | _ => ⟨S8192x6400, .f32⟩

abbrev bufTy : (tb : Table) → Fin (tcTables nBuf tb) → BufTy
  | .hbm, ⟨i, _⟩ => hbmTy i
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_18 : Ref sig .tc := ⟨.hbm, 103, rfl⟩
abbrev main_v78 : Ref sig .tc := ⟨.hbm, 104, rfl⟩
abbrev main_v79 : Ref sig .tc := ⟨.hbm, 105, rfl⟩
abbrev main_c_19 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_20 : Ref sig .tc := ⟨.hbm, 113, rfl⟩
abbrev main_call0_v0 : Ref sig .tc := ⟨.hbm, 114, rfl⟩
abbrev main_v86 : Ref sig .tc := ⟨.hbm, 115, rfl⟩
abbrev main_v87 : Ref sig .tc := ⟨.hbm, 116, rfl⟩
abbrev main_c_21 : Ref sig .tc := ⟨.hbm, 117, rfl⟩
abbrev main_call1_v0 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst : Ref sig .tc := ⟨.hbm, 127, rfl⟩
abbrev main_v96 : Ref sig .tc := ⟨.hbm, 128, rfl⟩
abbrev main_v97 : Ref sig .tc := ⟨.hbm, 129, rfl⟩
abbrev main_cst_22 : Ref sig .tc := ⟨.hbm, 130, rfl⟩
abbrev main_v98 : Ref sig .tc := ⟨.hbm, 131, rfl⟩
abbrev main_v99 : Ref sig .tc := ⟨.hbm, 132, rfl⟩
abbrev main_cst_23 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_24 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_25 : Ref sig .tc := ⟨.hbm, 149, rfl⟩
abbrev main_v114 : Ref sig .tc := ⟨.hbm, 150, rfl⟩
abbrev main_v115 : Ref sig .tc := ⟨.hbm, 151, rfl⟩
abbrev main_cst_26 : Ref sig .tc := ⟨.hbm, 152, rfl⟩
abbrev main_v116 : Ref sig .tc := ⟨.hbm, 153, rfl⟩
abbrev main_v117 : Ref sig .tc := ⟨.hbm, 154, rfl⟩
abbrev main_cst_27 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_28 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_29 : Ref sig .tc := ⟨.hbm, 170, rfl⟩
abbrev main_v131 : Ref sig .tc := ⟨.hbm, 171, rfl⟩
abbrev main_v132 : Ref sig .tc := ⟨.hbm, 172, rfl⟩
abbrev main_cst_30 : Ref sig .tc := ⟨.hbm, 173, rfl⟩
abbrev main_v133 : Ref sig .tc := ⟨.hbm, 174, rfl⟩
abbrev main_v134 : Ref sig .tc := ⟨.hbm, 175, rfl⟩
abbrev main_cst_31 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_32 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_33 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_c_34 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_c_35 : Ref sig .tc := ⟨.hbm, 212, rfl⟩
abbrev main_v167 : Ref sig .tc := ⟨.hbm, 213, rfl⟩
abbrev main_v168 : Ref sig .tc := ⟨.hbm, 214, rfl⟩
abbrev main_c_36 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_c_37 : Ref sig .tc := ⟨.hbm, 226, rfl⟩
abbrev main_v179 : Ref sig .tc := ⟨.hbm, 227, rfl⟩
abbrev main_v180 : Ref sig .tc := ⟨.hbm, 228, rfl⟩
abbrev main_c_38 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_c_39 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_cst_40 : Ref sig .tc := ⟨.hbm, 239, rfl⟩
abbrev main_call2_v0 : Ref sig .tc := ⟨.hbm, 240, rfl⟩
abbrev main_v189_1 : Ref sig .tc := ⟨.hbm, 241, rfl⟩
abbrev main_call2_v2 : Ref sig .tc := ⟨.hbm, 242, rfl⟩
abbrev main_v189_0 : Ref sig .tc := ⟨.hbm, 243, rfl⟩
abbrev main_call2_cst : Ref sig .tc := ⟨.hbm, 244, rfl⟩
abbrev main_v189_2 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_cst_41 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_42 : Ref sig .tc := ⟨.hbm, 255, rfl⟩
abbrev main_v198 : Ref sig .tc := ⟨.hbm, 256, rfl⟩
abbrev main_cst_43 : Ref sig .tc := ⟨.hbm, 257, rfl⟩
abbrev main_v199 : Ref sig .tc := ⟨.hbm, 258, rfl⟩
abbrev main_v200 : Ref sig .tc := ⟨.hbm, 259, rfl⟩
abbrev main_cst_44 : Ref sig .tc := ⟨.hbm, 260, rfl⟩
abbrev main_v201 : Ref sig .tc := ⟨.hbm, 261, rfl⟩
abbrev main_v202 : Ref sig .tc := ⟨.hbm, 262, rfl⟩
abbrev main_cst_45 : Ref sig .tc := ⟨.hbm, 263, rfl⟩
abbrev main_v203 : Ref sig .tc := ⟨.hbm, 264, rfl⟩
abbrev main_v204 : Ref sig .tc := ⟨.hbm, 265, rfl⟩
abbrev main_cst_46 : Ref sig .tc := ⟨.hbm, 266, rfl⟩
abbrev main_v205 : Ref sig .tc := ⟨.hbm, 267, rfl⟩
abbrev main_cst_47 : Ref sig .tc := ⟨.hbm, 268, rfl⟩
abbrev main_v206 : Ref sig .tc := ⟨.hbm, 269, rfl⟩
abbrev main_cst_48 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_cst_49 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_cst_50 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_cst_51 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_cst_52 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_cst_53 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_cst_54 : Ref sig .tc := ⟨.hbm, 316, rfl⟩
abbrev main_v247 : Ref sig .tc := ⟨.hbm, 317, rfl⟩
abbrev main_cst_55 : Ref sig .tc := ⟨.hbm, 318, rfl⟩
abbrev main_v248 : Ref sig .tc := ⟨.hbm, 319, rfl⟩
abbrev main_call3_cst : Ref sig .tc := ⟨.hbm, 320, rfl⟩
abbrev main_call3_v0 : Ref sig .tc := ⟨.hbm, 321, rfl⟩
abbrev main_v249 : Ref sig .tc := ⟨.hbm, 322, rfl⟩
abbrev main_cst_56 : Ref sig .tc := ⟨.hbm, 323, rfl⟩
abbrev main_v250 : Ref sig .tc := ⟨.hbm, 324, rfl⟩
abbrev main_v251 : Ref sig .tc := ⟨.hbm, 325, rfl⟩
abbrev main_cst_57 : Ref sig .tc := ⟨.hbm, 326, rfl⟩
abbrev main_v252 : Ref sig .tc := ⟨.hbm, 327, rfl⟩
abbrev main_cst_58 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_cst_59 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_cst_60 : Ref sig .tc := ⟨.hbm, 349, rfl⟩
abbrev main_v272 : Ref sig .tc := ⟨.hbm, 350, rfl⟩
abbrev main_v273 : Ref sig .tc := ⟨.hbm, 351, rfl⟩
abbrev main_cst_61 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_cst_62 : Ref sig .tc := ⟨.hbm, 358, rfl⟩
abbrev main_v279 : Ref sig .tc := ⟨.hbm, 359, rfl⟩
abbrev main_v280 : Ref sig .tc := ⟨.hbm, 360, rfl⟩
abbrev main_cst_63 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_cst_64 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_cst_65 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_cst_66 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_cst_67 : Ref sig .tc := ⟨.hbm, 385, rfl⟩
abbrev main_v301 : Ref sig .tc := ⟨.hbm, 386, rfl⟩
abbrev main_v302 : Ref sig .tc := ⟨.hbm, 387, rfl⟩
abbrev main_cst_68 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_cst_69 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_cst_70 : Ref sig .tc := ⟨.hbm, 403, rfl⟩
abbrev main_v316 : Ref sig .tc := ⟨.hbm, 404, rfl⟩
abbrev main_v317 : Ref sig .tc := ⟨.hbm, 405, rfl⟩
abbrev main_cst_71 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_cst_72 : Ref sig .tc := ⟨.hbm, 412, rfl⟩
abbrev main_v323 : Ref sig .tc := ⟨.hbm, 413, rfl⟩
abbrev main_v324 : Ref sig .tc := ⟨.hbm, 414, rfl⟩
abbrev main_cst_73 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_cst_74 : Ref sig .tc := ⟨.hbm, 430, rfl⟩
abbrev main_v339 : Ref sig .tc := ⟨.hbm, 431, rfl⟩
abbrev main_v340 : Ref sig .tc := ⟨.hbm, 432, rfl⟩

abbrev nD : Nat := 1
abbrev τ : Topo := Topo.v7x

variable {F : FTy → Type} [FloatOps F]

def κ : String → Option EReal := fun
  | "mask" => some ⊥
  | _ => none
-- ==== Kernel2.lean ====
abbrev S8192x2048 : Shape := ⟨2, ![8192, 2048]⟩
abbrev S2x8192x5632 : Shape := ⟨3, ![2, 8192, 5632]⟩
abbrev S4x2048x2816 : Shape := ⟨3, ![4, 2048, 2816]⟩
abbrev S4096x512 : Shape := ⟨2, ![4096, 512]⟩
abbrev S1x4096x1408 : Shape := ⟨3, ![1, 4096, 1408]⟩
abbrev S1x512x1408 : Shape := ⟨3, ![1, 512, 1408]⟩
abbrev S512x1408 : Shape := ⟨2, ![512, 1408]⟩
abbrev S4096x1408 : Shape := ⟨2, ![4096, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S1x8192x5632, .bf16⟩
  | .hbm, ⟨3, _⟩ => ⟨S8192x5632, .bf16⟩
  | .hbm, ⟨4, _⟩ => ⟨S1x8192x5632, .bf16⟩
  | .hbm, ⟨5, _⟩ => ⟨S8192x5632, .bf16⟩
  | .hbm, ⟨6, _⟩ => ⟨S8192x11264, .bf16⟩
  | .hbm, ⟨7, _⟩ => ⟨S8192x11264, .f32⟩
  | .hbm, ⟨8, _⟩ => ⟨S_, .f32⟩
  | .hbm, ⟨9, _⟩ => ⟨S2048x11264, .f32⟩
  | .hbm, ⟨10, _⟩ => ⟨S8192x2048, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | .hbm, ⟨15, _⟩ => ⟨S2048x4x2816, .bf16⟩
  | .hbm, ⟨16, _⟩ => ⟨S4x2048x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S2x8192x5632 : Shape := ⟨3, ![2, 8192, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S8192x2048 : Shape := ⟨2, ![8192, 2048]⟩
abbrev S1x1024x5632 : Shape := ⟨3, ![1, 1024, 5632]⟩
abbrev S2x512x2816 : Shape := ⟨3, ![2, 512, 2816]⟩
abbrev S1024x512 : Shape := ⟨2, ![1024, 512]⟩
abbrev S1x1024x2816 : Shape := ⟨3, ![1, 1024, 2816]⟩
abbrev S1024x2816 : Shape := ⟨2, ![1024, 2816]⟩
abbrev S1x512x2816 : Shape := ⟨3, ![1, 512, 2816]⟩
abbrev S512x2816 : Shape := ⟨2, ![512, 2816]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S8192x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S2x512x2816, .bf16⟩
  | .local _ .vmem, ⟨3, _⟩ => ⟨S2x512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_11 : BitVec 32 := 0#32
  let v16 : BitVec 1 := Scalar.cmpi .ne v15 c0_i32_11
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8192x5632 : Shape := ⟨3, ![2, 8192, 5632]⟩
abbrev S2048x11264 : Shape := ⟨2, ![2048, 11264]⟩
abbrev S1x8192x5632 : Shape := ⟨3, ![1, 8192, 5632]⟩
abbrev S8192x5632 : Shape := ⟨2, ![8192, 5632]⟩
abbrev S8192x11264 : Shape := ⟨2, ![8192, 11264]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .f32⟩
  | .hbm, ⟨2, _⟩ => ⟨S1x8192x5632, .bf16⟩
  | .hbm, ⟨3, _⟩ => ⟨S8192x5632, .bf16⟩
  | .hbm, ⟨4, _⟩ => ⟨S1x8192x5632, .bf16⟩
  | .hbm, ⟨5, _⟩ => ⟨S8192x5632, .bf16⟩
  | .hbm, ⟨6, _⟩ => ⟨S8192x11264, .bf16⟩
  | .hbm, ⟨7, _⟩ => ⟨S8192x11264, .f32⟩
  | .hbm, ⟨8, _⟩ => ⟨S_, .f32⟩
  | .hbm, ⟨9, _⟩ => ⟨S8192x2048, .f32⟩
  | .hbm, ⟨10, _⟩ => ⟨S2048x11264, .bf16⟩
  | .hbm, ⟨11, _⟩ => ⟨S2048x11264, .f32⟩
  | .hbm, ⟨12, _⟩ => ⟨S8192x11264, .f32⟩
  | .hbm, ⟨13, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x8192x5632 : Shape := ⟨3, ![2, 8192, 5632]⟩
abbrev S8192x5632 : Shape := ⟨2, ![8192, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S2x8192x5632, .bf16⟩
  | .hbm, ⟨6, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S1x8192x5632, .f32⟩
  | .hbm, ⟨7, _⟩ => ⟨S1x8192x5632, .f32⟩
  | .hbm, ⟨8, _⟩ => ⟨S2x8192x5632, .f32⟩
  | .hbm, ⟨9, _⟩ => ⟨S2x8192x5632, .bf16⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel6.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S5632x2048, .bf16⟩
  | .hbm, ⟨5, _⟩ => ⟨S8192x2048, .f32⟩
  | .hbm, ⟨6, _⟩ => ⟨S8192x2048, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x6400 : Shape := ⟨2, ![2048, 6400]⟩
abbrev S6400x2048 : Shape := ⟨2, ![6400, 2048]⟩
abbrev S8192x6400 : Shape := ⟨2, ![8192, 6400]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6400, .f32⟩
  | .hbm, ⟨2, _⟩ => ⟨S6400x2048, .f32⟩
  | .hbm, ⟨3, _⟩ => ⟨S6400x2048, .bf16⟩
  | .hbm, ⟨4, _⟩ => ⟨S8192x6400, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x6400 : Shape := ⟨2, ![2048, 6400]⟩
abbrev S8192x6400 : Shape := ⟨2, ![8192, 6400]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6400, .f32⟩
  | .hbm, ⟨2, _⟩ => ⟨S8192x2048, .f32⟩
  | .hbm, ⟨3, _⟩ => ⟨S8192x6400, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x6400 : Shape := ⟨2, ![8192, 6400]⟩
abbrev S8192x2048 : Shape := ⟨2, ![8192, 2048]⟩
abbrev S6400x2048 : Shape := ⟨2, ![6400, 2048]⟩
abbrev S4096x1280 : Shape := ⟨2, ![4096, 1280]⟩
abbrev S4096x512 : Shape := ⟨2, ![4096, 512]⟩
abbrev S1280x512 : Shape := ⟨2, ![1280, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x6400, .bf16⟩
  | .hbm, ⟨1, _⟩ => ⟨S8192x2048, .bf16⟩
  | .hbm, ⟨2, _⟩ => ⟨S6400x2048, .bf16⟩
  | .local _ .vmem, ⟨0, _⟩ => ⟨S4096x1280, .bf16⟩
  | .local _ .vmem, ⟨1, _⟩ => ⟨S4096x1280, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .bf16⟩
  | .local _ .vmem, ⟨5, _⟩ => ⟨S1280x512, .bf16⟩
  | .local _ .vmem, ⟨6, _⟩ => ⟨S1280x512, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x6400 : Shape := ⟨2, ![8192, 6400]⟩
abbrev S8192x2048 : Shape := ⟨2, ![8192, 2048]⟩
abbrev S_ : Shape := ⟨0, ![]⟩
abbrev S2048x6400 : Shape := ⟨2, ![2048, 6400]⟩
abbrev S6400x2048 : Shape := ⟨2, ![6400, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S8192x2048, .bf16⟩
  | .hbm, ⟨2, _⟩ => ⟨S_, .f32⟩
  | .hbm, ⟨3, _⟩ => ⟨S2048x6400, .f32⟩
  | .hbm, ⟨4, _⟩ => ⟨S8192x2048, .f32⟩
  | .hbm, ⟨5, _⟩ => ⟨S8192x6400, .f32⟩
  | .hbm, ⟨6, _⟩ => ⟨S8192x6400, .f32⟩
  | .hbm, ⟨7, _⟩ => ⟨S6400x2048, .f32⟩
  | .hbm, ⟨8, _⟩ => ⟨S2048x6400, .f32⟩
  | .hbm, ⟨9, _⟩ => ⟨S6400x2048, .f32⟩
  | .hbm, ⟨10, _⟩ => ⟨S6400x2048, .bf16⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x6400 : Shape := ⟨2, ![8192, 6400]⟩
abbrev S2048x6400 : Shape := ⟨2, ![2048, 6400]⟩
abbrev S6400x2048 : Shape := ⟨2, ![6400, 2048]⟩
abbrev S8192x2048 : Shape := ⟨2, ![8192, 2048]⟩
abbrev S1024x6400 : Shape := ⟨2, ![1024, 6400]⟩
abbrev S6400x512 : Shape := ⟨2, ![6400, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x6400, .bf16⟩
  | .hbm, ⟨1, _⟩ => ⟨S2048x6400, .f32⟩
  | .hbm, ⟨2, _⟩ => ⟨S6400x2048, .f32⟩
  | .hbm, ⟨3, _⟩ => ⟨S6400x2048, .bf16⟩
  | .hbm, ⟨4, _⟩ => ⟨S8192x2048, .f32⟩
  | .local _ .vmem, ⟨0, _⟩ => ⟨S1024x6400, .bf16⟩
  | .local _ .vmem, ⟨1, _⟩ => ⟨S1024x6400, .bf16⟩
  | .local _ .vmem, ⟨2, _⟩ => ⟨S6400x512, .bf16⟩
  | .local _ .vmem, ⟨3, _⟩ => ⟨S6400x512, .bf16⟩
  | .local _ .vmem, ⟨4, _⟩ => ⟨S1024x512, .f32⟩
  | .local _ .vmem, ⟨5, _⟩ => ⟨S1024x512, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S6400x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x6400 : Shape := ⟨2, ![8192, 6400]⟩
abbrev S2048x6400 : Shape := ⟨2, ![2048, 6400]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S2048x6400, .f32⟩
  | .hbm, ⟨2, _⟩ => ⟨S_, .f32⟩
  | .hbm, ⟨3, _⟩ => ⟨S8192x2048, .f32⟩
  | .hbm, ⟨4, _⟩ => ⟨S8192x6400, .f32⟩
  | .hbm, ⟨5, _⟩ => ⟨S8192x6400, .f32⟩
  | .hbm, ⟨6, _⟩ => ⟨S8192x2048, .f32⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.HostK.lean ====
/- What the kernel's host lines prepare: the gains twice over, the sinks' rows, and the table of offsets. -/
module
public import proofs.«01_k».proof.Proof.Gen.KernelIdeal.Value
public import proofs.«01_k».proof.Proof.Gen.ReferenceIdeal.Read
public import Idealize.ShloMosaic.Lib.Pointwise
public import Idealize.ShloMosaic.Lib.Pipeline.ValueKit
public import Idealize.ShloMosaic.Lib.Tactic
public import Idealize.ShloMosaic.Lib.StableHlo.RunRead
@[expose] public section
set_option maxRecDepth 65536

noncomputable section

namespace Cert.KernelIdeal.Att
open Cert.KernelIdeal Cert.KernelIdeal.Gen Idealize.ShloMosaic Idealize.ShloMosaic.TcCoe

variable (m : (ℓ : Loc nD τ sig) → Buf (Elt Ideal) ℓ) (c : Dev nD)

theorem V_gq : V m c main_v105 = concatenate S1x128 1 [⟨S1x64, m (c, main_arg1)⟩, ⟨S1x64, m (c, main_arg1)⟩] concatenates_S1x64_S1x64_S1x128_d1 := by
  dsimp only [V, List.flatten, hostOps0, hostOps0_1, hostOps0_2, List.append]
  after_reads_simp
  refine congrArg₂ (fun a b => concatenate S1x128 1 [⟨S1x64, a⟩, ⟨S1x64, b⟩] concatenates_S1x64_S1x64_S1x128_d1) ?_ ?_ <;> after_reads_simp

theorem V_gk : V m c main_v106 = concatenate S1x128 1 [⟨S1x64, m (c, main_arg2)⟩, ⟨S1x64, m (c, main_arg2)⟩] concatenates_S1x64_S1x64_S1x128_d1 := by
  dsimp only [V, List.flatten, hostOps0, hostOps0_1, hostOps0_2, List.append]
  after_reads_simp
  refine congrArg₂ (fun a b => concatenate S1x128 1 [⟨S1x64, a⟩, ⟨S1x64, b⟩] concatenates_S1x64_S1x64_S1x128_d1) ?_ ?_ <;> after_reads_simp

theorem V_sk : V m c main_v2 = shapeCast S2x1x1024 (broadcastInDim S2x1x8x128 ![0, 1, 2, 3] bcast_S2x1x8x1_S2x1x8x128_0_1_2_3
    (shapeCast S2x1x8x1 (m (c, main_arg3)) shapeCasts_S1x16_S2x1x8x1)) shapeCasts_S2x1x8x128_S2x1x1024 := by
  dsimp only [V, List.flatten, hostOps0, hostOps0_1, hostOps0_2, List.append]
  after_reads_simp
  rfl

/-- Which keys of a band a query sees: a distance from 0 up to but not including 128. -/
def inBand : IVec S128x256 1 :=
  let dist := subi (broadcastInDim S128x256 ![0, 1] bcast_S128x1_S128x256_0_1
      (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))
  andi (cmpi .sge dist (broadcastInDim S128x256 ![] bcast_S_S128x256 (constantI S_ 32 0#32)))
    (cmpi .slt dist (broadcastInDim S128x256 ![] bcast_S_S128x256 (constantI S_ 32 128#32)))

/-- The table of offsets as the kernel reads it, from the offsets `g` of every query and key of a band. -/
def table (g : FVec Ideal S128x256x16 .f32) : FVec Ideal S2x256x1024 .f32 :=
  shapeCast S2x256x1024 (transpose S2x256x8x128 [0, 3, 1, 2] (shapeCast S2x8x128x256 (transpose S16x128x256 [2, 0, 1]
    (select (broadcastInDim S128x256x16 ![0, 1, 2] bcast_S128x256x1_S128x256x16_0_1_2 (broadcastInDim S128x256x1 ![0, 1] bcast_S128x256_S128x256x1_0_1 inBand))
      g (broadcastInDim S128x256x16 ![] bcast_S_S128x256x16 (constant S_ .f32 0xFF800000#32)))
    transposes_S128x256x16_S16x128x256_2_0_1) shapeCasts_S16x128x256_S2x8x128x256) transposes_S2x8x128x256_S2x256x8x128_0_3_1_2)
    shapeCasts_S2x256x8x128_S2x256x1024

theorem V_bi : V m c main_v104 = table (Cert.ReferenceIdeal.Read.val_main_v84 (F := Ideal) (m (c, main_arg4))) := by
  dsimp only [V, List.flatten, hostOps0, hostOps0_1, hostOps0_2, List.append]
  after_reads_simp
  rfl

theorem inBand_apply (i : Fin 128) (j : Fin 256) : inBand (ix2 i j) = if i.val < j.val ∧ j.val ≤ i.val + 128 then 1#1 else 0#1 := by
  pointwise [inBand]
  have hi := i.isLt
  have hj := j.isLt
  have a : (BitVec.ofNat 32 i.val).toInt = i.val := by
    rw [BitVec.toInt_eq_toNat_cond, BitVec.toNat_ofNat]; omega
  have b : (BitVec.ofNat 32 j.val).toInt = j.val := by
    rw [BitVec.toInt_eq_toNat_cond, BitVec.toNat_ofNat]; omega
  have z : (0#32 : BitVec 32).toInt = 0 := rfl
  have o : (128#32 : BitVec 32).toInt = 128 := rfl
  have e : (IntOp.subi (IntOp.addi (128#32) (BitVec.ofNat 32 i.val)) (BitVec.ofNat 32 j.val) : BitVec 32).toInt
      = 128 + (i.val : Int) - j.val := by
    simp only [IntOp.subi, IntOp.addi, BitVec.toInt_sub, BitVec.toInt_add, a, b, o]
    simp only [Int.bmod_def]
    omega
  by_cases h : i.val < j.val ∧ j.val ≤ i.val + 128
  · rw [if_pos h]
    simp only [IntOp.andi, IntOp.cmpi, BitVec.sle, BitVec.slt, e, z, o]
    rw [decide_eq_true (by omega), decide_eq_true (by omega)]; rfl
  · rw [if_neg h]
    simp only [IntOp.andi, IntOp.cmpi, BitVec.sle, BitVec.slt, e, z, o]
    rcases Nat.lt_or_ge i.val j.val with h' | h'
    · rw [decide_eq_false (by omega)]; simp
    · rw [decide_eq_true (p := (0 : Int) ≤ _) (by omega), decide_eq_false (by omega)]; rfl

theorem table_apply (g : FVec Ideal S128x256x16 .f32) (h : Fin 2) (j : Fin 256) (r : Fin 1024) :
    table g (ix3 h j r) = if r.val % 128 < j.val ∧ j.val ≤ r.val % 128 + 128 then g (ix3 ⟨r.val % 128, by omega⟩ j ⟨h.val * 8 + r.val / 128, by omega⟩) else ⊥ := by
  pointwise [table]
  rw [inBand_apply]
  unfold Scalar.select
  by_cases h : r.val % 128 < j.val ∧ j.val ≤ r.val % 128 + 128
  · rw [if_pos h, if_pos h]; rfl
  · rw [if_neg h, if_neg h]
    show Ideal.ofBits .f32 4286578688#32 = ⊥
    simp [Ideal.ofBits, Ideal.ieee]

end Cert.KernelIdeal.Att
end
-- ==== Proof.Blocks.lean ====
/- What the blocks that a point stages hold, element by element, in terms of the arguments. -/
module
public import proofs.«01_k».proof.Proof.HostK
@[expose] public section
set_option maxRecDepth 65536

noncomputable section

namespace Cert.KernelIdeal.Att
open Cert.KernelIdeal Cert.KernelIdeal.Gen Idealize.ShloMosaic Idealize.ShloMosaic.TcCoe

variable (m : (ℓ : Loc nD τ sig) → Buf (Elt Ideal) ℓ) (c : Dev nD) (t : Fin cfg0.N)

theorem t_lt : t.val < 64 := lt_of_lt_of_eq t.isLt N_0

theorem blk2 (i l : Fin 128) : (iblk m c 2 t : Vec Ideal S128x128 .f32) (ix2 i l)
    = (m (c, main_arg0) : FVec Ideal S8192x6400 .f32) (ix2 ⟨(t.val - 1) * 128 + i.val, by have := t_lt t; omega⟩ ⟨2048 + l.val, by omega⟩) := by
  have e : ∀ t : Fin cfg0.N, win0_2.index t = ![t.val - 1, 16] := (by decide +kernel : ∀ t : Fin grid0.N, win0_2.index t = ![t.val - 1, 16])
  have ht := t_lt t
  blk_ext [iblk, V_main_arg0, e]
theorem blk3 (i l : Fin 128) : (iblk m c 3 t : Vec Ideal S128x128 .f32) (ix2 i l)
    = (m (c, main_arg0) : FVec Ideal S8192x6400 .f32) (ix2 ⟨t.val * 128 + i.val, by have := t_lt t; omega⟩ ⟨2048 + l.val, by omega⟩) := by
  have e : ∀ t : Fin cfg0.N, win0_3.index t = ![t.val, 16] := (by decide +kernel : ∀ t : Fin grid0.N, win0_3.index t = ![t.val, 16])
  have ht := t_lt t
  blk_ext [iblk, V_main_arg0, e]
theorem blk4 (i l : Fin 128) : (iblk m c 4 t : Vec Ideal S128x128 .f32) (ix2 i l)
    = (m (c, main_arg0) : FVec Ideal S8192x6400 .f32) (ix2 ⟨(t.val - 1) * 128 + i.val, by have := t_lt t; omega⟩ ⟨2176 + l.val, by omega⟩) := by
  have e : ∀ t : Fin cfg0.N, win0_4.index t = ![t.val - 1, 17] := (by decide +kernel : ∀ t : Fin grid0.N, win0_4.index t = ![t.val - 1, 17])
  have ht := t_lt t
  blk_ext [iblk, V_main_arg0, e]
theorem blk5 (i l : Fin 128) : (iblk m c 5 t : Vec Ideal S128x128 .f32) (ix2 i l)
    = (m (c, main_arg0) : FVec Ideal S8192x6400 .f32) (ix2 ⟨t.val * 128 + i.val, by have := t_lt t; omega⟩ ⟨2176 + l.val, by omega⟩) := by
  have e : ∀ t : Fin cfg0.N, win0_5.index t = ![t.val, 17] := (by decide +kernel : ∀ t : Fin grid0.N, win0_5.index t = ![t.val, 17])
  have ht := t_lt t
  blk_ext [iblk, V_main_arg0, e]
theorem blk10 (i : Fin 128) (l : Fin 1024) : (iblk m c 10 t : Vec Ideal S128x1024 .f32) (ix2 i l)
    = (m (c, main_arg5) : FVec Ideal S8192x1024 .f32) (ix2 ⟨t.val * 128 + i.val, by have := t_lt t; omega⟩ l) := by
  have e : ∀ t : Fin cfg0.N, win0_10.index t = ![t.val, 0] := (by decide +kernel : ∀ t : Fin grid0.N, win0_10.index t = ![t.val, 0])
  have ht := t_lt t
  blk_ext [iblk, V_main_arg5, e]

theorem blk0 (i : Fin 128) (l : Fin 512) : X0_0 m c t (ix2 i l)
    = (m (c, main_arg0) : FVec Ideal S8192x6400 .f32) (ix2 ⟨t.val * 128 + i.val, by have := t_lt t; omega⟩ ⟨1024 + l.val, by omega⟩) := by
  have e : ∀ t : Fin cfg0.N, win0_0.index t = ![t.val, 2] := (by decide +kernel : ∀ t : Fin grid0.N, win0_0.index t = ![t.val, 2])
  have ht := t_lt t
  unfold X0_0 Pipeline.Window.fill
  rw [dif_pos (moved0_0 t _)]
  blk_ext [iblk, V_main_arg0, e]
theorem blk1 (i : Fin 128) (l : Fin 512) : X0_1 m c t (ix2 i l)
    = (m (c, main_arg0) : FVec Ideal S8192x6400 .f32) (ix2 ⟨t.val * 128 + i.val, by have := t_lt t; omega⟩ ⟨1536 + l.val, by omega⟩) := by
  have e : ∀ t : Fin cfg0.N, win0_1.index t = ![t.val, 3] := (by decide +kernel : ∀ t : Fin grid0.N, win0_1.index t = ![t.val, 3])
  have ht := t_lt t
  unfold X0_1 Pipeline.Window.fill
  rw [dif_pos (moved0_1 t _)]
  blk_ext [iblk, V_main_arg0, e]

theorem blk6 : (iblk m c 6 t : Vec Ideal S1x128 .f32) = V m c main_v105 := by
  have e : ∀ t : Fin cfg0.N, win0_6.index t = ![0, 0] := (by decide +kernel : ∀ t : Fin grid0.N, win0_6.index t = ![0, 0])
  funext x
  blk_ext [iblk, e]
theorem blk7 : (iblk m c 7 t : Vec Ideal S1x128 .f32) = V m c main_v106 := by
  have e : ∀ t : Fin cfg0.N, win0_7.index t = ![0, 0] := (by decide +kernel : ∀ t : Fin grid0.N, win0_7.index t = ![0, 0])
  funext x
  blk_ext [iblk, e]
theorem blk8 : (iblk m c 8 t : Vec Ideal S2x1x1024 .f32) = V m c main_v2 := by
  have e : ∀ t : Fin cfg0.N, win0_8.index t = ![0, 0, 0] := (by decide +kernel : ∀ t : Fin grid0.N, win0_8.index t = ![0, 0, 0])
  funext x
  blk_ext [iblk, e]
theorem blk9 : (iblk m c 9 t : Vec Ideal S2x256x1024 .f32) = V m c main_v104 := by
  have e : ∀ t : Fin cfg0.N, win0_9.index t = ![0, 0, 0] := (by decide +kernel : ∀ t : Fin grid0.N, win0_9.index t = ![0, 0, 0])
  funext x
  blk_ext [iblk, e]

theorem gq_at (t : Fin 2) (d : Fin 64) : (V m c main_v105 : FVec Ideal S1x128 .f32) (ix2 0 ⟨t.val * 64 + d.val, by omega⟩)
    = (m (c, main_arg1) : FVec Ideal S1x64 .f32) (ix2 0 d) := by
  rw [V_gq]
  obtain rfl | rfl : t = 0 ∨ t = 1 := by omega
  all_goals pointwise
theorem sk_at (h : Fin 2) (r : Fin 1024) : (V m c main_v2 : FVec Ideal S2x1x1024 .f32) (ix3 h 0 r)
    = (m (c, main_arg3) : FVec Ideal S1x16 .f32) (ix2 0 ⟨h.val * 8 + r.val / 128, by omega⟩) := by
  rw [V_sk]
  pointwise
theorem gk_at (t : Fin 2) (d : Fin 64) : (V m c main_v106 : FVec Ideal S1x128 .f32) (ix2 0 ⟨t.val * 64 + d.val, by omega⟩)
    = (m (c, main_arg2) : FVec Ideal S1x64 .f32) (ix2 0 d) := by
  rw [V_gk]
  obtain rfl | rfl : t = 0 ∨ t = 1 := by omega
  all_goals pointwise
end Cert.KernelIdeal.Att
-- ==== Proof.Math.lean ====
module
public import Idealize.ShloMosaic.Lib.Pointwise
@[expose] public section

noncomputable section

namespace Cert.Attention
open Idealize.ShloMosaic

/-- Multiplying by a real that is not negative goes through a sum. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The reciprocal of a positive real. -/
theorem div_real {x : EReal} {s : ℝ} (hs : 0 < s) : Ideal.div x (s : EReal) = x * ((s⁻¹ : ℝ) : EReal) := by
  have : ((s : ℝ) : EReal) ≠ 0 := by exact_mod_cast hs.ne'
  unfold Ideal.div
  rw [if_neg this, EReal.coe_inv]

theorem exp_sub_real {x : EReal} (hx : x ≠ ⊤) (m : ℝ) : ∃ a : ℝ, 0 ≤ a ∧ Ideal.exp (x - (m : EReal)) = (a : EReal) := by
  induction x using EReal.rec with
  | bot => exact ⟨0, le_rfl, by rw [EReal.bot_sub]; rfl⟩
  | top => exact absurd rfl hx
  | coe x => exact ⟨Real.exp (x - m), (Real.exp_pos _).le, by rw [← EReal.coe_sub]; rfl⟩

theorem exp_sub_pos (x m : ℝ) : ∃ a : ℝ, 0 < a ∧ Ideal.exp ((x : EReal) - (m : EReal)) = (a : EReal) :=
  ⟨Real.exp (x - m), Real.exp_pos _, by rw [← EReal.coe_sub]; rfl⟩

section Column
variable {ι : Type*} [Fintype ι]

/-- One column of scores, in the order a softmax from weights takes them: the weights are reals, their sum is a positive real. -/
theorem score_eq (a : ι → ℝ) (s : ℝ) (hs : 0 < s) (D : ι → EReal) (j : ι) :
    (Ideal.div (D j) (s : EReal) + -(∑ k, D k * Ideal.div 1 ((s : EReal) * s) * (a k : EReal))) * (a j : EReal)
      = (a j : EReal) * Ideal.div 1 (s : EReal) * (D j - ∑ k, (a k : EReal) * Ideal.div 1 (s : EReal) * D k) := by
  have hss : (0 : ℝ) < s * s := mul_pos hs hs
  have hi : (0 : ℝ) ≤ s⁻¹ := (inv_pos.2 hs).le
  rw [← EReal.coe_mul]
  simp only [div_real hs, div_real hss, one_mul]
  have h1 : ∀ k, D k * (((s * s)⁻¹ : ℝ) : EReal) * (a k : EReal) = ((a k : EReal) * ((s⁻¹ : ℝ) : EReal) * D k) * ((s⁻¹ : ℝ) : EReal) := fun k => by
    rw [mul_assoc, ← EReal.coe_mul, ← EReal.coe_mul, mul_comm _ (D k), mul_assoc, ← EReal.coe_mul]
    congr 2
    rw [mul_inv]; ring
  simp only [h1]
  rw [← sum_mul_real _ _ _ hi, ← EReal.neg_mul, sub_eq_add_neg,
    ← EReal.right_distrib_of_nonneg_of_ne_top (by exact_mod_cast hi) (EReal.coe_ne_top _), mul_comm _ (a j : EReal),
    mul_comm _ ((s⁻¹ : ℝ) : EReal), mul_assoc]

/-- The score of the extra column, whose incoming gradient is zero. -/
theorem sink_eq (a : ι → ℝ) (b s : ℝ) (hs : 0 < s) (D : ι → EReal) :
    (Ideal.div 0 (s : EReal) + -(∑ k, D k * Ideal.div 1 ((s : EReal) * s) * (a k : EReal))) * (b : EReal)
      = (0 - (b : EReal) * Ideal.div 1 (s : EReal)) * ∑ k, (a k : EReal) * Ideal.div 1 (s : EReal) * D k := by
  have hss : (0 : ℝ) < s * s := mul_pos hs hs
  have hi : (0 : ℝ) ≤ s⁻¹ := (inv_pos.2 hs).le
  rw [← EReal.coe_mul]
  simp only [div_real hs, div_real hss, one_mul, zero_mul, zero_add]
  have h1 : ∀ k, D k * (((s * s)⁻¹ : ℝ) : EReal) * (a k : EReal) = ((a k : EReal) * ((s⁻¹ : ℝ) : EReal) * D k) * ((s⁻¹ : ℝ) : EReal) := fun k => by
    rw [mul_assoc, ← EReal.coe_mul, ← EReal.coe_mul, mul_comm _ (D k), mul_assoc, ← EReal.coe_mul]
    congr 2
    rw [mul_inv]; ring
  simp only [h1]
  rw [← sum_mul_real _ _ _ hi, zero_sub, EReal.neg_mul, EReal.neg_mul, mul_assoc, mul_comm _ (∑ k, _)]
  congr 2
  rw [mul_comm]

end Column

section Constants

theorem ofBits_eighth : Ideal.ofBits .f32 0x3E000000#32 = ((1 / 8 : ℝ) : EReal) := by
  simp [Ideal.ofBits, Ideal.ieee, -EReal.coe_mul]; norm_num

theorem ofBits_sixtyfourth : Ideal.ofBits .f32 0x3C800000#32 = ((1 / 64 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_neg_inf : Ideal.ofBits .f32 0xFF800000#32 = ⊥ := by
  simp [Ideal.ofBits, Ideal.ieee]

/-- The small number under the square root. -/
def eps : EReal := Ideal.ofBits .f32 0x358637BD#32

theorem eps_real : ∃ e : ℝ, 0 < e ∧ eps = (e : EReal) := by
  refine ⟨8796093 / 2 ^ 43, by positivity, ?_⟩
  simp [eps, Ideal.ofBits, Ideal.ieee, -EReal.coe_mul]; norm_num

theorem div_sixtyfour (x : EReal) : Ideal.div x (Ideal.ofBits .f32 0x42800000#32) = x * ((1 / 64 : ℝ) : EReal) := by
  rw [ofBits_sixtyfour, div_real (by norm_num)]; norm_num

end Constants

section Norm
variable {ι : Type*} [Fintype ι]

/-- The scale of a row: one over the root of its mean square. -/
def scale (x : ι → EReal) : EReal := Ideal.rsqrt ((∑ d, x d * x d) * ((1 / 64 : ℝ) : EReal) + eps)

omit [Fintype ι] in
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On a row of reals the mean square is a positive real `u`, and the scale a positive real whose square is `1 / u`. -/
theorem scale_real (x : ι → ℝ) : ∃ u r : ℝ, 0 < u ∧ 0 < r ∧ r * r * u = 1
    ∧ (∑ d, (x d : EReal) * (x d : EReal)) * ((1 / 64 : ℝ) : EReal) + eps = (u : EReal) ∧ scale (fun d => (x d : EReal)) = (r : EReal) := by
  obtain ⟨e, he, hE⟩ := eps_real
  have hu : 0 < (∑ d, x d * x d) * (1 / 64) + e := by
    have : 0 ≤ ∑ d, x d * x d := Finset.sum_nonneg fun d _ => mul_self_nonneg _
    positivity
  have hU : (∑ d, (x d : EReal) * (x d : EReal)) * ((1 / 64 : ℝ) : EReal) + eps = (((∑ d, x d * x d) * (1 / 64) + e : ℝ) : EReal) := by
    rw [hE, EReal.coe_add, EReal.coe_mul, coe_sum]; simp only [EReal.coe_mul]
  refine ⟨_, (Real.sqrt ((∑ d, x d * x d) * (1 / 64) + e))⁻¹, hu, inv_pos.2 (Real.sqrt_pos.2 hu), ?_, hU, ?_⟩
  · rw [← mul_inv, Real.mul_self_sqrt hu.le, inv_mul_cancel₀ hu.ne']
  · unfold scale
    rw [hU]
    show (if _ < (0 : ℝ) then (⊥ : EReal) else if _ = (0 : ℝ) then (⊤ : EReal) else _) = _
    rw [if_neg hu.not_gt, if_neg hu.ne']

theorem twice (t : EReal) (y : ℝ) : t * (y : EReal) + t * (y : EReal) = t * ((2 * y : ℝ) : EReal) := by
  rcases lt_trichotomy y 0 with h | h | h
  · induction t using EReal.rec with
    | bot => rw [EReal.bot_mul_coe_of_neg h, EReal.bot_mul_coe_of_neg (by linarith)]; rfl
    | top => rw [EReal.top_mul_coe_of_neg h, EReal.top_mul_coe_of_neg (by linarith)]; rfl
    | coe t => norm_cast; ring
  · subst h; simp
  · induction t using EReal.rec with
    | bot => rw [EReal.bot_mul_coe_of_pos h, EReal.bot_mul_coe_of_pos (by linarith)]; rfl
    | top => rw [EReal.top_mul_coe_of_pos h, EReal.top_mul_coe_of_pos (by linarith)]; rfl
    | coe t => norm_cast; ring

/-- The gradient of a row through its normalisation, in two orders of the same products: the row is real, the incoming
    gradient is anything. -/
theorem norm_back (x : ι → ℝ) (D : ι → EReal) (i : ι) :
    (D i * scale (fun d => (x d : EReal)) + (x i : EReal) * (Ideal.div ((∑ d, (x d : EReal) * D d) * (((-(1 / 2) : ℝ) : EReal)
          * Ideal.div (scale fun d => (x d : EReal)) ((∑ d, (x d : EReal) * (x d : EReal)) * ((1 / 64 : ℝ) : EReal) + eps))) ((64 : ℝ) : EReal)))
        + Ideal.div ((∑ d, (x d : EReal) * D d) * (((-(1 / 2) : ℝ) : EReal)
          * Ideal.div (scale fun d => (x d : EReal)) ((∑ d, (x d : EReal) * (x d : EReal)) * ((1 / 64 : ℝ) : EReal) + eps))) ((64 : ℝ) : EReal) * (x i : EReal)
      = scale (fun d => (x d : EReal)) * (D i - (x i : EReal) * scale (fun d => (x d : EReal))
          * ((∑ d, D d * ((x d : EReal) * scale (fun d => (x d : EReal)))) * ((1 / 64 : ℝ) : EReal))) := by
  obtain ⟨u, r, hu, hr, hru, hU, hR⟩ := scale_real x
  rw [hU, hR, div_real hu, div_real (by norm_num)]
  generalize hT : ∑ d, (x d : EReal) * D d = T
  have h1 : ∑ d, D d * ((x d : EReal) * (r : EReal)) = T * (r : EReal) := by
    rw [← hT, sum_mul_real _ _ _ hr.le]
    exact Finset.sum_congr rfl fun d _ => by rw [← mul_assoc, mul_comm (D d)]
  rw [h1]
  have h2 : (x i : EReal) * (T * (((-(1 / 2) : ℝ) : EReal) * ((r : EReal) * ((u⁻¹ : ℝ) : EReal))) * (((64 : ℝ)⁻¹ : ℝ) : EReal))
      = T * ((x i * (-(1 / 2) * (r * u⁻¹)) * 64⁻¹ : ℝ) : EReal) := by
    simp only [EReal.coe_mul]; ac_rfl
  have h3 : T * (((-(1 / 2) : ℝ) : EReal) * ((r : EReal) * ((u⁻¹ : ℝ) : EReal))) * (((64 : ℝ)⁻¹ : ℝ) : EReal) * (x i : EReal)
      = T * ((x i * (-(1 / 2) * (r * u⁻¹)) * 64⁻¹ : ℝ) : EReal) := by
    simp only [EReal.coe_mul]; ac_rfl
  have h4 : (x i : EReal) * (r : EReal) * (T * (r : EReal) * ((1 / 64 : ℝ) : EReal)) = T * ((x i * r * r * (1 / 64) : ℝ) : EReal) := by
    simp only [EReal.coe_mul]; ac_rfl
  rw [h2, h3, h4, add_assoc, twice, mul_comm (r : EReal), sub_eq_add_neg,
    EReal.right_distrib_of_nonneg_of_ne_top (by exact_mod_cast hr.le) (EReal.coe_ne_top _), EReal.neg_mul, mul_assoc T, ← EReal.coe_mul,
    show ∀ y : ℝ, -(T * (y : EReal)) = T * ((-y : ℝ) : EReal) from fun y => by rw [EReal.coe_neg, mul_comm T, mul_comm T, EReal.neg_mul]]
  congr 3
  have : u⁻¹ = r * r := by field_simp; linarith
  rw [this]; ring

end Norm
end Cert.Attention
end
-- ==== Proof.Spec.lean ====
/- The gradient of one block of the sliding-window attention, entry by entry: what the kernel leaves for a block, and what the
   gradient of the reference is on it, are both shown to be these functions. -/
module
public import proofs.«01_k».proof.Proof.Math
@[expose] public section

noncomputable section

namespace Cert.Attention
open Idealize.ShloMosaic

/-- What the attention of one block of 128 positions reads. Heads are a key head (of two) and one of its eight query heads; a query is at
    a position of the block, a key at a position of the band (the block before, then the block itself). `ok` says which keys a query sees. -/
structure Blk where
  q : Fin 2 → Fin 8 → Fin 128 → Fin 64 → EReal
  k : Fin 2 → Fin 256 → Fin 64 → EReal
  v : Fin 2 → Fin 256 → Fin 64 → EReal
  gq : Fin 64 → EReal
  gk : Fin 64 → EReal
  sink : Fin 2 → Fin 8 → EReal
  bias : Fin 2 → Fin 8 → Fin 256 → Fin 128 → EReal
  ok : Fin 256 → Fin 128 → Bool
  dO : Fin 2 → Fin 8 → Fin 128 → Fin 64 → EReal

namespace Blk
variable (B : Blk) (h : Fin 2) (g : Fin 8) (i : Fin 128) (j : Fin 256) (d : Fin 64)

/-- One eighth, the scale of the scores. -/
abbrev eighth : EReal := ((1 / 8 : ℝ) : EReal)
/-- One sixty-fourth, the length of a row inverted. -/
abbrev sixtyfourth : EReal := ((1 / 64 : ℝ) : EReal)

/-- The normalised query and the query with its gain. -/
def qh : EReal := B.q h g i d * scale (B.q h g i)
def qn : EReal := B.qh h g i d * B.gq d
/-- The normalised key and the key with its gain. -/
def kh : EReal := B.k h j d * scale (B.k h j)
def kn : EReal := B.kh h j d * B.gk d

/-- The scores, their maximum, the weights before division, the sum of them, the reciprocal of the sum. -/
def lg : EReal := if B.ok j i then (∑ d, B.kn h j d * B.qn h g i d) * eighth + B.bias h g j i else ⊥
def mx : EReal := max (Finset.univ.fold max ⊥ fun j => B.lg h g i j) (B.sink h g)
def ex : EReal := Ideal.exp (B.lg h g i j - B.mx h g i)
def es : EReal := Ideal.exp (B.sink h g - B.mx h g i)
def sm : EReal := (∑ j, B.ex h g i j) + B.es h g i
def inv : EReal := Ideal.div 1 (B.sm h g i)
def p : EReal := B.ex h g i j * B.inv h g i

/-- The gradient at the weights, its mean, the gradient at the scores. -/
def dp : EReal := ∑ d, B.v h j d * B.dO h g i d
def del : EReal := ∑ j, B.p h g i j * B.dp h g i j
def ds : EReal := B.p h g i j * (B.dp h g i j - B.del h g i)

/-- A gradient `D` of a row's normalised form with gain, taken through the gain and the normalisation. -/
def back (x gain D : Fin 64 → EReal) (d : Fin 64) : EReal :=
  scale x * (D d * gain d - x d * scale x * ((∑ d, D d * gain d * (x d * scale x)) * sixtyfourth))

/-- The gradients of the queries, keys and values, of the scores' offsets and the sinks, and of the gains. -/
def dqn : EReal := (∑ j, B.ds h g i j * B.kn h j d) * eighth
def dq : EReal := back (B.q h g i) B.gq (B.dqn h g i) d
def dv : EReal := ∑ g, ∑ i, B.p h g i j * B.dO h g i d
def dkn : EReal := ∑ g, ∑ i, B.ds h g i j * (B.qn h g i d * eighth)
def dk : EReal := back (B.k h j) B.gk (B.dkn h j) d
def dsink : EReal := (0 - B.es h g i * B.inv h g i) * B.del h g i
def dqg (s : Fin 2) : EReal := ∑ h, ∑ w : Fin 4, ∑ i,
  B.dqn h ⟨2 * w.val + s.val, by omega⟩ i d * B.qh h ⟨2 * w.val + s.val, by omega⟩ i d
def dkg : EReal := ∑ j, B.dkn h j d * B.kh h j d

section Congr
/-! A row of keys that no query sees counts for nothing. -/

theorem ex_of_not_ok (hj : B.ok j i = false) : B.ex h g i j = 0 := by
  unfold ex lg; rw [if_neg (by simp [hj]), EReal.bot_sub]; rfl

theorem p_of_not_ok (hj : B.ok j i = false) : B.p h g i j = 0 := by
  unfold p; rw [ex_of_not_ok _ _ _ _ _ hj, zero_mul]

theorem ds_of_not_ok (hj : B.ok j i = false) : B.ds h g i j = 0 := by
  unfold ds; rw [p_of_not_ok _ _ _ _ _ hj, zero_mul]

variable (k' v' : Fin 2 → Fin 256 → Fin 64 → EReal)

/-- The block with other keys and values. -/
def other : Blk := { B with k := k', v := v' }

variable (H : ∀ j, (∀ i, B.ok j i = false) ∨ ∀ h, B.k h j = k' h j ∧ B.v h j = v' h j)
include H

theorem kn_other (hj : B.ok j i = true) : (B.other k' v').kn h j d = B.kn h j d := by
  rcases H j with hn | hy
  · simp [hn i] at hj
  · unfold kn kh other; dsimp only; rw [(hy h).1]

theorem lg_other : (B.other k' v').lg h g i j = B.lg h g i j := by
  unfold lg
  show (if B.ok j i = true then _ else _) = _
  split
  · rename_i hj
    have h1 : ∑ d, (B.other k' v').kn h j d * (B.other k' v').qn h g i d = ∑ d, B.kn h j d * B.qn h g i d :=
      Finset.sum_congr rfl fun d _ => by rw [B.kn_other h i j d k' v' H hj]; rfl
    rw [h1]; rfl
  · rfl

theorem mx_other : (B.other k' v').mx h g i = B.mx h g i := by
  unfold mx; simp only [B.lg_other h g i _ k' v' H]; rfl

theorem ex_other : (B.other k' v').ex h g i j = B.ex h g i j := by
  unfold ex; rw [B.lg_other h g i _ k' v' H, B.mx_other h g i k' v' H]

theorem es_other : (B.other k' v').es h g i = B.es h g i := by
  unfold es; rw [B.mx_other h g i k' v' H]; rfl

theorem inv_other : (B.other k' v').inv h g i = B.inv h g i := by
  unfold inv sm; simp only [B.ex_other h g i _ k' v' H, B.es_other h g i k' v' H]

theorem p_other : (B.other k' v').p h g i j = B.p h g i j := by
  unfold p; rw [B.ex_other h g i _ k' v' H, B.inv_other h g i k' v' H]

theorem p_mul_dp_other : (B.other k' v').p h g i j * (B.other k' v').dp h g i j = B.p h g i j * B.dp h g i j := by
  rw [B.p_other h g i _ k' v' H]
  rcases H j with hn | hy
  · rw [B.p_of_not_ok _ _ _ _ (hn i), zero_mul, zero_mul]
  · congr 1; unfold dp other; dsimp only; rw [(hy h).2]

theorem del_other : (B.other k' v').del h g i = B.del h g i := by
  unfold del; simp only [B.p_mul_dp_other h g i _ k' v' H]

theorem ds_other : (B.other k' v').ds h g i j = B.ds h g i j := by
  unfold ds; rw [B.p_other h g i _ k' v' H, B.del_other h g i k' v' H]
  rcases H j with hn | hy
  · rw [B.p_of_not_ok _ _ _ _ (hn i), zero_mul, zero_mul]
  · congr 2; unfold dp other; dsimp only; rw [(hy h).2]

theorem dqn_other : (B.other k' v').dqn h g i d = B.dqn h g i d := by
  unfold dqn
  congr 1
  refine Finset.sum_congr rfl fun j _ => ?_
  rw [B.ds_other h g i _ k' v' H]
  rcases H j with hn | hy
  · rw [B.ds_of_not_ok _ _ _ _ (hn i), zero_mul, zero_mul]
  · congr 1; unfold kn kh other; dsimp only; rw [(hy h).1]

theorem dq_other : (B.other k' v').dq h g i d = B.dq h g i d := by
  unfold dq
  rw [show (B.other k' v').dqn h g i = B.dqn h g i from funext fun d => B.dqn_other h g i d k' v' H]; rfl

theorem dv_other : (B.other k' v').dv h j d = B.dv h j d := by
  unfold dv; simp only [B.p_other h _ _ _ k' v' H]; rfl

theorem dkn_other : (B.other k' v').dkn h j d = B.dkn h j d := by
  unfold dkn; simp only [B.ds_other h _ _ _ k' v' H]; rfl

omit H in
theorem dkn_of_not_ok (hj : ∀ i, B.ok j i = false) : B.dkn h j d = 0 := by
  unfold dkn
  exact Finset.sum_eq_zero fun g _ => Finset.sum_eq_zero fun i _ => by rw [B.ds_of_not_ok _ _ _ _ (hj i), zero_mul]

omit H in
theorem back_zero (x gain D : Fin 64 → EReal) (hD : ∀ d, D d = 0) (d : Fin 64) : back x gain D d = 0 := by
  unfold back; simp [hD]

theorem dk_other : (B.other k' v').dk h j d = B.dk h j d := by
  have hD : (B.other k' v').dkn h j = B.dkn h j := funext fun d => B.dkn_other h j d k' v' H
  unfold dk
  rw [hD]
  rcases H j with hn | hy
  · rw [back_zero _ _ _ (fun d => B.dkn_of_not_ok h j d hn), back_zero _ _ _ (fun d => B.dkn_of_not_ok h j d hn)]
  · unfold other; dsimp only; rw [(hy h).1]

theorem dsink_other : (B.other k' v').dsink h g i = B.dsink h g i := by
  unfold dsink; rw [B.es_other h g i k' v' H, B.inv_other h g i k' v' H, B.del_other h g i k' v' H]

theorem dqg_other (s : Fin 2) : (B.other k' v').dqg d s = B.dqg d s := by
  unfold dqg; simp only [B.dqn_other _ _ _ _ k' v' H]; rfl

theorem dkg_other : (B.other k' v').dkg h d = B.dkg h d := by
  unfold dkg
  refine Finset.sum_congr rfl fun j _ => ?_
  rw [B.dkn_other h j d k' v' H]
  rcases H j with hn | hy
  · rw [B.dkn_of_not_ok h j d hn, zero_mul, zero_mul]
  · congr 1; unfold kh other; dsimp only; rw [(hy h).1]

end Congr

/-- What the scores are made of is real. -/
structure Real : Prop where
  q : ∀ h g i, ∃ x : Fin 64 → ℝ, B.q h g i = fun d => (x d : EReal)
  k : ∀ h j, ∃ x : Fin 64 → ℝ, B.k h j = fun d => (x d : EReal)
  gq : ∃ x : Fin 64 → ℝ, B.gq = fun d => (x d : EReal)
  gk : ∃ x : Fin 64 → ℝ, B.gk = fun d => (x d : EReal)
  sink : ∀ h g, ∃ x : ℝ, B.sink h g = x
  bias : ∀ h g j i, ∃ x : ℝ, B.bias h g j i = x

section Reals
variable {B} (hB : B.Real)
include hB

theorem qn_real : ∃ x : Fin 64 → ℝ, ∀ d, B.qn h g i d = x d := by
  obtain ⟨x, hx⟩ := hB.q h g i
  obtain ⟨y, hy⟩ := hB.gq
  obtain ⟨u, r, -, -, -, -, hr⟩ := scale_real x
  exact ⟨fun d => x d * r * y d, fun d => by unfold qn qh; rw [hx, hy, hr]; push_cast; rfl⟩

theorem kn_real : ∃ x : Fin 64 → ℝ, ∀ d, B.kn h j d = x d := by
  obtain ⟨x, hx⟩ := hB.k h j
  obtain ⟨y, hy⟩ := hB.gk
  obtain ⟨u, r, -, -, -, -, hr⟩ := scale_real x
  exact ⟨fun d => x d * r * y d, fun d => by unfold kn kh; rw [hx, hy, hr]; push_cast; rfl⟩

theorem lg_ne_top : B.lg h g i j ≠ ⊤ := by
  unfold lg
  split
  · obtain ⟨x, hx⟩ := qn_real h g i hB
    obtain ⟨y, hy⟩ := kn_real h j hB
    obtain ⟨z, hz⟩ := hB.bias h g j i
    simp only [hx, hy, hz, ← EReal.coe_mul, ← coe_sum, ← EReal.coe_add]
    exact EReal.coe_ne_top _
  · exact bot_ne_top

theorem mx_real : ∃ x : ℝ, B.mx h g i = x := by
  obtain ⟨z, hz⟩ := hB.sink h g
  have h1 : B.mx h g i ≠ ⊤ := by
    have h2 : Finset.univ.fold max ⊥ (fun j => B.lg h g i j) < ⊤ := by
      rw [Finset.fold_max_lt]
      exact ⟨bot_lt_top, fun j _ => lt_top_iff_ne_top.2 (lg_ne_top h g i j hB)⟩
    unfold mx
    rw [hz]
    exact (max_lt h2 (EReal.coe_lt_top z)).ne
  have h3 : B.mx h g i ≠ ⊥ := by
    unfold mx
    rw [hz]
    exact ((EReal.bot_lt_coe z).trans_le (le_max_right _ _)).ne'
  exact ⟨_, (EReal.coe_toReal h1 h3).symm⟩

/-- The weights of one query before division are reals that are not negative, the sink's is positive, and so is their sum. -/
theorem weights_real : ∃ (a : Fin 256 → ℝ) (b s : ℝ), 0 < s ∧ (∀ j, B.ex h g i j = a j) ∧ B.es h g i = b ∧ B.sm h g i = s := by
  obtain ⟨m, hm⟩ := mx_real h g i hB
  obtain ⟨z, hz⟩ := hB.sink h g
  choose a ha0 ha using fun j => exp_sub_real (lg_ne_top h g i j hB) m
  obtain ⟨b, hb0, hb⟩ := exp_sub_pos z m
  have h1 : ∀ j, B.ex h g i j = a j := fun j => by unfold ex; rw [hm, ha]
  have h2 : B.es h g i = b := by unfold es; rw [hm, hz, hb]
  refine ⟨a, b, ∑ j, a j + b, add_pos_of_nonneg_of_pos (Finset.sum_nonneg fun j _ => ha0 j) hb0, h1, h2, ?_⟩
  unfold sm
  rw [h2, EReal.coe_add, coe_sum]
  simp only [h1]

/-- A weight, the division taken directly. -/
theorem div_sm : Ideal.div (B.ex h g i j) (B.sm h g i) = B.p h g i j := by
  obtain ⟨a, b, s, hs, -, -, hS⟩ := weights_real h g i hB
  unfold p inv
  rw [hS, div_real hs, div_real hs, one_mul]

/-- The gradient of the scores, in the order a softmax takes it. -/
theorem ds_ref : (Ideal.div (B.dp h g i j) (B.sm h g i) + -(∑ k, B.dp h g i k * Ideal.div 1 (B.sm h g i * B.sm h g i) * B.ex h g i k))
      * B.ex h g i j = B.ds h g i j := by
  obtain ⟨a, b, s, hs, ha, -, hS⟩ := weights_real h g i hB
  unfold ds del p inv
  simp only [ha, hS]
  exact score_eq a s hs (B.dp h g i) j

/-- The gradient of the sink's score, in the order a softmax takes it. -/
theorem dsink_ref : (Ideal.div 0 (B.sm h g i) + -(∑ k, B.dp h g i k * Ideal.div 1 (B.sm h g i * B.sm h g i) * B.ex h g i k))
      * B.es h g i = B.dsink h g i := by
  obtain ⟨a, b, s, hs, ha, hb, hS⟩ := weights_real h g i hB
  unfold dsink del p inv
  simp only [ha, hS, hb]
  exact sink_eq a b s hs (B.dp h g i)

end Reals

/-- The gradient through gain and normalisation, in the order the derivative of the normalisation takes it. -/
theorem back_ref (x gain D : Fin 64 → EReal) (hx : ∃ y : Fin 64 → ℝ, x = fun d => (y d : EReal)) (d : Fin 64) :
    (D d * gain d * scale x + x d * (Ideal.div ((∑ d, x d * (D d * gain d)) * (((-(1 / 2) : ℝ) : EReal)
          * Ideal.div (scale x) ((∑ d, x d * x d) * ((1 / 64 : ℝ) : EReal) + eps))) ((64 : ℝ) : EReal)))
        + Ideal.div ((∑ d, x d * (D d * gain d)) * (((-(1 / 2) : ℝ) : EReal)
          * Ideal.div (scale x) ((∑ d, x d * x d) * ((1 / 64 : ℝ) : EReal) + eps))) ((64 : ℝ) : EReal) * x d
      = back x gain D d := by
  obtain ⟨y, rfl⟩ := hx
  exact norm_back y (fun d => D d * gain d) d

end Blk
end Cert.Attention
end
-- ==== Proof.Vec.lean ====
/- The kernel's vectors, one definition per stage of an iteration: `h` is the key head (of two), the two query pairs of an iteration are
   the two operands `x`, `y`. Every stage printed for an iteration is one of these, by unfolding. -/
module
public import proofs.«01_k».proof.Proof.Spec
public import proofs.«01_k».proof.Proof.Gen.KernelIdeal.Skeleton
@[expose] public section
set_option maxRecDepth 16384

noncomputable section

namespace Cert.KernelIdeal.Att
open Cert.KernelIdeal Cert.KernelIdeal.Gen Idealize.ShloMosaic

/-- The lanes of key head `h`. -/
def half (h : Fin 2) : IVec S256x128 1 := match h with | 0 => k0_pay2 | 1 => k0_pay87 k0_pay2

/-- The sum of each half of the lanes, on that half. -/
def hsum (x : FVec Ideal S128x128 .f32) : FVec Ideal S128x128 .f32 :=
  select k0_pay3
    (broadcastTo S128x128 (shapeCast S128x1 (shapeCast S128x1 (multiReduction .add [1] S128 (select k0_pay3 x (broadcast S128x128 (Scalar.ofBits .f32 0x00000000#32))) 0x00000000#32 reduces_S128x128_S128 (.inl rfl) rfl) shapeCasts_S128_S128x1) shapeCasts_S128x1_S128x1) broadcasts_S128x1_S128x128)
    (broadcastTo S128x128 (shapeCast S128x1 (shapeCast S128x1 (multiReduction .add [1] S128 (select k0_pay3 (broadcast S128x128 (Scalar.ofBits .f32 0x00000000#32)) x) 0x00000000#32 reduces_S128x128_S128 (.inl rfl) rfl) shapeCasts_S128_S128x1) shapeCasts_S128x1_S128x1) broadcasts_S128x1_S128x128)

/-- The same of the band's 256 rows. -/
def hsum2 (x : FVec Ideal S256x128 .f32) : FVec Ideal S256x128 .f32 :=
  select k0_pay2
    (broadcastTo S256x128 (shapeCast S256x1 (shapeCast S256x1 (multiReduction .add [1] S256 (select k0_pay2 x (broadcast S256x128 (Scalar.ofBits .f32 0x00000000#32))) 0x00000000#32 reduces_S256x128_S256 (.inl rfl) rfl) shapeCasts_S256_S256x1) shapeCasts_S256x1_S256x1) broadcasts_S256x1_S256x128)
    (broadcastTo S256x128 (shapeCast S256x1 (shapeCast S256x1 (multiReduction .add [1] S256 (select k0_pay2 (broadcast S256x128 (Scalar.ofBits .f32 0x00000000#32)) x) 0x00000000#32 reduces_S256x128_S256 (.inl rfl) rfl) shapeCasts_S256_S256x1) shapeCasts_S256x1_S256x1) broadcasts_S256x1_S256x128)

/-- The scale of each half row, the normalised row, and the query row with gain and an eighth. -/
def rs (x : FVec Ideal S128x128 .f32) : FVec Ideal S128x128 .f32 :=
  rsqrt (addf (mulf (hsum (mulf x x)) (broadcast S128x128 (Scalar.ofBits .f32 0x3C800000#32))) (broadcast S128x128 (Scalar.ofBits .f32 0x358637BD#32)))
def hat (x : FVec Ideal S128x128 .f32) : FVec Ideal S128x128 .f32 := mulf x (rs x)
def qs (g : FVec Ideal S1x128 .f32) (x : FVec Ideal S128x128 .f32) : FVec Ideal S128x128 .f32 :=
  mulf (mulf (hat x) (broadcastTo S128x128 g broadcasts_S1x128_S128x128)) (broadcast S128x128 (Scalar.ofBits .f32 0x3E000000#32))

/-- The same of the band: scale, normalised, with gain. -/
def rs2 (x : FVec Ideal S256x128 .f32) : FVec Ideal S256x128 .f32 :=
  rsqrt (addf (mulf (hsum2 (mulf x x)) (broadcast S256x128 (Scalar.ofBits .f32 0x3C800000#32))) (broadcast S256x128 (Scalar.ofBits .f32 0x358637BD#32)))
def hat2 (x : FVec Ideal S256x128 .f32) : FVec Ideal S256x128 .f32 := mulf x (rs2 x)
def kg2 (g : FVec Ideal S1x128 .f32) (x : FVec Ideal S256x128 .f32) : FVec Ideal S256x128 .f32 :=
  mulf (hat2 x) (broadcastTo S256x128 g broadcasts_S1x128_S256x128)

/-- The block before and the block. -/
def band (a b : FVec Ideal S128x128 .f32) : FVec Ideal S256x128 .f32 :=
  concatenate S256x128 0 [⟨S128x128, a⟩, ⟨S128x128, b⟩] concatenates_S128x128_S128x128_S256x128_d0

/-- The band on the lanes of one key head. -/
def keep (h : Fin 2) (x : FVec Ideal S256x128 .f32) : FVec Ideal S256x128 .bf16 :=
  truncf .bf16 (select (half h) x (broadcast S256x128 (Scalar.ofBits .f32 0x00000000#32))) bitsLt_bf16_f32

def rot (x : FVec Ideal S128x128 .f32) : FVec Ideal S128x128 .f32 := dynamicRotate 1 64#32 none x rotates_S128x128_d1

/-- A pair of heads as rows, each head on the key head's lanes. -/
def pair (h : Fin 2) (x : FVec Ideal S128x128 .f32) : FVec Ideal S256x128 .f32 := match h with
  | 0 => band x (rot x)
  | 1 => band (rot x) x

def quad (h : Fin 2) (x y : FVec Ideal S128x128 .f32) : FVec Ideal S512x128 .bf16 :=
  truncf .bf16 (concatenate S512x128 0 [⟨S256x128, pair h x⟩, ⟨S256x128, pair h y⟩] concatenates_S256x128_S256x128_S512x128_d0) bitsLt_bf16_f32

/-- The products of band rows with query rows. -/
def prod (K : FVec Ideal S256x128 .bf16) (Q : FVec Ideal S512x128 .bf16) : FVec Ideal S256x512 .f32 :=
  matmul dot_S256x128_S512x128_S256x512_1_1_0_0_n_n none K Q (constant S256x512 .f32 0x00000000#32)

/-- The scores: offsets added, the block before masked at the first block. -/
def lgv (t : BitVec 32) (l : FVec Ideal S256x512 .f32) (b : FVec Ideal S1x256x512 .f32) : FVec Ideal S256x512 .f32 := k0_pay100 t l b

/-- The weights. -/
def mxv (l : FVec Ideal S256x512 .f32) (s : FVec Ideal S1x512 .f32) : FVec Ideal S1x512 .f32 := k0_pay28 l s
def exv (l : FVec Ideal S256x512 .f32) (s : FVec Ideal S1x512 .f32) : FVec Ideal S256x512 .f32 := k0_pay29 l s
def esv (l : FVec Ideal S256x512 .f32) (s : FVec Ideal S1x512 .f32) : FVec Ideal S1x512 .f32 := k0_pay30 l s
def invv (l : FVec Ideal S256x512 .f32) (s : FVec Ideal S1x512 .f32) : FVec Ideal S1x512 .f32 := k0_pay31 l s
def pv (l : FVec Ideal S256x512 .f32) (s : FVec Ideal S1x512 .f32) : FVec Ideal S256x512 .f32 := k0_pay32 l s

/-- The gradient of the scores from the weights `p` and the gradient at the weights `D`. -/
def delv (p D : FVec Ideal S256x512 .f32) : FVec Ideal S1x512 .f32 :=
  shapeCast S1x512 (multiReduction .add [0] S512 (mulf p D) 0x00000000#32 reduces_S256x512_S512 (.inl rfl) rfl) shapeCasts_S512_S1x512
def dsv (p D : FVec Ideal S256x512 .f32) : FVec Ideal S256x512 .f32 :=
  mulf p (subf D (broadcastTo S256x512 (delv p D) broadcasts_S1x512_S256x512))

/-- What the sinks' gradient gets. -/
def dskv (l : FVec Ideal S256x512 .f32) (s : FVec Ideal S1x512 .f32) (D : FVec Ideal S256x512 .f32) : FVec Ideal S1x512 .f32 :=
  mulf (subf (broadcast S1x512 (Scalar.ofBits .f32 0x00000000#32)) (mulf (esv l s) (invv l s))) (delv (pv l s) D)

/-- An accumulator of the band with the products of weights `w` and rows `X` added on the key head's lanes. -/
def accv (h : Fin 2) (a : FVec Ideal S256x128 .f32) (w : FVec Ideal S256x512 .f32) (X : FVec Ideal S512x128 .bf16) : FVec Ideal S256x128 .f32 :=
  addf a (select (half h) (matmul dot_S256x512_S512x128_S256x128_1_0_0_1_n_n none (truncf .bf16 w bitsLt_bf16_f32) X (constant S256x128 .f32 0x00000000#32))
    (broadcast S256x128 (Scalar.ofBits .f32 0x00000000#32)))

/-- The gradient at the query rows. -/
def dQv (w : FVec Ideal S256x512 .f32) (K : FVec Ideal S256x128 .bf16) : FVec Ideal S512x128 .f32 :=
  mulf (matmul dot_S256x512_S256x128_S512x128_0_0_1_1_n_n none (truncf .bf16 w bitsLt_bf16_f32) K (constant S512x128 .f32 0x00000000#32))
    (broadcast S512x128 (Scalar.ofBits .f32 0x3E000000#32))

/-- Query rows back in a pair's lanes. -/
def evenRows (e : Fin 2) (D : FVec Ideal S512x128 .f32) : FVec Ideal S128x128 .f32 := match e with
  | 0 => extractStridedSlice S128x128 ![0, 0] D slices_S512x128_o0_0_S128x128
  | 1 => extractStridedSlice S128x128 ![256, 0] D slices_S512x128_o256_0_S128x128
def oddRows (e : Fin 2) (D : FVec Ideal S512x128 .f32) : FVec Ideal S128x128 .f32 := match e with
  | 0 => extractStridedSlice S128x128 ![128, 0] D slices_S512x128_o128_0_S128x128
  | 1 => extractStridedSlice S128x128 ![384, 0] D slices_S512x128_o384_0_S128x128
def unpair (h e : Fin 2) (D : FVec Ideal S512x128 .f32) : FVec Ideal S128x128 .f32 := match h with
  | 0 => addf (evenRows e D) (rot (oddRows e D))
  | 1 => addf (rot (evenRows e D)) (oddRows e D)

/-- The gradient through gain and normalisation. -/
def bk (g : FVec Ideal S1x128 .f32) (x D : FVec Ideal S128x128 .f32) : FVec Ideal S128x128 .f32 :=
  mulf (rs x) (subf (mulf D (broadcastTo S128x128 g broadcasts_S1x128_S128x128))
    (mulf (hat x) (mulf (hsum (mulf (mulf D (broadcastTo S128x128 g broadcasts_S1x128_S128x128)) (hat x))) (broadcast S128x128 (Scalar.ofBits .f32 0x3C800000#32)))))
def bk2 (g : FVec Ideal S1x128 .f32) (x D : FVec Ideal S256x128 .f32) : FVec Ideal S256x128 .f32 :=
  mulf (rs2 x) (subf (mulf D (broadcastTo S256x128 g broadcasts_S1x128_S256x128))
    (mulf (hat2 x) (mulf (hsum2 (mulf (mulf D (broadcastTo S256x128 g broadcasts_S1x128_S256x128)) (hat2 x))) (broadcast S256x128 (Scalar.ofBits .f32 0x3C800000#32)))))

/-- The sum over the rows of a product of two. -/
def gsum (x y : FVec Ideal S128x128 .f32) : FVec Ideal S1x128 .f32 :=
  shapeCast S1x128 (multiReduction .add [0] S128 (mulf x y) 0x00000000#32 reduces_S128x128_S128_2 (.inl rfl) rfl) shapeCasts_S128_S1x128
def gsum2 (x y : FVec Ideal S256x128 .f32) : FVec Ideal S1x128 .f32 :=
  shapeCast S1x128 (multiReduction .add [0] S128 (mulf x y) 0x00000000#32 reduces_S256x128_S128 (.inl rfl) rfl) shapeCasts_S128_S1x128

/-- The gains' gradient of a block as the eight rows the kernel adds. -/
def gains (a b : FVec Ideal S1x128 .f32) : FVec Ideal S8x128 .f32 :=
  concatenate S8x128 0 [⟨S1x128, a⟩, ⟨S1x128, b⟩, ⟨S6x128, broadcast S6x128 (Scalar.ofBits .f32 0x00000000#32)⟩] concatenates_S1x128_S1x128_S6x128_S8x128_d0

end Cert.KernelIdeal.Att
end
-- ==== Proof.VecAt.lean ====
/- The kernel's vectors at an index. -/
module
public import proofs.«01_k».proof.Proof.Vec
@[expose] public section
set_option maxRecDepth 16384

noncomputable section

namespace Cert.KernelIdeal.Att
open Cert.KernelIdeal Cert.KernelIdeal.Gen Idealize.ShloMosaic Cert.Attention
open Cert.Attention.Blk (eighth sixtyfourth)

/-- Lane `d` of half `s`. -/
def lane (s : Fin 2) (d : Fin 64) : Fin 128 := ⟨s.val * 64 + d.val, by omega⟩

/-- Row of position `i` of head `s` of pair `e`. -/
def row (e s : Fin 2) (i : Fin 128) : Fin 512 := ⟨e.val * 256 + s.val * 128 + i.val, by omega⟩

theorem sum_lane {M : Type*} [AddCommMonoid M] (f : Fin 128 → M) : ∑ l, f l = ∑ d, f (lane 0 d) + ∑ d, f (lane 1 d) := by
  rw [Fin.sum_univ_two_halves 64 64 rfl f]
  exact congrArg₂ (· + ·) (Finset.sum_congr rfl fun d _ => congrArg f (Fin.ext (by simp [lane])))
    (Finset.sum_congr rfl fun d _ => congrArg f (Fin.ext (by simp [lane])))

theorem sum_row {M : Type*} [AddCommMonoid M] (f : Fin 512 → M) : ∑ r, f r = ∑ e, ∑ s, ∑ i, f (row e s i) := by
  rw [Fin.sum_univ_two_halves 256 256 rfl f, Fin.sum_univ_two_halves 128 128 rfl, Fin.sum_univ_two_halves 128 128 rfl]
  simp only [Fin.sum_univ_two]
  refine congrArg₂ (· + ·) (congrArg₂ (· + ·) ?_ ?_) (congrArg₂ (· + ·) ?_ ?_) <;>
    exact Finset.sum_congr rfl fun d _ => congrArg f (Fin.ext (by simp [row]; try omega))

theorem lane_cases (l : Fin 128) : ∃ s d, l = lane s d :=
  ⟨⟨l.val / 64, by omega⟩, ⟨l.val % 64, by omega⟩, Fin.ext (by simp only [lane]; omega)⟩

theorem row_cases (r : Fin 512) : ∃ e s i, r = row e s i :=
  ⟨⟨r.val / 256, by omega⟩, ⟨r.val % 256 / 128, by omega⟩, ⟨r.val % 128, by omega⟩, Fin.ext (by simp only [row]; omega)⟩

theorem sel_one {α : Type} (a b : α) : Scalar.select 1#1 a b = a := rfl
theorem sel_zero {α : Type} (a b : α) : Scalar.select 0#1 a b = b := rfl

theorem slt_lane : ∀ l : Fin 128, IntOp.cmpi CmpIPredicate.slt (BitVec.ofNat 32 l.val) 64#32 = if l.val < 64 then 1#1 else 0#1 := by
  decide +kernel

theorem lo_lane0 (i : Fin 128) (d : Fin 64) : k0_pay3 (ix2 i (lane 0 d)) = 1#1 := by
  unfold k0_pay3; pointwise; rw [slt_lane, if_pos]; simp [lane]
theorem lo_lane1 (i : Fin 128) (d : Fin 64) : k0_pay3 (ix2 i (lane 1 d)) = 0#1 := by
  unfold k0_pay3; pointwise; rw [slt_lane, if_neg]; simp [lane]
theorem lo2_lane0 (i : Fin 256) (d : Fin 64) : k0_pay2 (ix2 i (lane 0 d)) = 1#1 := by
  unfold k0_pay2; pointwise; rw [slt_lane, if_pos]; simp [lane]
theorem lo2_lane1 (i : Fin 256) (d : Fin 64) : k0_pay2 (ix2 i (lane 1 d)) = 0#1 := by
  unfold k0_pay2; pointwise; rw [slt_lane, if_neg]; simp [lane]

theorem half_lane (h s : Fin 2) (i : Fin 256) (d : Fin 64) : half h (ix2 i (lane s d)) = if s = h then 1#1 else 0#1 := by
  have e1 : ∀ a : BitVec 1, IntOp.xori a 1#1 = if a = 1#1 then 0#1 else 1#1 := by decide
  fin_cases h <;> fin_cases s
  · exact lo2_lane0 i d
  · exact lo2_lane1 i d
  · show k0_pay87 k0_pay2 (ix2 i (lane 0 d)) = 0#1
    unfold k0_pay87; pointwise; rw [lo2_lane0]; rfl
  · show k0_pay87 k0_pay2 (ix2 i (lane 1 d)) = 1#1
    unfold k0_pay87; pointwise; rw [lo2_lane1]; rfl

theorem hsum_apply (x : FVec Ideal S128x128 .f32) (i : Fin 128) (s : Fin 2) (d : Fin 64) :
    hsum x (ix2 i (lane s d)) = ∑ d, x (ix2 i (lane s d)) := by
  pointwise [hsum]
  rw [sum_lane, sum_lane]
  fin_cases s <;> simp [lo_lane0, lo_lane1, sel_one, sel_zero]

theorem hsum2_apply (x : FVec Ideal S256x128 .f32) (i : Fin 256) (s : Fin 2) (d : Fin 64) :
    hsum2 x (ix2 i (lane s d)) = ∑ d, x (ix2 i (lane s d)) := by
  pointwise [hsum2]
  rw [sum_lane, sum_lane]
  fin_cases s <;> simp [lo2_lane0, lo2_lane1, sel_one, sel_zero]

theorem rs_apply (x : FVec Ideal S128x128 .f32) (i : Fin 128) (s : Fin 2) (d : Fin 64) :
    rs x (ix2 i (lane s d)) = scale fun d => x (ix2 i (lane s d)) := by
  pointwise [rs]
  rw [hsum_apply, ofBits_sixtyfourth]
  rfl

theorem rs2_apply (x : FVec Ideal S256x128 .f32) (i : Fin 256) (s : Fin 2) (d : Fin 64) :
    rs2 x (ix2 i (lane s d)) = scale fun d => x (ix2 i (lane s d)) := by
  pointwise [rs2]
  rw [hsum2_apply, ofBits_sixtyfourth]
  rfl

theorem hat_apply (x : FVec Ideal S128x128 .f32) (i : Fin 128) (s : Fin 2) (d : Fin 64) :
    hat x (ix2 i (lane s d)) = x (ix2 i (lane s d)) * scale fun d => x (ix2 i (lane s d)) := by
  rw [← rs_apply x i s d]; rfl

theorem hat2_apply (x : FVec Ideal S256x128 .f32) (i : Fin 256) (s : Fin 2) (d : Fin 64) :
    hat2 x (ix2 i (lane s d)) = x (ix2 i (lane s d)) * scale fun d => x (ix2 i (lane s d)) := by
  rw [← rs2_apply x i s d]; rfl

theorem qs_apply (g : FVec Ideal S1x128 .f32) (x : FVec Ideal S128x128 .f32) (i : Fin 128) (s : Fin 2) (d : Fin 64) :
    qs g x (ix2 i (lane s d)) = x (ix2 i (lane s d)) * (scale fun d => x (ix2 i (lane s d))) * g (ix2 0 (lane s d)) * eighth := by
  pointwise [qs]
  rw [hat_apply, ofBits_eighth]

theorem kg2_apply (g : FVec Ideal S1x128 .f32) (x : FVec Ideal S256x128 .f32) (i : Fin 256) (s : Fin 2) (d : Fin 64) :
    kg2 g x (ix2 i (lane s d)) = x (ix2 i (lane s d)) * (scale fun d => x (ix2 i (lane s d))) * g (ix2 0 (lane s d)) := by
  pointwise [kg2]
  rw [hat2_apply]

theorem band_apply (a b : FVec Ideal S128x128 .f32) (j : Fin 256) (l : Fin 128) :
    band a b (ix2 j l) = if h : j.val < 128 then a (ix2 ⟨j.val, h⟩ l) else b (ix2 ⟨j.val - 128, by omega⟩ l) := by
  pointwise [band]

theorem keep_apply (h s : Fin 2) (x : FVec Ideal S256x128 .f32) (j : Fin 256) (d : Fin 64) :
    keep h x (ix2 j (lane s d)) = if s = h then x (ix2 j (lane s d)) else 0 := by
  pointwise [keep]
  rw [half_lane]
  split <;> rfl

theorem concat_apply (x y : FVec Ideal S256x128 .f32) (e s : Fin 2) (i : Fin 128) (l : Fin 128) :
    concatenate S512x128 0 [⟨S256x128, x⟩, ⟨S256x128, y⟩] concatenates_S256x128_S256x128_S512x128_d0 (ix2 (row e s i) l)
      = (if e = 0 then x else y) (ix2 ⟨s.val * 128 + i.val, by omega⟩ l) := by
  have hc : ∀ (z : FVec Ideal S256x128 .f32) (a a' : Fin 256), a.val = a'.val → z (ix2 a l) = z (ix2 a' l) :=
    fun z a a' h1 => by rw [Fin.ext h1]
  pointwise
  obtain rfl | rfl : e = 0 ∨ e = 1 := by omega
  · show _ = x _
    split
    · exact hc _ _ _ (by simp [row])
    · rename_i h; simp [row] at h; omega
  · show _ = y _
    split
    · rename_i h; simp [row] at h; omega
    · exact hc _ _ _ (by simp [row]; omega)

theorem pair_apply (h s : Fin 2) (x : FVec Ideal S128x128 .f32) (i : Fin 128) (d : Fin 64) :
    pair h x (ix2 ⟨s.val * 128 + i.val, by omega⟩ (lane h d)) = x (ix2 i (lane s d)) := by
  have hc : ∀ (a a' b b' : Fin 128), a.val = a'.val → b.val = b'.val → x (ix2 a b) = x (ix2 a' b') :=
    fun a a' b b' h1 h2 => by rw [Fin.ext h1, Fin.ext h2]
  obtain rfl | rfl : h = 0 ∨ h = 1 := by omega
  all_goals
    pointwise [pair, band, rot]
    obtain rfl | rfl : s = 0 ∨ s = 1 := by omega
    all_goals
      split
      all_goals first
        | (exfalso; rename_i h; simp at h; done)
        | (exfalso; rename_i h; simp at h; omega)
        | (refine hc _ _ _ _ ?_ ?_ <;> (simp [lane]) <;> omega)

theorem quad_apply (h : Fin 2) (x y : FVec Ideal S128x128 .f32) (e s : Fin 2) (i : Fin 128) (d : Fin 64) :
    quad h x y (ix2 (row e s i) (lane h d)) = (if e = 0 then x else y) (ix2 i (lane s d)) := by
  have h1 := concat_apply (pair h x) (pair h y) e s i (lane h d)
  have h2 : quad h x y (ix2 (row e s i) (lane h d))
      = concatenate S512x128 0 [⟨S256x128, pair h x⟩, ⟨S256x128, pair h y⟩] concatenates_S256x128_S256x128_S512x128_d0 (ix2 (row e s i) (lane h d)) := rfl
  rw [h2, h1]
  obtain rfl | rfl : e = 0 ∨ e = 1 := by omega
  · rw [if_pos rfl, if_pos rfl, pair_apply]
  · rw [if_neg (by decide), if_neg (by decide), pair_apply]

theorem prod_apply (K : FVec Ideal S256x128 .bf16) (Q : FVec Ideal S512x128 .bf16) (r : Fin 512) (j : Fin 256) :
    prod K Q (ix2 j r) = ∑ l, K (ix2 j l) * Q (ix2 r l) := by
  pointwise [prod]

/-- The products of the band on one key head's lanes with the rows of a pair of pairs. -/
theorem prod_keep (h : Fin 2) (k : FVec Ideal S256x128 .f32) (x y : FVec Ideal S128x128 .f32) (e s : Fin 2) (i : Fin 128) (j : Fin 256) :
    prod (keep h k) (quad h x y) (ix2 j (row e s i)) = ∑ d, k (ix2 j (lane h d)) * (if e = 0 then x else y) (ix2 i (lane s d)) := by
  rw [prod_apply, sum_lane]
  simp only [keep_apply]
  simp only [← quad_apply h x y e s i]
  fin_cases h <;> simp

theorem lgv_apply (t : BitVec 32) (l : FVec Ideal S256x512 .f32) (b : FVec Ideal S1x256x512 .f32) (j : Fin 256) (r : Fin 512) :
    lgv t l b (ix2 j r) = if t = 0#32 ∧ j.val < 128 then ⊥ else l (ix2 j r) + b (ix3 0 j r) := by
  pointwise [lgv, k0_pay100]
  by_cases hj : j.val < 128
  · rw [dif_pos hj, IdealRules.named_const.ideal_named_scalar _ _ _ _ rfl]
    by_cases ht : t = 0#32
    · rw [if_pos ⟨ht, hj⟩, ht]; rfl
    · rw [if_neg fun h => ht h.1]
      have : Scalar.cmpi CmpIPredicate.eq t 0#32 = 0#1 := by
        show BitVec.ofBool (t == 0#32) = 0#1
        rw [beq_eq_false_iff_ne.mpr ht]; rfl
      rw [this]; rfl
  · refine (dif_neg hj).trans ?_
    refine Eq.trans ?_ (if_neg fun h => hj h.2).symm
    have hj' : j = ⟨128 + (j.val - 128), by omega⟩ := Fin.ext (by dsimp only; omega)
    have hl : l (ix2 j r) = l (ix2 ⟨128 + (j.val - 128), by omega⟩ r) := congrArg (fun a => l (ix2 a r)) hj'
    have hb : b (ix3 0 j r) = b (ix3 0 ⟨128 + (j.val - 128), by omega⟩ r) := congrArg (fun a => b (ix3 0 a r)) hj'
    exact (congrArg₂ (· + ·) hl hb).symm

theorem mxv_apply (l : FVec Ideal S256x512 .f32) (s : FVec Ideal S1x512 .f32) (r : Fin 512) :
    mxv l s (ix2 0 r) = max (Finset.univ.fold max ⊥ fun j => l (ix2 j r)) (s (ix2 0 r)) := by
  pointwise [mxv, k0_pay28]
  rw [ofBits_neg_inf]

theorem exv_apply (l : FVec Ideal S256x512 .f32) (s : FVec Ideal S1x512 .f32) (j : Fin 256) (r : Fin 512) :
    exv l s (ix2 j r) = Ideal.exp (l (ix2 j r) - mxv l s (ix2 0 r)) := by
  pointwise [exv, k0_pay29, mxv]

theorem esv_apply (l : FVec Ideal S256x512 .f32) (s : FVec Ideal S1x512 .f32) (r : Fin 512) :
    esv l s (ix2 0 r) = Ideal.exp (s (ix2 0 r) - mxv l s (ix2 0 r)) := by
  pointwise [esv, k0_pay30, mxv]

theorem ofBits_one : Ideal.ofBits .f32 0x3F800000#32 = 1 := by
  simp [Ideal.ofBits, Ideal.ieee, -EReal.coe_mul]
  norm_cast
  norm_num

theorem invv_apply (l : FVec Ideal S256x512 .f32) (s : FVec Ideal S1x512 .f32) (r : Fin 512) :
    invv l s (ix2 0 r) = Ideal.div 1 ((∑ j, exv l s (ix2 j r)) + esv l s (ix2 0 r)) := by
  pointwise [invv, k0_pay31, exv, esv]
  try rw [ofBits_one]

theorem pv_apply (l : FVec Ideal S256x512 .f32) (s : FVec Ideal S1x512 .f32) (j : Fin 256) (r : Fin 512) :
    pv l s (ix2 j r) = exv l s (ix2 j r) * invv l s (ix2 0 r) := by
  pointwise [pv, k0_pay32, exv, invv]

theorem delv_apply (p D : FVec Ideal S256x512 .f32) (r : Fin 512) : delv p D (ix2 0 r) = ∑ j, p (ix2 j r) * D (ix2 j r) := by
  pointwise [delv]

theorem dsv_apply (p D : FVec Ideal S256x512 .f32) (j : Fin 256) (r : Fin 512) :
    dsv p D (ix2 j r) = p (ix2 j r) * (D (ix2 j r) - ∑ j, p (ix2 j r) * D (ix2 j r)) := by
  rw [← delv_apply]; pointwise [dsv]

theorem dskv_apply (l : FVec Ideal S256x512 .f32) (s : FVec Ideal S1x512 .f32) (D : FVec Ideal S256x512 .f32) (r : Fin 512) :
    dskv l s D (ix2 0 r) = (0 - esv l s (ix2 0 r) * invv l s (ix2 0 r)) * ∑ j, pv l s (ix2 j r) * D (ix2 j r) := by
  rw [← delv_apply]; pointwise [dskv]

theorem accv_apply (h s : Fin 2) (a : FVec Ideal S256x128 .f32) (w : FVec Ideal S256x512 .f32) (X : FVec Ideal S512x128 .bf16) (j : Fin 256) (d : Fin 64) :
    accv h a w X (ix2 j (lane s d)) = a (ix2 j (lane s d)) + if s = h then ∑ r, w (ix2 j r) * X (ix2 r (lane s d)) else 0 := by
  pointwise [accv]
  rw [half_lane]
  split <;> rfl

theorem dQv_apply (w : FVec Ideal S256x512 .f32) (K : FVec Ideal S256x128 .bf16) (r : Fin 512) (l : Fin 128) :
    dQv w K (ix2 r l) = (∑ j, w (ix2 j r) * K (ix2 j l)) * eighth := by
  pointwise [dQv]
  rw [ofBits_eighth]

theorem unpair_apply (h e s : Fin 2) (D : FVec Ideal S512x128 .f32) (hD : ∀ t r d, t ≠ h → D (ix2 r (lane t d)) = 0) (i : Fin 128) (d : Fin 64) :
    unpair h e D (ix2 i (lane s d)) = D (ix2 (row e s i) (lane h d)) := by
  have hc : ∀ (a a' : Fin 512) (b b' : Fin 128), a.val = a'.val → b.val = b'.val → D (ix2 a b) = D (ix2 a' b') := fun a a' b b' h1 h2 => by
    rw [Fin.ext h1, Fin.ext h2]
  have h0 : ∀ (a : Fin 512) (b : Fin 128) (t : Fin 2), t ≠ h → b.val / 64 = t.val → D (ix2 a b) = 0 := fun a b t ht hb => by
    rw [show b = lane t ⟨b.val % 64, by omega⟩ from Fin.ext (by simp only [lane]; omega)]; exact hD t a _ ht
  -- the left one of two lies on the key head's lanes, or the right one does; the other is zero
  have hl : ∀ (a a' a'' : Fin 512) (b b' b'' : Fin 128) (t : Fin 2), t ≠ h → b'.val / 64 = t.val → a.val = a''.val → b.val = b''.val →
      D (ix2 a b) + D (ix2 a' b') = D (ix2 a'' b'') := fun a a' a'' b b' b'' t ht hb h1 h2 => by
    rw [h0 a' b' t ht hb, add_zero]; exact hc _ _ _ _ h1 h2
  have hr : ∀ (a a' a'' : Fin 512) (b b' b'' : Fin 128) (t : Fin 2), t ≠ h → b'.val / 64 = t.val → a.val = a''.val → b.val = b''.val →
      D (ix2 a' b') + D (ix2 a b) = D (ix2 a'' b'') := fun a a' a'' b b' b'' t ht hb h1 h2 => by
    rw [h0 a' b' t ht hb, zero_add]; exact hc _ _ _ _ h1 h2
  obtain rfl | rfl : h = 0 ∨ h = 1 := by omega
  all_goals
    obtain rfl | rfl : e = 0 ∨ e = 1 := by omega
    all_goals
      pointwise [unpair, evenRows, oddRows, rot]
      obtain rfl | rfl : s = 0 ∨ s = 1 := by omega
  case inl.inl.inl | inl.inr.inl => refine hl _ _ _ _ _ _ 1 (by decide) ?_ ?_ ?_ <;> simp [row, lane] <;> omega
  case inl.inl.inr | inl.inr.inr => refine hr _ _ _ _ _ _ 1 (by decide) ?_ ?_ ?_ <;> simp [row, lane] <;> omega
  case inr.inl.inl | inr.inr.inl => refine hl _ _ _ _ _ _ 0 (by decide) ?_ ?_ ?_ <;> simp [row, lane] <;> omega
  case inr.inl.inr | inr.inr.inr => refine hr _ _ _ _ _ _ 0 (by decide) ?_ ?_ ?_ <;> simp [row, lane] <;> omega

theorem bk_apply (g : FVec Ideal S1x128 .f32) (x D : FVec Ideal S128x128 .f32) (i : Fin 128) (s : Fin 2) (d : Fin 64) :
    bk g x D (ix2 i (lane s d)) = Blk.back (fun d => x (ix2 i (lane s d))) (fun d => g (ix2 0 (lane s d))) (fun d => D (ix2 i (lane s d))) d := by
  pointwise [bk]
  rw [rs_apply, hsum_apply, hat_apply, ofBits_sixtyfourth]
  pointwise
  simp only [hat_apply]
  rfl

theorem bk2_apply (g : FVec Ideal S1x128 .f32) (x D : FVec Ideal S256x128 .f32) (i : Fin 256) (s : Fin 2) (d : Fin 64) :
    bk2 g x D (ix2 i (lane s d)) = Blk.back (fun d => x (ix2 i (lane s d))) (fun d => g (ix2 0 (lane s d))) (fun d => D (ix2 i (lane s d))) d := by
  pointwise [bk2]
  rw [rs2_apply, hsum2_apply, hat2_apply, ofBits_sixtyfourth]
  pointwise
  simp only [hat2_apply]
  rfl

theorem gsum_apply (x y : FVec Ideal S128x128 .f32) (l : Fin 128) : gsum x y (ix2 0 l) = ∑ i, x (ix2 i l) * y (ix2 i l) := by
  pointwise [gsum]

theorem gsum2_apply (x y : FVec Ideal S256x128 .f32) (l : Fin 128) : gsum2 x y (ix2 0 l) = ∑ i, x (ix2 i l) * y (ix2 i l) := by
  pointwise [gsum2]

theorem gains_zero (a b : FVec Ideal S1x128 .f32) (l : Fin 128) : gains a b (ix2 0 l) = a (ix2 0 l) := by
  pointwise [gains]

theorem gains_one (a b : FVec Ideal S1x128 .f32) (l : Fin 128) : gains a b (ix2 1 l) = b (ix2 0 l) := by
  pointwise [gains]

theorem gains_rest (a b : FVec Ideal S1x128 .f32) (u : Fin 8) (hu : 2 ≤ u.val) (l : Fin 128) : gains a b (ix2 u l) = 0 := by
  pointwise [gains]
  rw [dif_neg (by omega), dif_neg (by omega)]

end Cert.KernelIdeal.Att
end
-- ==== Proof.Block.lean ====
/- One grid point of the kernel: its eleven input blocks, the four iterations over key heads and query pairs, and what
   each output block gets, in the stages of `Vec`. -/
module
public import proofs.«01_k».proof.Proof.VecAt
public import proofs.«01_k».proof.Proof.Gen.KernelIdeal.Frame
@[expose] public section
set_option maxRecDepth 16384

noncomputable section

namespace Cert.KernelIdeal.Att
open Cert.KernelIdeal Cert.KernelIdeal.Gen Idealize.ShloMosaic

/-- The input blocks of a point (`n` is the point's number): the query columns of each key head, the keys and the
    values of the block before and of the block, the gains, the sinks, the offsets, the gradient of the output. -/
structure In where
  n : BitVec 32
  x0 : Vec Ideal S128x512 .f32
  x1 : Vec Ideal S128x512 .f32
  kp : Vec Ideal S128x128 .f32
  kc : Vec Ideal S128x128 .f32
  vp : Vec Ideal S128x128 .f32
  vc : Vec Ideal S128x128 .f32
  gq : Vec Ideal S1x128 .f32
  gk : Vec Ideal S1x128 .f32
  sk : Vec Ideal S2x1x1024 .f32
  bi : Vec Ideal S2x256x1024 .f32
  dO : Vec Ideal S128x1024 .f32

namespace In
variable (I : In)

/-- The query columns of pair `w` of key head `h`. -/
def x (h : Fin 2) (w : Fin 4) : FVec Ideal S128x128 .f32 :=
  let X := match h with | 0 => I.x0 | 1 => I.x1
  match w with
  | 0 => View.ld X (Rect.unit ![0, 0] ![128, 128] inb_S128x512_S128x128_0_0)
  | 1 => View.ld X (Rect.unit ![0, 128] ![128, 128] inb_S128x512_S128x128_0_128)
  | 2 => View.ld X (Rect.unit ![0, 256] ![128, 128] inb_S128x512_S128x128_0_256)
  | 3 => View.ld X (Rect.unit ![0, 384] ![128, 128] inb_S128x512_S128x128_0_384)

/-- The columns of the output's gradient at that pair. -/
def g (h : Fin 2) (w : Fin 4) : FVec Ideal S128x128 .f32 :=
  match h, w with
  | 0, 0 => View.ld I.dO (Rect.unit ![0, 0] ![128, 128] inb_S128x1024_S128x128_0_0)
  | 0, 1 => View.ld I.dO (Rect.unit ![0, 128] ![128, 128] inb_S128x1024_S128x128_0_128)
  | 0, 2 => View.ld I.dO (Rect.unit ![0, 256] ![128, 128] inb_S128x1024_S128x128_0_256)
  | 0, 3 => View.ld I.dO (Rect.unit ![0, 384] ![128, 128] inb_S128x1024_S128x128_0_384)
  | 1, 0 => View.ld I.dO (Rect.unit ![0, 512] ![128, 128] inb_S128x1024_S128x128_0_512)
  | 1, 1 => View.ld I.dO (Rect.unit ![0, 640] ![128, 128] inb_S128x1024_S128x128_0_640)
  | 1, 2 => View.ld I.dO (Rect.unit ![0, 768] ![128, 128] inb_S128x1024_S128x128_0_768)
  | 1, 3 => View.ld I.dO (Rect.unit ![0, 896] ![128, 128] inb_S128x1024_S128x128_0_896)

/-- The sinks and the offsets of iteration `(h, e)`. -/
def s (h e : Fin 2) : FVec Ideal S1x512 .f32 :=
  shapeCast S1x512 (match h, e with
  | 0, 0 => View.ld I.sk (Rect.unit ![0, 0, 0] ![1, 1, 512] inb_S2x1x1024_S1x1x512_0_0_0)
  | 0, 1 => View.ld I.sk (Rect.unit ![0, 0, 512] ![1, 1, 512] inb_S2x1x1024_S1x1x512_0_0_512)
  | 1, 0 => View.ld I.sk (Rect.unit ![1, 0, 0] ![1, 1, 512] inb_S2x1x1024_S1x1x512_1_0_0)
  | 1, 1 => View.ld I.sk (Rect.unit ![1, 0, 512] ![1, 1, 512] inb_S2x1x1024_S1x1x512_1_0_512)) shapeCasts_S1x1x512_S1x512
def b (h e : Fin 2) : FVec Ideal S1x256x512 .f32 :=
  match h, e with
  | 0, 0 => View.ld I.bi (Rect.unit ![0, 0, 0] ![1, 256, 512] inb_S2x256x1024_S1x256x512_0_0_0)
  | 0, 1 => View.ld I.bi (Rect.unit ![0, 0, 512] ![1, 256, 512] inb_S2x256x1024_S1x256x512_0_0_512)
  | 1, 0 => View.ld I.bi (Rect.unit ![1, 0, 0] ![1, 256, 512] inb_S2x256x1024_S1x256x512_1_0_0)
  | 1, 1 => View.ld I.bi (Rect.unit ![1, 0, 512] ![1, 256, 512] inb_S2x256x1024_S1x256x512_1_0_512)

/-- The first and the second pair of iteration `e`. -/
def w0 (e : Fin 2) : Fin 4 := match e with | 0 => 0 | 1 => 2
def w1 (e : Fin 2) : Fin 4 := match e with | 0 => 1 | 1 => 3

def K (h : Fin 2) : FVec Ideal S256x128 .bf16 := keep h (kg2 I.gk (band I.kp I.kc))
def V (h : Fin 2) : FVec Ideal S256x128 .bf16 := keep h (band I.vp I.vc)
def Q (h e : Fin 2) : FVec Ideal S512x128 .bf16 := quad h (qs I.gq (I.x h (w0 e))) (qs I.gq (I.x h (w1 e)))
def G (h e : Fin 2) : FVec Ideal S512x128 .bf16 := quad h (I.g h (w0 e)) (I.g h (w1 e))
def L (h e : Fin 2) : FVec Ideal S256x512 .f32 := lgv I.n (prod (I.K h) (I.Q h e)) (I.b h e)
def P (h e : Fin 2) : FVec Ideal S256x512 .f32 := pv (I.L h e) (I.s h e)
def D (h e : Fin 2) : FVec Ideal S256x512 .f32 := prod (I.V h) (I.G h e)
def S (h e : Fin 2) : FVec Ideal S256x512 .f32 := dsv (I.P h e) (I.D h e)
def dQ (h e : Fin 2) : FVec Ideal S512x128 .f32 := dQv (I.S h e) (I.K h)
def U (h e f : Fin 2) : FVec Ideal S128x128 .f32 := unpair h f (I.dQ h e)

/-- The query gradient of a pair. -/
def dq (h e f : Fin 2) : FVec Ideal S128x128 .bf16 :=
  truncf .bf16 (bk I.gq (I.x h (match f with | 0 => w0 e | 1 => w1 e)) (I.U h e f)) bitsLt_bf16_f32

def zero2 : FVec Ideal S256x128 .f32 := broadcast S256x128 (Scalar.ofBits .f32 0x00000000#32)
def zero1 : FVec Ideal S1x128 .f32 := broadcast S1x128 (Scalar.ofBits .f32 0x00000000#32)

/-- The gradients of the band's values and normalised keys, over the four iterations. -/
def dV : FVec Ideal S256x128 .f32 :=
  accv 1 (accv 1 (accv 0 (accv 0 zero2 (I.P 0 0) (I.G 0 0)) (I.P 0 1) (I.G 0 1)) (I.P 1 0) (I.G 1 0)) (I.P 1 1) (I.G 1 1)
def dKn : FVec Ideal S256x128 .f32 :=
  accv 1 (accv 1 (accv 0 (accv 0 zero2 (I.S 0 0) (I.Q 0 0)) (I.S 0 1) (I.Q 0 1)) (I.S 1 0) (I.Q 1 0)) (I.S 1 1) (I.Q 1 1)
def dK : FVec Ideal S256x128 .f32 := bk2 I.gk (band I.kp I.kc) I.dKn

/-- The upper and the lower half of a band. -/
def up (X : FVec Ideal S256x128 .f32) : FVec Ideal S128x128 .f32 := extractStridedSlice S128x128 ![0, 0] X slices_S256x128_o0_0_S128x128
def lo (X : FVec Ideal S256x128 .f32) : FVec Ideal S128x128 .f32 := extractStridedSlice S128x128 ![128, 0] X slices_S256x128_o128_0_S128x128

/-- The gains' gradients. -/
def gstep (a : FVec Ideal S1x128 .f32) (h e : Fin 2) : FVec Ideal S1x128 .f32 :=
  addf (addf a (gsum (I.U h e 0) (hat (I.x h (w0 e))))) (gsum (I.U h e 1) (hat (I.x h (w1 e))))
def dgq : FVec Ideal S1x128 .f32 := I.gstep (I.gstep (I.gstep (I.gstep zero1 0 0) 0 1) 1 0) 1 1
def dgk : FVec Ideal S1x128 .f32 := gsum2 I.dKn (hat2 (band I.kp I.kc))
def dg : FVec Ideal S8x128 .f32 := gains I.dgq I.dgk

/-- The sinks' gradient of an iteration, and what is added to a stretch of an accumulated output. -/
def dsk (h e : Fin 2) : FVec Ideal S1x512 .f32 := dskv (I.L h e) (I.s h e) (I.D h e)
def addK (a : FVec Ideal S1x1x512 .f32) (d : FVec Ideal S1x512 .f32) : FVec Ideal S1x1x512 .f32 :=
  shapeCast S1x1x512 (addf (shapeCast S1x512 a shapeCasts_S1x1x512_S1x512) d) shapeCasts_S1x512_S1x1x512
def addL (a : FVec Ideal S1x256x512 .f32) (d : FVec Ideal S256x512 .f32) : FVec Ideal S1x256x512 .f32 :=
  shapeCast S1x256x512 (addf (shapeCast S256x512 a shapeCasts_S1x256x512_S256x512) d) shapeCasts_S256x512_S1x256x512

/-- The four stretches of the accumulated outputs. -/
abbrev rk00 : Rect S2x1x1024 := Rect.unit ![0, 0, 0] ![1, 1, 512] inb_S2x1x1024_S1x1x512_0_0_0
abbrev rk01 : Rect S2x1x1024 := Rect.unit ![0, 0, 512] ![1, 1, 512] inb_S2x1x1024_S1x1x512_0_0_512
abbrev rk10 : Rect S2x1x1024 := Rect.unit ![1, 0, 0] ![1, 1, 512] inb_S2x1x1024_S1x1x512_1_0_0
abbrev rk11 : Rect S2x1x1024 := Rect.unit ![1, 0, 512] ![1, 1, 512] inb_S2x1x1024_S1x1x512_1_0_512
abbrev rl00 : Rect S2x256x1024 := Rect.unit ![0, 0, 0] ![1, 256, 512] inb_S2x256x1024_S1x256x512_0_0_0
abbrev rl01 : Rect S2x256x1024 := Rect.unit ![0, 0, 512] ![1, 256, 512] inb_S2x256x1024_S1x256x512_0_0_512
abbrev rl10 : Rect S2x256x1024 := Rect.unit ![1, 0, 0] ![1, 256, 512] inb_S2x256x1024_S1x256x512_1_0_0
abbrev rl11 : Rect S2x256x1024 := Rect.unit ![1, 0, 512] ![1, 256, 512] inb_S2x256x1024_S1x256x512_1_0_512

abbrev PK := View.Piece (Elt Ideal) S2x1x1024 .f32
abbrev PL := View.Piece (Elt Ideal) S2x256x1024 .f32
/-- The stores of the sinks' gradient at the first point: zeros, then the four iterations' additions. -/
def k0 : List PK := [⟨Rect.unit ![0, 0, 0] ![2, 1, 1024] inb_S2x1x1024_S2x1x1024_0_0_0, broadcast S2x1x1024 ((Scalar.ofBits .f32 0x00000000#32 : Ideal .f32))⟩]
def kA (v : View sig .tc .vmem S2x1x1024 .f32) : List PK :=
  let k1 := ⟨rk00, addK (v.readCov k0 rk00) (I.dsk 0 0)⟩ :: k0
  let k2 := ⟨rk01, addK (v.readCov k1 rk01) (I.dsk 0 1)⟩ :: k1
  let k3 := ⟨rk10, addK (v.readCov k2 rk10) (I.dsk 1 0)⟩ :: k2
  ⟨rk11, addK (v.readCov k3 rk11) (I.dsk 1 1)⟩ :: k3
/-- The stores at a later point, over the contents `o` of the point before. -/
def kB (o : Vec Ideal S2x1x1024 .f32) : List PK :=
  [⟨rk11, addK (View.ld o rk11) (I.dsk 1 1)⟩, ⟨rk10, addK (View.ld o rk10) (I.dsk 1 0)⟩, ⟨rk01, addK (View.ld o rk01) (I.dsk 0 1)⟩, ⟨rk00, addK (View.ld o rk00) (I.dsk 0 0)⟩]
/-- The same for the offsets' gradient. -/
def l0 : List PL := [⟨Rect.unit ![0, 0, 0] ![2, 256, 1024] inb_S2x256x1024_S2x256x1024_0_0_0, broadcast S2x256x1024 ((Scalar.ofBits .f32 0x00000000#32 : Ideal .f32))⟩]
def lA (v : View sig .tc .vmem S2x256x1024 .f32) : List PL :=
  let k1 := ⟨rl00, addL (v.readCov l0 rl00) (I.S 0 0)⟩ :: l0
  let k2 := ⟨rl01, addL (v.readCov k1 rl01) (I.S 0 1)⟩ :: k1
  let k3 := ⟨rl10, addL (v.readCov k2 rl10) (I.S 1 0)⟩ :: k2
  ⟨rl11, addL (v.readCov k3 rl11) (I.S 1 1)⟩ :: k3
def lB (o : Vec Ideal S2x256x1024 .f32) : List PL :=
  [⟨rl11, addL (View.ld o rl11) (I.S 1 1)⟩, ⟨rl10, addL (View.ld o rl10) (I.S 1 0)⟩, ⟨rl01, addL (View.ld o rl01) (I.S 0 1)⟩, ⟨rl00, addL (View.ld o rl00) (I.S 0 0)⟩]
/-- The eight stores of the query gradient. -/
def qL : List (View.Piece (Elt Ideal) S128x1024 .bf16) :=
  [⟨Rect.unit ![0, 896] ![128, 128] inb_S128x1024_S128x128_0_896, I.dq 1 1 1⟩, ⟨Rect.unit ![0, 768] ![128, 128] inb_S128x1024_S128x128_0_768, I.dq 1 1 0⟩,
   ⟨Rect.unit ![0, 640] ![128, 128] inb_S128x1024_S128x128_0_640, I.dq 1 0 1⟩, ⟨Rect.unit ![0, 512] ![128, 128] inb_S128x1024_S128x128_0_512, I.dq 1 0 0⟩,
   ⟨Rect.unit ![0, 384] ![128, 128] inb_S128x1024_S128x128_0_384, I.dq 0 1 1⟩, ⟨Rect.unit ![0, 256] ![128, 128] inb_S128x1024_S128x128_0_256, I.dq 0 1 0⟩,
   ⟨Rect.unit ![0, 128] ![128, 128] inb_S128x1024_S128x128_0_128, I.dq 0 0 1⟩, ⟨Rect.unit ![0, 0] ![128, 128] inb_S128x1024_S128x128_0_0, I.dq 0 0 0⟩]

end In
end Cert.KernelIdeal.Att
end
-- ==== Proof.BlockAt.lean ====
/- A grid point's vectors at an index are the entries of `Spec` for the block its inputs hold. -/
module
public import proofs.«01_k».proof.Proof.Block
@[expose] public section
set_option maxRecDepth 16384

noncomputable section

namespace Cert.KernelIdeal.Att
open Cert.KernelIdeal Cert.KernelIdeal.Gen Idealize.ShloMosaic Cert.Attention
open Cert.Attention.Blk (eighth sixtyfourth)

/-- Pair `f` of iteration `e`, and head `t` of pair `w`. -/
def pr (e f : Fin 2) : Fin 4 := ⟨2 * e.val + f.val, by omega⟩
def hd (w : Fin 4) (t : Fin 2) : Fin 8 := ⟨2 * w.val + t.val, by omega⟩

theorem sum_heads {M : Type*} [AddCommMonoid M] (F : Fin 8 → M) : ∑ g, F g = ∑ e, ∑ f, ∑ t, F (hd (pr e f) t) := by
  simp only [Fin.sum_univ_eight, Fin.sum_univ_two]
  simp only [hd, pr]
  show _ = F 0 + F 1 + (F 2 + F 3) + (F 4 + F 5 + (F 6 + F 7))
  ac_rfl

/-- The inputs of a point hold the block `B`. -/
structure Holds (I : In) (B : Blk) : Prop where
  x : ∀ h w t i d, I.x h w (ix2 i (lane t d)) = B.q h (hd w t) i d
  g : ∀ h w t i d, I.g h w (ix2 i (lane t d)) = B.dO h (hd w t) i d
  k : ∀ h j d, band I.kp I.kc (ix2 j (lane h d)) = B.k h j d
  v : ∀ h j d, band I.vp I.vc (ix2 j (lane h d)) = B.v h j d
  gq : ∀ t d, I.gq (ix2 0 (lane t d)) = B.gq d
  gk : ∀ t d, I.gk (ix2 0 (lane t d)) = B.gk d
  s : ∀ h e f t i, I.s h e (ix2 0 (row f t i)) = B.sink h (hd (pr e f) t)
  b : ∀ h e j f t i (a : EReal), (if I.n = 0#32 ∧ j.val < 128 then ⊥ else a + I.b h e (ix3 0 j (row f t i)))
    = if B.ok j i then a + B.bias h (hd (pr e f) t) j i else ⊥

namespace In
variable {I : In} {B : Blk} (H : Holds I B)

theorem w_eq (e f : Fin 2) : (if f = 0 then w0 e else w1 e) = pr e f := by
  fin_cases e <;> fin_cases f <;> rfl

theorem pick {α β : Type} (F : Fin 4 → α → β) (e f : Fin 2) : (if f = 0 then F (w0 e) else F (w1 e)) = F (pr e f) := by
  rw [← w_eq]; split <;> rfl

include H
variable (h e f t : Fin 2) (i : Fin 128) (j : Fin 256) (d : Fin 64)

theorem K_apply (s : Fin 2) : I.K h (ix2 j (lane s d)) = if s = h then B.kn h j d else 0 := by
  unfold K
  rw [keep_apply]
  split
  · rename_i hs; subst hs
    rw [kg2_apply]; simp only [H.k, H.gk]; rfl
  · rfl

theorem V_apply (s : Fin 2) : I.V h (ix2 j (lane s d)) = if s = h then B.v h j d else 0 := by
  unfold V
  rw [keep_apply]
  split
  · rename_i hs; subst hs; rw [H.v]
  · rfl

theorem qs_at (w : Fin 4) : qs I.gq (I.x h w) (ix2 i (lane t d)) = B.qn h (hd w t) i d * eighth := by
  rw [qs_apply]; simp only [H.x, H.gq]; rfl

theorem Q_apply : I.Q h e (ix2 (row f t i) (lane h d)) = B.qn h (hd (pr e f) t) i d * eighth := by
  unfold Q
  rw [quad_apply, pick (fun w => qs I.gq (I.x h w)) e f, qs_at H]

theorem G_apply : I.G h e (ix2 (row f t i) (lane h d)) = B.dO h (hd (pr e f) t) i d := by
  unfold G
  rw [quad_apply, pick (fun w => I.g h w) e f, H.g]

theorem L_apply : I.L h e (ix2 j (row f t i)) = B.lg h (hd (pr e f) t) i j := by
  unfold L
  rw [lgv_apply, H.b]
  unfold Blk.lg
  refine if_congr Iff.rfl ?_ rfl
  congr 1
  unfold K Q
  rw [prod_keep, pick (fun w => qs I.gq (I.x h w)) e f]
  have h1 : ∀ d, kg2 I.gk (band I.kp I.kc) (ix2 j (lane h d)) * qs I.gq (I.x h (pr e f)) (ix2 i (lane t d))
      = B.kn h j d * B.qn h (hd (pr e f) t) i d * eighth := fun d => by
    rw [qs_at H, kg2_apply, ← mul_assoc]; simp only [H.k, H.gk]; rfl
  rw [Finset.sum_congr rfl fun d _ => h1 d]
  exact (sum_mul_real _ _ (1 / 8) (by norm_num)).symm

theorem mx_apply : mxv (I.L h e) (I.s h e) (ix2 0 (row f t i)) = B.mx h (hd (pr e f) t) i := by
  rw [mxv_apply, H.s]; simp only [L_apply H]; rfl
theorem ex_apply : exv (I.L h e) (I.s h e) (ix2 j (row f t i)) = B.ex h (hd (pr e f) t) i j := by
  rw [exv_apply, mx_apply H, L_apply H]; rfl
theorem es_apply : esv (I.L h e) (I.s h e) (ix2 0 (row f t i)) = B.es h (hd (pr e f) t) i := by
  rw [esv_apply, mx_apply H, H.s]; rfl
theorem inv_apply : invv (I.L h e) (I.s h e) (ix2 0 (row f t i)) = B.inv h (hd (pr e f) t) i := by
  rw [invv_apply, es_apply H]; simp only [ex_apply H]; rfl
theorem P_apply : I.P h e (ix2 j (row f t i)) = B.p h (hd (pr e f) t) i j := by
  unfold P; rw [pv_apply, ex_apply H, inv_apply H]; rfl
theorem D_apply : I.D h e (ix2 j (row f t i)) = B.dp h (hd (pr e f) t) i j := by
  unfold D V G
  rw [prod_keep, pick (fun w => I.g h w) e f]
  simp only [H.v, H.g]; rfl
theorem S_apply : I.S h e (ix2 j (row f t i)) = B.ds h (hd (pr e f) t) i j := by
  unfold S; rw [dsv_apply]; simp only [P_apply H, D_apply H]; rfl
theorem dsk_apply : I.dsk h e (ix2 0 (row f t i)) = B.dsink h (hd (pr e f) t) i := by
  unfold dsk; rw [dskv_apply, es_apply H, inv_apply H]
  have h1 : ∀ j, pv (I.L h e) (I.s h e) (ix2 j (row f t i)) * I.D h e (ix2 j (row f t i))
      = B.p h (hd (pr e f) t) i j * B.dp h (hd (pr e f) t) i j := fun j => by rw [← P_apply H, ← D_apply H]; rfl
  simp only [h1]; rfl

theorem dQ_apply (s : Fin 2) : I.dQ h e (ix2 (row f t i) (lane s d)) = if s = h then B.dqn h (hd (pr e f) t) i d else 0 := by
  unfold dQ
  rw [dQv_apply]
  simp only [S_apply H, K_apply H]
  split
  · rfl
  · simp

theorem U_apply : I.U h e f (ix2 i (lane t d)) = B.dqn h (hd (pr e f) t) i d := by
  unfold U
  rw [unpair_apply, dQ_apply H, if_pos rfl]
  intro u r d hu
  obtain ⟨f, t, i, rfl⟩ := row_cases r
  rw [dQ_apply H, if_neg hu]

theorem dq_apply : I.dq h e f (ix2 i (lane t d)) = B.dq h (hd (pr e f) t) i d := by
  unfold dq
  refine (congrArg (fun w => bk I.gq (I.x h w) (I.U h e f) (ix2 i (lane t d)))
    (show _ = pr e f by fin_cases e <;> fin_cases f <;> rfl)).trans ?_
  rw [bk_apply]
  simp only [H.x, H.gq, U_apply H]; rfl

omit H in
theorem acc_sum (W : Fin 2 → Fin 2 → FVec Ideal S256x512 .f32) (X : Fin 2 → Fin 2 → FVec Ideal S512x128 .bf16) (s : Fin 2) :
    accv 1 (accv 1 (accv 0 (accv 0 zero2 (W 0 0) (X 0 0)) (W 0 1) (X 0 1)) (W 1 0) (X 1 0)) (W 1 1) (X 1 1) (ix2 j (lane s d))
      = ∑ e, ∑ f, ∑ t, ∑ i, W s e (ix2 j (row f t i)) * X s e (ix2 (row f t i) (lane s d)) := by
  simp only [accv_apply]
  have hz : zero2 (ix2 j (lane s d)) = (0 : EReal) := by
    show Ideal.ofBits .f32 0x00000000#32 = 0
    simp [Ideal.ofBits, Ideal.ieee]
  rw [hz]
  obtain rfl | rfl : s = 0 ∨ s = 1 := by omega
  · simp [sum_row, Fin.sum_univ_two]
  · simp [sum_row, Fin.sum_univ_two]

theorem dV_apply : I.dV (ix2 j (lane h d)) = B.dv h j d := by
  unfold dV
  rw [acc_sum j d I.P I.G h]
  simp only [P_apply H, G_apply H]
  unfold Blk.dv
  rw [sum_heads]

theorem dKn_apply : I.dKn (ix2 j (lane h d)) = B.dkn h j d := by
  unfold dKn
  rw [acc_sum j d I.S I.Q h]
  simp only [S_apply H, Q_apply H]
  unfold Blk.dkn
  rw [sum_heads]

theorem dK_apply : I.dK (ix2 j (lane h d)) = B.dk h j d := by
  unfold dK
  rw [bk2_apply]
  simp only [dKn_apply H, H.k, H.gk]; rfl

theorem gs_apply (w : Fin 4) (hw : w = pr e f) : gsum (I.U h e f) (hat (I.x h w)) (ix2 0 (lane t d))
    = ∑ i, B.dqn h (hd (pr e f) t) i d * B.qh h (hd (pr e f) t) i d := by
  subst hw
  rw [gsum_apply]
  simp only [U_apply H, hat_apply, H.x]; rfl

theorem dgq_apply : I.dgq (ix2 0 (lane t d)) = B.dqg d t := by
  have hz : zero1 (ix2 0 (lane t d)) = (0 : EReal) := by
    show Ideal.ofBits .f32 0x00000000#32 = 0
    simp [Ideal.ofBits, Ideal.ieee]
  unfold dgq gstep
  simp only [show ∀ a b : FVec Ideal S1x128 .f32, addf a b (ix2 0 (lane t d)) = a (ix2 0 (lane t d)) + b (ix2 0 (lane t d)) from fun _ _ => rfl]
  rw [hz, zero_add]
  simp only [gs_apply H _ 0 0 t d (w0 0) rfl, gs_apply H _ 0 1 t d (w1 0) rfl, gs_apply H _ 1 0 t d (w0 1) rfl, gs_apply H _ 1 1 t d (w1 1) rfl]
  unfold Blk.dqg
  simp only [Fin.sum_univ_two, Fin.sum_univ_four]
  show _ + _ + _ + _ + _ + _ + _ + _ = _
  simp only [← add_assoc]
  rfl

theorem dgk_apply : I.dgk (ix2 0 (lane h d)) = B.dkg h d := by
  unfold dgk
  rw [gsum2_apply]
  simp only [dKn_apply H, hat2_apply, H.k]; rfl

end In
end Cert.KernelIdeal.Att
end
-- ==== Proof.Entry.lean ====
/- The blocks of the arguments as the gradient's specification reads them. -/
module
public import proofs.«01_k».proof.Proof.Spec
public import proofs.«01_k».proof.Proof.Gen.ReferenceIdeal.Read
public import Idealize.ShloMosaic.Lib.Pointwise
@[expose] public section
set_option maxRecDepth 65536

noncomputable section

namespace Cert.Attention
open Cert.ReferenceIdeal Idealize.ShloMosaic Idealize.ShloMosaic.TcCoe

/-- Block `n` of the arrays: the kernel's block before the first is the first itself. -/
def blkAt (z : FVec Ideal S8192x6400 .f32) (gq gk : FVec Ideal S1x64 .f32) (sk : FVec Ideal S1x16 .f32) (tb : FVec Ideal S32x16 .f32)
    (dO : FVec Ideal S8192x1024 .f32) (n : Fin 64) : Blk where
  q h g i d := z (ix2 ⟨n.val * 128 + i.val, by omega⟩ ⟨1024 + (h.val * 512 + g.val * 64 + d.val), by omega⟩)
  k h j d := z (ix2 ⟨if j.val < 128 then (n.val - 1) * 128 + j.val else n.val * 128 + (j.val - 128), by split <;> omega⟩
    ⟨2048 + (h.val * 64 + d.val), by omega⟩)
  v h j d := z (ix2 ⟨if j.val < 128 then (n.val - 1) * 128 + j.val else n.val * 128 + (j.val - 128), by split <;> omega⟩
    ⟨2176 + (h.val * 64 + d.val), by omega⟩)
  gq d := gq (ix2 0 d)
  gk d := gk (ix2 0 d)
  sink h g := sk (ix2 0 ⟨h.val * 8 + g.val, by omega⟩)
  bias h g j i := Read.val_main_v84 (F := Ideal) tb (ix3 i j ⟨h.val * 8 + g.val, by omega⟩)
  ok j i := decide (i.val < j.val ∧ j.val ≤ i.val + 128 ∧ (n.val = 0 → 128 ≤ j.val))
  dO h g i d := dO (ix2 ⟨n.val * 128 + i.val, by omega⟩ ⟨h.val * 512 + g.val * 64 + d.val, by omega⟩)

section
variable (x0 : FVec Ideal S8192x6400 .f32) (x1 x2 : FVec Ideal S1x64 .f32) (x3 : FVec Ideal S1x16 .f32) (x4 : FVec Ideal S32x16 .f32)
  (x5 : FVec Ideal S8192x1024 .f32) (n : Fin 64)

/-- The keys (or values) of the band of block `n`, from column `o` on, with nothing before the first block. -/
def bandAt (o : Nat) (ho : o ≤ 2176) (h : Fin 2) (j : Fin 256) (d : Fin 64) : EReal :=
  if j.val < 128 then if n.val = 0 then 0 else x0 (ix2 ⟨(n.val - 1) * 128 + j.val % 128, by omega⟩ ⟨o + (h.val * 64 + d.val), by omega⟩)
  else x0 (ix2 ⟨n.val * 128 + (j.val - 128), by omega⟩ ⟨o + (h.val * 64 + d.val), by omega⟩)

/-- Block `n` with nothing before the first block. -/
abbrev refBlk : Blk := (blkAt x0 x1 x2 x3 x4 x5 n).other (bandAt x0 n 2048 (by omega)) (bandAt x0 n 2176 (by omega))

/-- The two differ only in keys that no query sees. -/
theorem band_differ (j : Fin 256) : (∀ i, (blkAt x0 x1 x2 x3 x4 x5 n).ok j i = false)
    ∨ ∀ h, (blkAt x0 x1 x2 x3 x4 x5 n).k h j = bandAt x0 n 2048 (by omega) h j ∧ (blkAt x0 x1 x2 x3 x4 x5 n).v h j = bandAt x0 n 2176 (by omega) h j := by
  by_cases h0 : n.val = 0 ∧ j.val < 128
  · left
    intro i
    show decide _ = false
    rw [decide_eq_false_iff_not]
    omega
  · right
    refine fun h => ⟨funext fun d => ?_, funext fun d => ?_⟩
    all_goals
      show x0 _ = _
      unfold bandAt
      by_cases h1 : j.val < 128
      · refine Eq.trans ?_ ((if_pos h1).trans (if_neg (fun h2 => h0 ⟨h2, h1⟩))).symm
        exact congrArg (fun a => x0 (ix2 a _)) (Fin.ext (by show (if _ then _ else _) = (n.val - 1) * 128 + j.val % 128; rw [if_pos h1]; omega))
      · refine Eq.trans ?_ (if_neg h1).symm
        exact congrArg (fun a => x0 (ix2 a _)) (Fin.ext (by show (if _ then _ else _) = _; rw [if_neg h1]))
end
end Cert.Attention
-- ==== Proof.Pieces.lean ====
/- What the stores of a point leave: the query gradient's columns, and in the accumulated outputs the contents before
   plus the point's four additions. -/
module
public import proofs.«01_k».proof.Proof.Block
@[expose] public section
set_option maxRecDepth 16384

noncomputable section

namespace Cert.KernelIdeal.Att
open Cert.KernelIdeal Cert.KernelIdeal.Gen Idealize.ShloMosaic

variable {S : Shape} {e : EltTy}

/-- Stores on top of others decide where they lie … -/
theorem canon_top (G : S.Idx → Elt Ideal e) (L L0 : List (View.Piece (Elt Ideal) S e)) (hG : ∀ p ∈ L, ∀ x, p.2 x = G (p.1.emb x))
    (y : S.Idx) (hy : ∃ p ∈ L, y ∈ p.1.set) : View.canon (L ++ L0) y = G y := by
  induction L with
  | nil => simp at hy
  | cons p L ih =>
    by_cases h : y ∈ p.1.set
    · obtain ⟨x, rfl⟩ := p.1.exists_idx_of_mem h
      exact (View.canon_cons_emb p.1 p.2 _ x).trans (hG p (by simp) x)
    · refine (View.canon_cons_of_not_mem p _ h).trans (ih (fun q hq => hG q (by simp [hq])) ?_)
      obtain ⟨q, hq, hy⟩ := hy
      rcases List.mem_cons.mp hq with rfl | hq
      · exact absurd hy h
      · exact ⟨q, hq, hy⟩

/-- … and leave the rest. -/
theorem canon_off (L L0 : List (View.Piece (Elt Ideal) S e)) (y : S.Idx) (hy : ∀ p ∈ L, y ∉ p.1.set) :
    View.canon (L ++ L0) y = View.canon L0 y := by
  induction L with
  | nil => rfl
  | cons p L ih => exact (View.canon_cons_of_not_mem p _ (hy p (by simp))).trans (ih fun q hq => hy q (by simp [hq]))

/-- Four stores that cover an index. -/
theorem canon_four (G : S.Idx → Elt Ideal e) (r1 r2 r3 r4 : Rect S) (w1 : r1.shape.Idx → Elt Ideal e) (w2 : r2.shape.Idx → Elt Ideal e)
    (w3 : r3.shape.Idx → Elt Ideal e) (w4 : r4.shape.Idx → Elt Ideal e) (L0 : List (View.Piece (Elt Ideal) S e))
    (h1 : ∀ x, w1 x = G (r1.emb x)) (h2 : ∀ x, w2 x = G (r2.emb x)) (h3 : ∀ x, w3 x = G (r3.emb x)) (h4 : ∀ x, w4 x = G (r4.emb x))
    (y : S.Idx) (hy : y ∈ r1.set ∨ y ∈ r2.set ∨ y ∈ r3.set ∨ y ∈ r4.set) :
    View.canon (⟨r1, w1⟩ :: ⟨r2, w2⟩ :: ⟨r3, w3⟩ :: ⟨r4, w4⟩ :: L0) y = G y := by
  refine canon_top G [⟨r1, w1⟩, ⟨r2, w2⟩, ⟨r3, w3⟩, ⟨r4, w4⟩] L0 ?_ y ?_
  · simp only [List.forall_mem_cons]
    exact ⟨h1, h2, h3, h4, by simp⟩
  · rcases hy with h | h | h | h
    · exact ⟨⟨r1, w1⟩, by simp, h⟩
    · exact ⟨⟨r2, w2⟩, by simp, h⟩
    · exact ⟨⟨r3, w3⟩, by simp, h⟩
    · exact ⟨⟨r4, w4⟩, by simp, h⟩

/-- Eight stores that cover an index. -/
theorem canon_eight (G : S.Idx → Elt Ideal e) (r1 r2 r3 r4 r5 r6 r7 r8 : Rect S) (w1 : r1.shape.Idx → Elt Ideal e) (w2 : r2.shape.Idx → Elt Ideal e) (w3 : r3.shape.Idx → Elt Ideal e) (w4 : r4.shape.Idx → Elt Ideal e) (w5 : r5.shape.Idx → Elt Ideal e) (w6 : r6.shape.Idx → Elt Ideal e) (w7 : r7.shape.Idx → Elt Ideal e) (w8 : r8.shape.Idx → Elt Ideal e)
    (h1 : ∀ x, w1 x = G (r1.emb x)) (h2 : ∀ x, w2 x = G (r2.emb x)) (h3 : ∀ x, w3 x = G (r3.emb x)) (h4 : ∀ x, w4 x = G (r4.emb x)) (h5 : ∀ x, w5 x = G (r5.emb x)) (h6 : ∀ x, w6 x = G (r6.emb x)) (h7 : ∀ x, w7 x = G (r7.emb x)) (h8 : ∀ x, w8 x = G (r8.emb x))
    (y : S.Idx) (hy : y ∈ r1.set ∨ y ∈ r2.set ∨ y ∈ r3.set ∨ y ∈ r4.set ∨ y ∈ r5.set ∨ y ∈ r6.set ∨ y ∈ r7.set ∨ y ∈ r8.set) :
    View.canon [⟨r1, w1⟩, ⟨r2, w2⟩, ⟨r3, w3⟩, ⟨r4, w4⟩, ⟨r5, w5⟩, ⟨r6, w6⟩, ⟨r7, w7⟩, ⟨r8, w8⟩] y = G y := by
  refine View.canon_apply_of_pieces G _ ?_ y ?_
  · simp only [List.forall_mem_cons]
    exact ⟨h1, h2, h3, h4, h5, h6, h7, h8, by simp⟩
  · rcases hy with h | h | h | h | h | h | h | h
    · exact ⟨⟨r1, w1⟩, by simp, h⟩
    · exact ⟨⟨r2, w2⟩, by simp, h⟩
    · exact ⟨⟨r3, w3⟩, by simp, h⟩
    · exact ⟨⟨r4, w4⟩, by simp, h⟩
    · exact ⟨⟨r5, w5⟩, by simp, h⟩
    · exact ⟨⟨r6, w6⟩, by simp, h⟩
    · exact ⟨⟨r7, w7⟩, by simp, h⟩
    · exact ⟨⟨r8, w8⟩, by simp, h⟩

theorem hz3 : (![0, 0, 0] : Fin 3 → Nat) = fun _ => 0 := funext fun a => by fin_cases a <;> rfl

namespace In
variable (I : In)

/-- Which iteration a column of a stretch belongs to. -/
def half (c : Fin 1024) : Fin 2 := ⟨c.val / 512, by omega⟩
def col (c : Fin 1024) : Fin 512 := ⟨c.val % 512, by omega⟩
theorem half_of (c : Fin 1024) (r : Fin 512) (h : c.val = 0 + 1 * r.val) : half c = 0 := by ext; show c.val / 512 = 0; omega
theorem half_of' (c : Fin 1024) (r : Fin 512) (h : c.val = 512 + 1 * r.val) : half c = 1 := by ext; show c.val / 512 = 1; omega
theorem col_of (c : Fin 1024) (r : Fin 512) (h : c.val = 0 + 1 * r.val) : col c = r := by ext; show c.val % 512 = r.val; omega
theorem col_of' (c : Fin 1024) (r : Fin 512) (h : c.val = 512 + 1 * r.val) : col c = r := by ext; show c.val % 512 = r.val; omega

/-- The point's additions, over the whole accumulated outputs. -/
def totK : S2x1x1024.Idx → EReal := fun y => I.dsk (y 0) (half (y 2)) (ix2 0 (col (y 2)))
def totL : S2x256x1024.Idx → EReal := fun y => I.S (y 0) (half (y 2)) (ix2 (y 1) (col (y 2)))

theorem addK_apply (a : FVec Ideal S1x1x512 .f32) (d : FVec Ideal S1x512 .f32) (x : S1x1x512.Idx) : addK a d x = a x + d (ix2 0 (x 2)) := by
  idx_vars x
  obtain rfl : x0 = 0 := by omega
  obtain rfl : x1 = 0 := by omega
  pointwise [addK]
theorem addL_apply (a : FVec Ideal S1x256x512 .f32) (d : FVec Ideal S256x512 .f32) (x : S1x256x512.Idx) :
    addL a d x = a x + d (ix2 (x 1) (x 2)) := by
  idx_vars x
  obtain rfl : x0 = 0 := by omega
  pointwise [addL]

theorem zeroK (y : S2x1x1024.Idx) : View.canon k0 y = (0 : EReal) := by
  unfold k0
  rw [View.canon_cons_unit_zero (S := S2x1x1024) hz3]
  show Ideal.ofBits .f32 0x00000000#32 = 0
  simp [Ideal.ofBits, Ideal.ieee]

theorem readK (v : View sig .tc .vmem S2x1x1024 .f32) (L : List PK) (r : Rect S2x1x1024) (x : r.shape.Idx)
    (h : ∀ p ∈ L, r.emb x ∉ p.1.set) : v.readCov (L ++ k0) r x = (0 : EReal) := by
  rw [View.readCov_eq_canon_ld v (L ++ k0) r fun y => ⟨_, List.mem_append_right L (List.mem_singleton.mpr rfl), View.mem_set_unit_zero hz3 inb_S2x1x1024_S2x1x1024_0_0_0 y⟩]
  exact (canon_off L k0 (r.emb x) h).trans (zeroK _)

theorem coverK (y : S2x1x1024.Idx) : y ∈ rk11.set ∨ y ∈ rk10.set ∨ y ∈ rk01.set ∨ y ∈ rk00.set := by
  idx_vars y
  simp only [rk11, rk10, rk01, rk00, Rect.mem_set_unit, Fin.forall_fin_succ, Fin.forall_fin_zero]
  simp
  omega

theorem valK (h e : Fin 2) (y : S2x1x1024.Idx) (x : Fin 512) (h0 : (y 0).val = h.val) (h2 : (y 2).val = e.val * 512 + x.val) :
    I.totK y = I.dsk h e (ix2 0 x) := by
  have e0 : y 0 = h := Fin.ext h0
  have e1 : half (y 2) = e := by ext; show (y 2).val / 512 = e.val; omega
  have e2 : col (y 2) = x := by ext; show (y 2).val % 512 = x.val; omega
  unfold totK
  rw [e0, e1, e2]

theorem zeroL (y : S2x256x1024.Idx) : View.canon l0 y = (0 : EReal) := by
  unfold l0
  rw [View.canon_cons_unit_zero (S := S2x256x1024) hz3]
  show Ideal.ofBits .f32 0x00000000#32 = 0
  simp [Ideal.ofBits, Ideal.ieee]

theorem readL (v : View sig .tc .vmem S2x256x1024 .f32) (L : List PL) (r : Rect S2x256x1024) (x : r.shape.Idx)
    (h : ∀ p ∈ L, r.emb x ∉ p.1.set) : v.readCov (L ++ l0) r x = (0 : EReal) := by
  rw [View.readCov_eq_canon_ld v (L ++ l0) r fun y => ⟨_, List.mem_append_right L (List.mem_singleton.mpr rfl), View.mem_set_unit_zero hz3 inb_S2x256x1024_S2x256x1024_0_0_0 y⟩]
  exact (canon_off L l0 (r.emb x) h).trans (zeroL _)

theorem coverL (y : S2x256x1024.Idx) : y ∈ rl11.set ∨ y ∈ rl10.set ∨ y ∈ rl01.set ∨ y ∈ rl00.set := by
  idx_vars y
  simp only [rl11, rl10, rl01, rl00, Rect.mem_set_unit, Fin.forall_fin_succ, Fin.forall_fin_zero]
  simp
  omega

theorem valL (h e : Fin 2) (y : S2x256x1024.Idx) (x : Fin 512) (h0 : (y 0).val = h.val) (h2 : (y 2).val = e.val * 512 + x.val) :
    I.totL y = I.S h e (ix2 (y 1) x) := by
  have e0 : y 0 = h := Fin.ext h0
  have e1 : half (y 2) = e := by ext; show (y 2).val / 512 = e.val; omega
  have e2 : col (y 2) = x := by ext; show (y 2).val % 512 = x.val; omega
  unfold totL
  rw [e0, e1, e2]

theorem offK11_10 (x : S1x1x512.Idx) : rk11.emb x ∉ rk10.set := fun hm => by
  have h := (Rect.mem_set_unit.mp hm 2).2
  change 512 + 1 * (x 2).val < 0 + 512 at h
  omega

theorem offK11_01 (x : S1x1x512.Idx) : rk11.emb x ∉ rk01.set := fun hm => by
  have h := (Rect.mem_set_unit.mp hm 0).2
  change 1 + 1 * (x 0).val < 0 + 1 at h
  omega

theorem offK11_00 (x : S1x1x512.Idx) : rk11.emb x ∉ rk00.set := fun hm => by
  have h := (Rect.mem_set_unit.mp hm 0).2
  change 1 + 1 * (x 0).val < 0 + 1 at h
  omega

theorem offK10_01 (x : S1x1x512.Idx) : rk10.emb x ∉ rk01.set := fun hm => by
  have h := (Rect.mem_set_unit.mp hm 0).2
  change 1 + 1 * (x 0).val < 0 + 1 at h
  omega

theorem offK10_00 (x : S1x1x512.Idx) : rk10.emb x ∉ rk00.set := fun hm => by
  have h := (Rect.mem_set_unit.mp hm 0).2
  change 1 + 1 * (x 0).val < 0 + 1 at h
  omega

theorem offK01_00 (x : S1x1x512.Idx) : rk01.emb x ∉ rk00.set := fun hm => by
  have h := (Rect.mem_set_unit.mp hm 2).2
  change 512 + 1 * (x 2).val < 0 + 512 at h
  omega

theorem offL11_10 (x : S1x256x512.Idx) : rl11.emb x ∉ rl10.set := fun hm => by
  have h := (Rect.mem_set_unit.mp hm 2).2
  change 512 + 1 * (x 2).val < 0 + 512 at h
  omega

theorem offL11_01 (x : S1x256x512.Idx) : rl11.emb x ∉ rl01.set := fun hm => by
  have h := (Rect.mem_set_unit.mp hm 0).2
  change 1 + 1 * (x 0).val < 0 + 1 at h
  omega

theorem offL11_00 (x : S1x256x512.Idx) : rl11.emb x ∉ rl00.set := fun hm => by
  have h := (Rect.mem_set_unit.mp hm 0).2
  change 1 + 1 * (x 0).val < 0 + 1 at h
  omega

theorem offL10_01 (x : S1x256x512.Idx) : rl10.emb x ∉ rl01.set := fun hm => by
  have h := (Rect.mem_set_unit.mp hm 0).2
  change 1 + 1 * (x 0).val < 0 + 1 at h
  omega

theorem offL10_00 (x : S1x256x512.Idx) : rl10.emb x ∉ rl00.set := fun hm => by
  have h := (Rect.mem_set_unit.mp hm 0).2
  change 1 + 1 * (x 0).val < 0 + 1 at h
  omega

theorem offL01_00 (x : S1x256x512.Idx) : rl01.emb x ∉ rl00.set := fun hm => by
  have h := (Rect.mem_set_unit.mp hm 2).2
  change 512 + 1 * (x 2).val < 0 + 512 at h
  omega

theorem stK11 (x : S1x1x512.Idx) : I.dsk 1 1 (ix2 0 (x 2)) = I.totK (rk11.emb x) := by
  have e0 : (x 0).val = 0 := Nat.lt_one_iff.mp (x 0).isLt
  refine (I.valK 1 1 _ (x 2) ?_ ?_).symm
  · show 1 + 1 * (x 0).val = 1; rw [e0]
  · show 512 + 1 * (x 2).val = 1 * 512 + (x 2).val; omega

theorem stK10 (x : S1x1x512.Idx) : I.dsk 1 0 (ix2 0 (x 2)) = I.totK (rk10.emb x) := by
  have e0 : (x 0).val = 0 := Nat.lt_one_iff.mp (x 0).isLt
  refine (I.valK 1 0 _ (x 2) ?_ ?_).symm
  · show 1 + 1 * (x 0).val = 1; rw [e0]
  · show 0 + 1 * (x 2).val = 0 * 512 + (x 2).val; omega

theorem stK01 (x : S1x1x512.Idx) : I.dsk 0 1 (ix2 0 (x 2)) = I.totK (rk01.emb x) := by
  have e0 : (x 0).val = 0 := Nat.lt_one_iff.mp (x 0).isLt
  refine (I.valK 0 1 _ (x 2) ?_ ?_).symm
  · show 0 + 1 * (x 0).val = 0; rw [e0]
  · show 512 + 1 * (x 2).val = 1 * 512 + (x 2).val; omega

theorem stK00 (x : S1x1x512.Idx) : I.dsk 0 0 (ix2 0 (x 2)) = I.totK (rk00.emb x) := by
  have e0 : (x 0).val = 0 := Nat.lt_one_iff.mp (x 0).isLt
  refine (I.valK 0 0 _ (x 2) ?_ ?_).symm
  · show 0 + 1 * (x 0).val = 0; rw [e0]
  · show 0 + 1 * (x 2).val = 0 * 512 + (x 2).val; omega

theorem kB_apply (o : Vec Ideal S2x1x1024 .f32) (y : S2x1x1024.Idx) : View.canon (I.kB o) y = o y + I.totK y :=
  canon_four (fun y => o y + I.totK y) rk11 rk10 rk01 rk00 _ _ _ _ []
    (fun x => (addK_apply _ _ x).trans (congrArg _ (I.stK11 x)))
    (fun x => (addK_apply _ _ x).trans (congrArg _ (I.stK10 x)))
    (fun x => (addK_apply _ _ x).trans (congrArg _ (I.stK01 x)))
    (fun x => (addK_apply _ _ x).trans (congrArg _ (I.stK00 x)))
    y (coverK y)

theorem kA_apply (v : View sig .tc .vmem S2x1x1024 .f32) (y : S2x1x1024.Idx) : View.canon (I.kA v) y = 0 + I.totK y :=
  canon_four (fun y => 0 + I.totK y) rk11 rk10 rk01 rk00 _ _ _ _ k0
    (fun x => (addK_apply _ _ x).trans (congrArg₂ (fun a b : EReal => a + b) (readK v [⟨_, _⟩, ⟨_, _⟩, ⟨_, _⟩] rk11 x (by simp only [List.forall_mem_cons]; exact ⟨offK11_10 x, offK11_01 x, offK11_00 x, by simp⟩)) (I.stK11 x)))
    (fun x => (addK_apply _ _ x).trans (congrArg₂ (fun a b : EReal => a + b) (readK v [⟨_, _⟩, ⟨_, _⟩] rk10 x (by simp only [List.forall_mem_cons]; exact ⟨offK10_01 x, offK10_00 x, by simp⟩)) (I.stK10 x)))
    (fun x => (addK_apply _ _ x).trans (congrArg₂ (fun a b : EReal => a + b) (readK v [⟨_, _⟩] rk01 x (by simp only [List.forall_mem_cons]; exact ⟨offK01_00 x, by simp⟩)) (I.stK01 x)))
    (fun x => (addK_apply _ _ x).trans (congrArg₂ (fun a b : EReal => a + b) (readK v [] rk00 x (by simp)) (I.stK00 x)))
    y (coverK y)

theorem stL11 (x : S1x256x512.Idx) : I.S 1 1 (ix2 (x 1) (x 2)) = I.totL (rl11.emb x) := by
  have e0 : (x 0).val = 0 := Nat.lt_one_iff.mp (x 0).isLt
  have e1 : (rl11.emb x) 1 = x 1 := Fin.ext (by show 0 + 1 * (x 1).val = _; omega)
  refine Eq.symm ((I.valL 1 1 _ (x 2) ?_ ?_).trans (by rw [e1]))
  · show 1 + 1 * (x 0).val = 1; rw [e0]
  · show 512 + 1 * (x 2).val = 1 * 512 + (x 2).val; omega

theorem stL10 (x : S1x256x512.Idx) : I.S 1 0 (ix2 (x 1) (x 2)) = I.totL (rl10.emb x) := by
  have e0 : (x 0).val = 0 := Nat.lt_one_iff.mp (x 0).isLt
  have e1 : (rl10.emb x) 1 = x 1 := Fin.ext (by show 0 + 1 * (x 1).val = _; omega)
  refine Eq.symm ((I.valL 1 0 _ (x 2) ?_ ?_).trans (by rw [e1]))
  · show 1 + 1 * (x 0).val = 1; rw [e0]
  · show 0 + 1 * (x 2).val = 0 * 512 + (x 2).val; omega

theorem stL01 (x : S1x256x512.Idx) : I.S 0 1 (ix2 (x 1) (x 2)) = I.totL (rl01.emb x) := by
  have e0 : (x 0).val = 0 := Nat.lt_one_iff.mp (x 0).isLt
  have e1 : (rl01.emb x) 1 = x 1 := Fin.ext (by show 0 + 1 * (x 1).val = _; omega)
  refine Eq.symm ((I.valL 0 1 _ (x 2) ?_ ?_).trans (by rw [e1]))
  · show 0 + 1 * (x 0).val = 0; rw [e0]
  · show 512 + 1 * (x 2).val = 1 * 512 + (x 2).val; omega

theorem stL00 (x : S1x256x512.Idx) : I.S 0 0 (ix2 (x 1) (x 2)) = I.totL (rl00.emb x) := by
  have e0 : (x 0).val = 0 := Nat.lt_one_iff.mp (x 0).isLt
  have e1 : (rl00.emb x) 1 = x 1 := Fin.ext (by show 0 + 1 * (x 1).val = _; omega)
  refine Eq.symm ((I.valL 0 0 _ (x 2) ?_ ?_).trans (by rw [e1]))
  · show 0 + 1 * (x 0).val = 0; rw [e0]
  · show 0 + 1 * (x 2).val = 0 * 512 + (x 2).val; omega

theorem lB_apply (o : Vec Ideal S2x256x1024 .f32) (y : S2x256x1024.Idx) : View.canon (I.lB o) y = o y + I.totL y :=
  canon_four (fun y => o y + I.totL y) rl11 rl10 rl01 rl00 _ _ _ _ []
    (fun x => (addL_apply _ _ x).trans (congrArg _ (I.stL11 x)))
    (fun x => (addL_apply _ _ x).trans (congrArg _ (I.stL10 x)))
    (fun x => (addL_apply _ _ x).trans (congrArg _ (I.stL01 x)))
    (fun x => (addL_apply _ _ x).trans (congrArg _ (I.stL00 x)))
    y (coverL y)

theorem lA_apply (v : View sig .tc .vmem S2x256x1024 .f32) (y : S2x256x1024.Idx) : View.canon (I.lA v) y = 0 + I.totL y :=
  canon_four (fun y => 0 + I.totL y) rl11 rl10 rl01 rl00 _ _ _ _ l0
    (fun x => (addL_apply _ _ x).trans (congrArg₂ (fun a b : EReal => a + b) (readL v [⟨_, _⟩, ⟨_, _⟩, ⟨_, _⟩] rl11 x (by simp only [List.forall_mem_cons]; exact ⟨offL11_10 x, offL11_01 x, offL11_00 x, by simp⟩)) (I.stL11 x)))
    (fun x => (addL_apply _ _ x).trans (congrArg₂ (fun a b : EReal => a + b) (readL v [⟨_, _⟩, ⟨_, _⟩] rl10 x (by simp only [List.forall_mem_cons]; exact ⟨offL10_01 x, offL10_00 x, by simp⟩)) (I.stL10 x)))
    (fun x => (addL_apply _ _ x).trans (congrArg₂ (fun a b : EReal => a + b) (readL v [⟨_, _⟩] rl01 x (by simp only [List.forall_mem_cons]; exact ⟨offL01_00 x, by simp⟩)) (I.stL01 x)))
    (fun x => (addL_apply _ _ x).trans (congrArg₂ (fun a b : EReal => a + b) (readL v [] rl00 x (by simp)) (I.stL00 x)))
    y (coverL y)

/-- The query gradient over its columns. -/
def totQ : S128x1024.Idx → EReal := fun y =>
  I.dq ⟨(y 1).val / 512, by have : (y 1).val < 1024 := (y 1).isLt; omega⟩ ⟨(y 1).val / 256 % 2, by omega⟩ ⟨(y 1).val / 128 % 2, by omega⟩
    (ix2 (y 0) ⟨(y 1).val % 128, by omega⟩)

theorem valQ (h e f : Fin 2) (y : S128x1024.Idx) (x : S128x128.Idx) (h0 : (y 0).val = (x 0).val)
    (h1 : (y 1).val = (h.val * 4 + e.val * 2 + f.val) * 128 + (x 1).val) : I.dq h e f x = I.totQ y := by
  have hx : (x 1).val < 128 := (x 1).isLt
  unfold totQ
  have e1 : (⟨(y 1).val / 512, by have : (y 1).val < 1024 := (y 1).isLt; omega⟩ : Fin 2) = h := by ext; show (y 1).val / 512 = h.val; omega
  have e2 : (⟨(y 1).val / 256 % 2, by omega⟩ : Fin 2) = e := by ext; show (y 1).val / 256 % 2 = e.val; omega
  have e3 : (⟨(y 1).val / 128 % 2, by omega⟩ : Fin 2) = f := by ext; show (y 1).val / 128 % 2 = f.val; omega
  rw [e1, e2, e3]
  refine congrArg _ ?_
  funext a
  fin_cases a
  · exact Fin.ext h0.symm
  · ext; show (x 1).val = (y 1).val % 128; omega

theorem coverQ (y : S128x1024.Idx) (c : ℕ) (inb) (h0 : c ≤ (y 1).val) (h1 : (y 1).val < c + 128) :
    y ∈ (Rect.unit (s := S128x1024) ![0, c] ![128, 128] inb).set :=
  Rect.mem_set_unit.mpr fun a => by
    fin_cases a
    · exact ⟨Nat.zero_le _, (y 0).isLt.trans_eq (by rfl)⟩
    · exact ⟨h0, h1⟩

/-- The eight columns' stretches. -/
abbrev rq0 : Rect S128x1024 := Rect.unit ![0, 0] ![128, 128] inb_S128x1024_S128x128_0_0
abbrev rq1 : Rect S128x1024 := Rect.unit ![0, 128] ![128, 128] inb_S128x1024_S128x128_0_128
abbrev rq2 : Rect S128x1024 := Rect.unit ![0, 256] ![128, 128] inb_S128x1024_S128x128_0_256
abbrev rq3 : Rect S128x1024 := Rect.unit ![0, 384] ![128, 128] inb_S128x1024_S128x128_0_384
abbrev rq4 : Rect S128x1024 := Rect.unit ![0, 512] ![128, 128] inb_S128x1024_S128x128_0_512
abbrev rq5 : Rect S128x1024 := Rect.unit ![0, 640] ![128, 128] inb_S128x1024_S128x128_0_640
abbrev rq6 : Rect S128x1024 := Rect.unit ![0, 768] ![128, 128] inb_S128x1024_S128x128_0_768
abbrev rq7 : Rect S128x1024 := Rect.unit ![0, 896] ![128, 128] inb_S128x1024_S128x128_0_896
theorem qL_apply (y : S128x1024.Idx) : View.canon I.qL y = I.totQ y := by
  refine canon_eight (e := .bf16) I.totQ rq7 rq6 rq5 rq4 rq3 rq2 rq1 rq0 _ _ _ _ _ _ _ _
    (fun x => I.valQ 1 1 1 (rq7.emb x) x (by show 0 + 1 * (x 0).val = _; omega) (by show 896 + 1 * (x 1).val = (1 * 4 + 1 * 2 + 1) * 128 + (x 1).val; omega))
    (fun x => I.valQ 1 1 0 (rq6.emb x) x (by show 0 + 1 * (x 0).val = _; omega) (by show 768 + 1 * (x 1).val = (1 * 4 + 1 * 2 + 0) * 128 + (x 1).val; omega))
    (fun x => I.valQ 1 0 1 (rq5.emb x) x (by show 0 + 1 * (x 0).val = _; omega) (by show 640 + 1 * (x 1).val = (1 * 4 + 0 * 2 + 1) * 128 + (x 1).val; omega))
    (fun x => I.valQ 1 0 0 (rq4.emb x) x (by show 0 + 1 * (x 0).val = _; omega) (by show 512 + 1 * (x 1).val = (1 * 4 + 0 * 2 + 0) * 128 + (x 1).val; omega))
    (fun x => I.valQ 0 1 1 (rq3.emb x) x (by show 0 + 1 * (x 0).val = _; omega) (by show 384 + 1 * (x 1).val = (0 * 4 + 1 * 2 + 1) * 128 + (x 1).val; omega))
    (fun x => I.valQ 0 1 0 (rq2.emb x) x (by show 0 + 1 * (x 0).val = _; omega) (by show 256 + 1 * (x 1).val = (0 * 4 + 1 * 2 + 0) * 128 + (x 1).val; omega))
    (fun x => I.valQ 0 0 1 (rq1.emb x) x (by show 0 + 1 * (x 0).val = _; omega) (by show 128 + 1 * (x 1).val = (0 * 4 + 0 * 2 + 1) * 128 + (x 1).val; omega))
    (fun x => I.valQ 0 0 0 (rq0.emb x) x (by show 0 + 1 * (x 0).val = _; omega) (by show 0 + 1 * (x 1).val = (0 * 4 + 0 * 2 + 0) * 128 + (x 1).val; omega))
    y ?_
  have hy : (y 1).val < 1024 := (y 1).isLt
  by_cases h7 : 896 ≤ (y 1).val
  · exact Or.inl (coverQ y 896 _ h7 (by omega))
  by_cases h6 : 768 ≤ (y 1).val
  · exact Or.inr (Or.inl (coverQ y 768 _ h6 (by omega)))
  by_cases h5 : 640 ≤ (y 1).val
  · exact Or.inr (Or.inr (Or.inl (coverQ y 640 _ h5 (by omega))))
  by_cases h4 : 512 ≤ (y 1).val
  · exact Or.inr (Or.inr (Or.inr (Or.inl (coverQ y 512 _ h4 (by omega)))))
  by_cases h3 : 384 ≤ (y 1).val
  · exact Or.inr (Or.inr (Or.inr (Or.inr (Or.inl (coverQ y 384 _ h3 (by omega))))))
  by_cases h2 : 256 ≤ (y 1).val
  · exact Or.inr (Or.inr (Or.inr (Or.inr (Or.inr (Or.inl (coverQ y 256 _ h2 (by omega)))))))
  by_cases h1 : 128 ≤ (y 1).val
  · exact Or.inr (Or.inr (Or.inr (Or.inr (Or.inr (Or.inr (Or.inl (coverQ y 128 _ h1 (by omega))))))))
  exact Or.inr (Or.inr (Or.inr (Or.inr (Or.inr (Or.inr (Or.inr (coverQ y 0 _ (Nat.zero_le _) (by omega))))))))

end In
end Cert.KernelIdeal.Att
end
-- ==== Proof.KRun.lean ====
/- What the body leaves in each output's buffer, at the first point and at a later one, is the stores of `Block`. -/
module

public import proofs.«01_k».proof.Proof.Pieces
public import proofs.«01_k».proof.Proof.Gen.KernelIdeal.Value
public import Idealize.ShloMosaic.Lib.Pipeline.Value
public import Idealize.ShloMosaic.Lib.Tactic

@[expose] public section

set_option maxRecDepth 65536
noncomputable section

open Idealize.ShloMosaic Idealize.ShloMosaic.TcCoe Idealize.SL.Sem

namespace Cert.KernelIdeal.Att

open Cert.KernelIdeal Cert.KernelIdeal.Gen

theorem hz2 : (![0, 0] : Fin 2 → Nat) = fun _ => 0 := funext fun a => by fin_cases a <;> rfl

/-- The input blocks as the body reads them. -/
abbrev rawIn (n : BitVec 32) (x0 x1 : Vec Ideal S128x512 .f32) (x2 x3 x4 x5 : Vec Ideal S128x128 .f32) (x6 x7 : Vec Ideal S1x128 .f32)
    (x8 : Vec Ideal S2x1x1024 .f32) (x9 : Vec Ideal S2x256x1024 .f32) (x10 : Vec Ideal S128x1024 .f32) : In :=
  { n := n, x0 := x0, x1 := x1, kp := View.ld x2 (Rect.unit ![0, 0] ![128, 128] inb_S128x128_S128x128_0_0), kc := View.ld x3 (Rect.unit ![0, 0] ![128, 128] inb_S128x128_S128x128_0_0)
    vp := View.ld x4 (Rect.unit ![0, 0] ![128, 128] inb_S128x128_S128x128_0_0), vc := View.ld x5 (Rect.unit ![0, 0] ![128, 128] inb_S128x128_S128x128_0_0)
    gq := shapeCast S1x128 (View.ld x6 (Rect.unit ![0, 0] ![1, 128] inb_S1x128_S1x128_0_0)) shapeCasts_S1x128_S1x128
    gk := shapeCast S1x128 (View.ld x7 (Rect.unit ![0, 0] ![1, 128] inb_S1x128_S1x128_0_0)) shapeCasts_S1x128_S1x128
    sk := x8, bi := x9, dO := x10 }

theorem out12_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = In.up (In.dK (rawIn (BitVec.ofNat 32 (i 0)) x0 x1 x2 x3 x4 x5 x6 x7 x8 x9 x10)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out13_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = In.lo (In.dK (rawIn (BitVec.ofNat 32 (i 0)) x0 x1 x2 x3 x4 x5 x6 x7 x8 x9 x10)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out14_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = In.up (In.dV (rawIn (BitVec.ofNat 32 (i 0)) x0 x1 x2 x3 x4 x5 x6 x7 x8 x9 x10)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out15_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = In.lo (In.dV (rawIn (BitVec.ofNat 32 (i 0)) x0 x1 x2 x3 x4 x5 x6 x7 x8 x9 x10)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out12_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = In.up (In.dK (rawIn (BitVec.ofNat 32 (i 0)) x0 x1 x2 x3 x4 x5 x6 x7 x8 x9 x10)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out13_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = In.lo (In.dK (rawIn (BitVec.ofNat 32 (i 0)) x0 x1 x2 x3 x4 x5 x6 x7 x8 x9 x10)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out14_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = In.up (In.dV (rawIn (BitVec.ofNat 32 (i 0)) x0 x1 x2 x3 x4 x5 x6 x7 x8 x9 x10)) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out15_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = In.lo (In.dV (rawIn (BitVec.ofNat 32 (i 0)) x0 x1 x2 x3 x4 x5 x6 x7 x8 x9 x10)) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out18_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = addf (shapeCast S8x128 (broadcast S8x128 (Scalar.ofBits .f32 0x00000000#32)) shapeCasts_S8x128_S8x128) (In.dg (rawIn (BitVec.ofNat 32 (i 0)) x0 x1 x2 x3 x4 x5 x6 x7 x8 x9 x10)) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  rw [View.canon_cons_unit_zero (S := S8x128) hz2, View.readCov_unit_zero (S := S8x128) _ hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out18_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = addf (shapeCast S8x128 xo18 shapeCasts_S8x128_S8x128) (In.dg (rawIn (BitVec.ofNat 32 (i 0)) x0 x1 x2 x3 x4 x5 x6 x7 x8 x9 x10)) := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  rw [View.canon_unit_zero hz2]
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  try rw [harg19.read_unread xo18]
  rw [View.ld_unit_zero (S := S8x128) hz2]
  rfl
theorem out11_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = View.canon (In.qL (rawIn (BitVec.ofNat 32 (i 0)) x0 x1 x2 x3 x4 x5 x6 x7 x8 x9 x10)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out11_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = View.canon (In.qL (rawIn (BitVec.ofNat 32 (i 0)) x0 x1 x2 x3 x4 x5 x6 x7 x8 x9 x10)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out17_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = View.canon (In.kA (rawIn (BitVec.ofNat 32 (i 0)) x0 x1 x2 x3 x4 x5 x6 x7 x8 x9 x10) arg18.view) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out17_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = View.canon (In.kB (rawIn (BitVec.ofNat 32 (i 0)) x0 x1 x2 x3 x4 x5 x6 x7 x8 x9 x10) xo17) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  try rw [harg18.read_unread xo17]
  rfl

theorem out16_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = View.canon (In.lA (rawIn (BitVec.ofNat 32 (i 0)) x0 x1 x2 x3 x4 x5 x6 x7 x8 x9 x10) arg17.view) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  rfl

theorem out16_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x1x1024 .f32) (harg9 : arg9.IsWhole) (arg10 : Memref sig .tc .vmem S2x256x1024 .f32) (harg10 : arg10.IsWhole) (arg11 : Memref sig .tc .vmem S128x1024 .f32) (harg11 : arg11.IsWhole) (arg12 : Memref sig .tc .vmem S128x1024 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S2x256x1024 .f32) (harg17 : arg17.IsWhole) (arg18 : Memref sig .tc .vmem S2x1x1024 .f32) (harg18 : arg18.IsWhole) (arg19 : Memref sig .tc .vmem S8x128 .f32) (harg19 : arg19.IsWhole) (hc0 : ¬cond0_0 i) (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S1x128 .f32) (x7 : Vec Ideal S1x128 .f32) (x8 : Vec Ideal S2x1x1024 .f32) (x9 : Vec Ideal S2x256x1024 .f32) (x10 : Vec Ideal S128x1024 .f32) (xo16 : Vec Ideal S2x256x1024 .f32) (xo17 : Vec Ideal S2x1x1024 .f32) (xo18 : Vec Ideal S8x128 .f32) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18 = View.canon (In.lB (rawIn (BitVec.ofNat 32 (i 0)) x0 x1 x2 x3 x4 x5 x6 x7 x8 x9 x10) xo16) := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo16 xo17 xo18)]
  unfold kernelRun0_B
  dsimp only
  sl_unfold_words
  simp only [View.readAt_eq_ld]
  try rw [harg1.read_unread x0]
  try rw [harg2.read_unread x1]
  try rw [harg3.read_unread x2]
  try rw [harg4.read_unread x3]
  try rw [harg5.read_unread x4]
  try rw [harg6.read_unread x5]
  try rw [harg7.read_unread x6]
  try rw [harg8.read_unread x7]
  try rw [harg9.read_unread x8]
  try rw [harg10.read_unread x9]
  try rw [harg11.read_unread x10]
  try rw [harg17.read_unread xo16]
  rfl

end Cert.KernelIdeal.Att
end
-- ==== Proof.Point.lean ====
/- What each point leaves in the outputs' buffers, and what the arrays hold after the last point. -/
module
public import proofs.«01_k».proof.Proof.KRun
@[expose] public section
set_option maxRecDepth 16384

noncomputable section

namespace Cert.KernelIdeal.Att
open Cert.KernelIdeal Cert.KernelIdeal.Gen Idealize.ShloMosaic Idealize.ShloMosaic.TcCoe

variable (m : (ℓ : Loc nD τ sig) → Buf (Elt Ideal) ℓ) (c : Dev nD)

/-- The inputs of point `t`. -/
def inAt (t : Fin cfg0.N) : In :=
  rawIn (BitVec.ofNat 32 (grid0.coords t 0)) (X0_0 m c t) (X0_1 m c t) (iblk m c 2 t) (iblk m c 3 t) (iblk m c 4 t) (iblk m c 5 t)
    (iblk m c 6 t) (iblk m c 7 t) (iblk m c 8 t) (iblk m c 9 t) (iblk m c 10 t)

theorem left11 (t : Fin cfg0.N) : (outsAt0 m c t.val t.isLt).1 = View.canon (In.qL (inAt m c t)) := by
  by_cases h0 : t.val % 64 = 0
  · exact (congrArg (fun p => p.1) (outsAt0_A m c t h0)).trans (out11_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t))
  · exact (congrArg (fun p => p.1) (outsAt0_B m c t h0)).trans (out11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

theorem left12 (t : Fin cfg0.N) : (outsAt0 m c t.val t.isLt).2.1 = In.up (In.dK (inAt m c t)) := by
  by_cases h0 : t.val % 64 = 0
  · exact (congrArg (fun p => p.2.1) (outsAt0_A m c t h0)).trans (out12_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t))
  · exact (congrArg (fun p => p.2.1) (outsAt0_B m c t h0)).trans (out12_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

theorem left13 (t : Fin cfg0.N) : (outsAt0 m c t.val t.isLt).2.2.1 = In.lo (In.dK (inAt m c t)) := by
  by_cases h0 : t.val % 64 = 0
  · exact (congrArg (fun p => p.2.2.1) (outsAt0_A m c t h0)).trans (out13_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t))
  · exact (congrArg (fun p => p.2.2.1) (outsAt0_B m c t h0)).trans (out13_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

theorem left14 (t : Fin cfg0.N) : (outsAt0 m c t.val t.isLt).2.2.2.1 = In.up (In.dV (inAt m c t)) := by
  by_cases h0 : t.val % 64 = 0
  · exact (congrArg (fun p => p.2.2.2.1) (outsAt0_A m c t h0)).trans (out14_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t))
  · exact (congrArg (fun p => p.2.2.2.1) (outsAt0_B m c t h0)).trans (out14_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

theorem left15 (t : Fin cfg0.N) : (outsAt0 m c t.val t.isLt).2.2.2.2.1 = In.lo (In.dV (inAt m c t)) := by
  by_cases h0 : t.val % 64 = 0
  · exact (congrArg (fun p => p.2.2.2.2.1) (outsAt0_A m c t h0)).trans (out15_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t))
  · exact (congrArg (fun p => p.2.2.2.2.1) (outsAt0_B m c t h0)).trans (out15_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

theorem first16 (t : Fin cfg0.N) (h0 : t.val % 64 = 0) (y : S2x256x1024.Idx) : (outsAt0 m c t.val t.isLt).2.2.2.2.2.1 y = (inAt m c t).totL y := by
  have e : (outsAt0 m c t.val t.isLt).2.2.2.2.2.1 = View.canon (In.lA (inAt m c t) (ms0_16 t).view) := by
    rw [outsAt0_A m c t h0]
    dsimp only
    rw [out16_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t)]
    rfl
  refine (congrFun e y).trans ?_
  exact (In.lA_apply _ _ y).trans (zero_add _)

theorem later16 (t : Fin cfg0.N) (h0 : ¬t.val % 64 = 0) (y : S2x256x1024.Idx) : (outsAt0 m c t.val t.isLt).2.2.2.2.2.1 y
    = (outsAt0 m c (t.val - 1) (Nat.lt_of_le_of_lt (Nat.sub_le _ _) t.isLt)).2.2.2.2.2.1 y + (inAt m c t).totL y := by
  have e : (outsAt0 m c t.val t.isLt).2.2.2.2.2.1 = View.canon (In.lB (inAt m c t) (outsAt0 m c (t.val - 1) (Nat.lt_of_le_of_lt (Nat.sub_le _ _) t.isLt)).2.2.2.2.2.1) := by
    rw [outsAt0_B m c t h0]
    dsimp only
    rw [out16_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]
    rfl
  refine (congrFun e y).trans ?_
  exact In.lB_apply _ _ y

theorem left16 (y : S2x256x1024.Idx) : ∀ (n : ℕ) (h : n < cfg0.N), (outsAt0 m c n h).2.2.2.2.2.1 y
    = ∑ k : Fin (n + 1), (inAt m c ⟨k.val, by omega⟩).totL y
  | 0, h => by
    rw [Fin.sum_univ_one]
    exact first16 m c ⟨0, h⟩ rfl y
  | n + 1, h => by
    have hB : ¬(⟨n + 1, h⟩ : Fin cfg0.N).val % 64 = 0 := by have hN : cfg0.N = 64 := N_0; dsimp only; omega
    rw [Fin.sum_univ_castSucc]
    exact (later16 m c ⟨n + 1, h⟩ hB y).trans (congrArg (fun a : EReal => a + (inAt m c ⟨n + 1, h⟩).totL y) (left16 y n (Nat.lt_of_succ_lt h)))

theorem first17 (t : Fin cfg0.N) (h0 : t.val % 64 = 0) (y : S2x1x1024.Idx) : (outsAt0 m c t.val t.isLt).2.2.2.2.2.2.1 y = (inAt m c t).totK y := by
  have e : (outsAt0 m c t.val t.isLt).2.2.2.2.2.2.1 = View.canon (In.kA (inAt m c t) (ms0_17 t).view) := by
    rw [outsAt0_A m c t h0]
    dsimp only
    rw [out17_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t)]
    rfl
  refine (congrFun e y).trans ?_
  exact (In.kA_apply _ _ y).trans (zero_add _)

theorem later17 (t : Fin cfg0.N) (h0 : ¬t.val % 64 = 0) (y : S2x1x1024.Idx) : (outsAt0 m c t.val t.isLt).2.2.2.2.2.2.1 y
    = (outsAt0 m c (t.val - 1) (Nat.lt_of_le_of_lt (Nat.sub_le _ _) t.isLt)).2.2.2.2.2.2.1 y + (inAt m c t).totK y := by
  have e : (outsAt0 m c t.val t.isLt).2.2.2.2.2.2.1 = View.canon (In.kB (inAt m c t) (outsAt0 m c (t.val - 1) (Nat.lt_of_le_of_lt (Nat.sub_le _ _) t.isLt)).2.2.2.2.2.2.1) := by
    rw [outsAt0_B m c t h0]
    dsimp only
    rw [out17_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]
    rfl
  refine (congrFun e y).trans ?_
  exact In.kB_apply _ _ y

theorem left17 (y : S2x1x1024.Idx) : ∀ (n : ℕ) (h : n < cfg0.N), (outsAt0 m c n h).2.2.2.2.2.2.1 y
    = ∑ k : Fin (n + 1), (inAt m c ⟨k.val, by omega⟩).totK y
  | 0, h => by
    rw [Fin.sum_univ_one]
    exact first17 m c ⟨0, h⟩ rfl y
  | n + 1, h => by
    have hB : ¬(⟨n + 1, h⟩ : Fin cfg0.N).val % 64 = 0 := by have hN : cfg0.N = 64 := N_0; dsimp only; omega
    rw [Fin.sum_univ_castSucc]
    exact (later17 m c ⟨n + 1, h⟩ hB y).trans (congrArg (fun a : EReal => a + (inAt m c ⟨n + 1, h⟩).totK y) (left17 y n (Nat.lt_of_succ_lt h)))

theorem first18 (t : Fin cfg0.N) (h0 : t.val % 64 = 0) (y : S8x128.Idx) : (outsAt0 m c t.val t.isLt).2.2.2.2.2.2.2 y = (inAt m c t).dg y := by
  refine (congrFun ((congrArg (fun p => p.2.2.2.2.2.2.2) (outsAt0_A m c t h0)).trans (out18_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t))) y).trans ?_
  rw [shapeCast_self]
  show Ideal.ofBits .f32 0x00000000#32 + _ = _
  rw [show Ideal.ofBits .f32 0x00000000#32 = (0 : EReal) by simp [Ideal.ofBits, Ideal.ieee], zero_add]
  rfl

theorem later18 (t : Fin cfg0.N) (h0 : ¬t.val % 64 = 0) (y : S8x128.Idx) : (outsAt0 m c t.val t.isLt).2.2.2.2.2.2.2 y
    = (outsAt0 m c (t.val - 1) (Nat.lt_of_le_of_lt (Nat.sub_le _ _) t.isLt)).2.2.2.2.2.2.2 y + (inAt m c t).dg y := by
  refine (congrFun ((congrArg (fun p => p.2.2.2.2.2.2.2) (outsAt0_B m c t h0)).trans (out18_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)) y).trans ?_
  rw [shapeCast_self]
  rfl

theorem left18 (y : S8x128.Idx) : ∀ (n : ℕ) (h : n < cfg0.N), (outsAt0 m c n h).2.2.2.2.2.2.2 y
    = ∑ k : Fin (n + 1), (inAt m c ⟨k.val, by omega⟩).dg y
  | 0, h => by
    rw [Fin.sum_univ_one]
    exact first18 m c ⟨0, h⟩ rfl y
  | n + 1, h => by
    have hB : ¬(⟨n + 1, h⟩ : Fin cfg0.N).val % 64 = 0 := by have hN : cfg0.N = 64 := N_0; dsimp only; omega
    rw [Fin.sum_univ_castSucc]
    exact (later18 m c ⟨n + 1, h⟩ hB y).trans (congrArg (fun a : EReal => a + (inAt m c ⟨n + 1, h⟩).dg y) (left18 y n (Nat.lt_of_succ_lt h)))

end Cert.KernelIdeal.Att
end
-- ==== Proof.Arrays.lean ====
/- The result arrays after the run: block by block what each point left, and the accumulated outputs as sums over the
   points. -/
module
public import proofs.«01_k».proof.Proof.Point
public import Idealize.ShloMosaic.Lib.Pipeline.ValueKit
@[expose] public section
set_option maxRecDepth 16384

noncomputable section

namespace Cert.KernelIdeal.Att
open Cert.KernelIdeal Cert.KernelIdeal.Gen Idealize.ShloMosaic Idealize.ShloMosaic.TcCoe

variable (m : (ℓ : Loc nD τ sig) → Buf (Elt Ideal) ℓ) (c : Dev nD)

/-- The block of a token and its row there. -/
def blkOf (r : Fin 8192) : Fin cfg0.N := ⟨r.val / 128, by rw [show cfg0.N = 64 from N_0]; omega⟩
def rowOf (r : Fin 8192) : Fin 128 := ⟨r.val % 128, by omega⟩
theorem blkOf_eq (r : Fin 8192) (t : Fin cfg0.N) (i : Fin 128) (h : r.val = t.val * 128 + i.val) : blkOf r = t := by
  ext; show r.val / 128 = t.val; omega
theorem rowOf_eq (r : Fin 8192) (t : Fin cfg0.N) (i : Fin 128) (h : r.val = t.val * 128 + i.val) : rowOf r = i := by
  ext; show r.val % 128 = i.val; omega

theorem arr11 : (dats m 0 c).arrAt 11 cfg0.N = fun y : S8192x1024.Idx => (inAt m c (blkOf (y 0))).totQ (ix2 (rowOf (y 0)) (y 1)) := by
  have e : ∀ t : Fin cfg0.N, win0_11.index t = ![t.val, 0] := (by decide +kernel : ∀ t : Fin grid0.N, win0_11.index t = ![t.val, 0])
  refine (dats m 0 c).arrAt_eq_of_covers 11 _ (by decide +kernel) fun t hf y => ?_
  blk_simp
  rw [after0_11, left11]
  have h0 : ((win0_11.blk t).view.emb y 0).val = t.val * 128 + (y 0).val := by blk_simp [e]
  have h1 : ((win0_11.blk t).view.emb y 1).val = (y 1).val := by blk_simp [e]
  have e0 := blkOf_eq ((win0_11.blk t).view.emb y 0) t (y 0) h0
  have e1 := rowOf_eq ((win0_11.blk t).view.emb y 0) t (y 0) h0
  have e2 : ((win0_11.blk t).view.emb y 1 : Fin 1024) = y 1 := Fin.ext h1
  refine (In.qL_apply _ y).trans ?_
  refine Eq.symm ((congrArg₂ (fun (b : Fin cfg0.N) (j : S128x1024.Idx) => (inAt m c b).totQ j) e0
    (congrArg₂ (fun a b => ix2 a b) e1 e2)).trans (congrArg _ ?_))
  funext a
  fin_cases a <;> rfl

theorem arr12 : (dats m 0 c).arrAt 12 cfg0.N = fun y : S8192x128.Idx => In.up (In.dK (inAt m c (blkOf (y 0)))) (ix2 (rowOf (y 0)) (y 1)) := by
  have e : ∀ t : Fin cfg0.N, win0_12.index t = ![t.val, 0] := (by decide +kernel : ∀ t : Fin grid0.N, win0_12.index t = ![t.val, 0])
  refine (dats m 0 c).arrAt_eq_of_covers 12 _ (by decide +kernel) fun t hf y => ?_
  blk_simp
  rw [after0_12, left12]
  have h0 : ((win0_12.blk t).view.emb y 0).val = t.val * 128 + (y 0).val := by blk_simp [e]
  have h1 : ((win0_12.blk t).view.emb y 1).val = (y 1).val := by blk_simp [e]
  have e0 := blkOf_eq ((win0_12.blk t).view.emb y 0) t (y 0) h0
  have e1 := rowOf_eq ((win0_12.blk t).view.emb y 0) t (y 0) h0
  have e2 : ((win0_12.blk t).view.emb y 1 : Fin 128) = y 1 := Fin.ext h1

  refine Eq.symm ((congrArg₂ (fun (b : Fin cfg0.N) (j : S128x128.Idx) => In.up (In.dK (inAt m c b)) j) e0
    (congrArg₂ (fun a b => ix2 a b) e1 e2)).trans (congrArg _ ?_))
  funext a
  fin_cases a <;> rfl

theorem arr13 : (dats m 0 c).arrAt 13 cfg0.N = fun y : S8192x128.Idx => In.lo (In.dK (inAt m c (blkOf (y 0)))) (ix2 (rowOf (y 0)) (y 1)) := by
  have e : ∀ t : Fin cfg0.N, win0_13.index t = ![t.val, 0] := (by decide +kernel : ∀ t : Fin grid0.N, win0_13.index t = ![t.val, 0])
  refine (dats m 0 c).arrAt_eq_of_covers 13 _ (by decide +kernel) fun t hf y => ?_
  blk_simp
  rw [after0_13, left13]
  have h0 : ((win0_13.blk t).view.emb y 0).val = t.val * 128 + (y 0).val := by blk_simp [e]
  have h1 : ((win0_13.blk t).view.emb y 1).val = (y 1).val := by blk_simp [e]
  have e0 := blkOf_eq ((win0_13.blk t).view.emb y 0) t (y 0) h0
  have e1 := rowOf_eq ((win0_13.blk t).view.emb y 0) t (y 0) h0
  have e2 : ((win0_13.blk t).view.emb y 1 : Fin 128) = y 1 := Fin.ext h1

  refine Eq.symm ((congrArg₂ (fun (b : Fin cfg0.N) (j : S128x128.Idx) => In.lo (In.dK (inAt m c b)) j) e0
    (congrArg₂ (fun a b => ix2 a b) e1 e2)).trans (congrArg _ ?_))
  funext a
  fin_cases a <;> rfl

theorem arr14 : (dats m 0 c).arrAt 14 cfg0.N = fun y : S8192x128.Idx => In.up (In.dV (inAt m c (blkOf (y 0)))) (ix2 (rowOf (y 0)) (y 1)) := by
  have e : ∀ t : Fin cfg0.N, win0_14.index t = ![t.val, 0] := (by decide +kernel : ∀ t : Fin grid0.N, win0_14.index t = ![t.val, 0])
  refine (dats m 0 c).arrAt_eq_of_covers 14 _ (by decide +kernel) fun t hf y => ?_
  blk_simp
  rw [after0_14, left14]
  have h0 : ((win0_14.blk t).view.emb y 0).val = t.val * 128 + (y 0).val := by blk_simp [e]
  have h1 : ((win0_14.blk t).view.emb y 1).val = (y 1).val := by blk_simp [e]
  have e0 := blkOf_eq ((win0_14.blk t).view.emb y 0) t (y 0) h0
  have e1 := rowOf_eq ((win0_14.blk t).view.emb y 0) t (y 0) h0
  have e2 : ((win0_14.blk t).view.emb y 1 : Fin 128) = y 1 := Fin.ext h1

  refine Eq.symm ((congrArg₂ (fun (b : Fin cfg0.N) (j : S128x128.Idx) => In.up (In.dV (inAt m c b)) j) e0
    (congrArg₂ (fun a b => ix2 a b) e1 e2)).trans (congrArg _ ?_))
  funext a
  fin_cases a <;> rfl

theorem arr15 : (dats m 0 c).arrAt 15 cfg0.N = fun y : S8192x128.Idx => In.lo (In.dV (inAt m c (blkOf (y 0)))) (ix2 (rowOf (y 0)) (y 1)) := by
  have e : ∀ t : Fin cfg0.N, win0_15.index t = ![t.val, 0] := (by decide +kernel : ∀ t : Fin grid0.N, win0_15.index t = ![t.val, 0])
  refine (dats m 0 c).arrAt_eq_of_covers 15 _ (by decide +kernel) fun t hf y => ?_
  blk_simp
  rw [after0_15, left15]
  have h0 : ((win0_15.blk t).view.emb y 0).val = t.val * 128 + (y 0).val := by blk_simp [e]
  have h1 : ((win0_15.blk t).view.emb y 1).val = (y 1).val := by blk_simp [e]
  have e0 := blkOf_eq ((win0_15.blk t).view.emb y 0) t (y 0) h0
  have e1 := rowOf_eq ((win0_15.blk t).view.emb y 0) t (y 0) h0
  have e2 : ((win0_15.blk t).view.emb y 1 : Fin 128) = y 1 := Fin.ext h1

  refine Eq.symm ((congrArg₂ (fun (b : Fin cfg0.N) (j : S128x128.Idx) => In.lo (In.dV (inAt m c b)) j) e0
    (congrArg₂ (fun a b => ix2 a b) e1 e2)).trans (congrArg _ ?_))
  funext a
  fin_cases a <;> rfl

/-- The last point. -/
def tLast : Fin cfg0.N := ⟨63, by rw [show cfg0.N = 64 from N_0]; omega⟩

theorem arr16 : (dats m 0 c).arrAt 16 cfg0.N = fun y : S2x256x1024.Idx => ∑ k : Fin 64, (inAt m c ⟨k.val, by rw [show cfg0.N = 64 from N_0]; exact k.isLt⟩).totL y := by
  refine (dats m 0 c).arrAt_eq_of_after_last 16 tLast (by decide +kernel) _ fun y => ?_
  rw [after0_16]
  exact left16 m c y 63 tLast.isLt

theorem arr17 : (dats m 0 c).arrAt 17 cfg0.N = fun y : S2x1x1024.Idx => ∑ k : Fin 64, (inAt m c ⟨k.val, by rw [show cfg0.N = 64 from N_0]; exact k.isLt⟩).totK y := by
  refine (dats m 0 c).arrAt_eq_of_after_last 17 tLast (by decide +kernel) _ fun y => ?_
  rw [after0_17]
  exact left17 m c y 63 tLast.isLt

theorem arr18 : (dats m 0 c).arrAt 18 cfg0.N = fun y : S8x128.Idx => ∑ k : Fin 64, (inAt m c ⟨k.val, by rw [show cfg0.N = 64 from N_0]; exact k.isLt⟩).dg y := by
  refine (dats m 0 c).arrAt_eq_of_after_last 18 tLast (by decide +kernel) _ fun y => ?_
  rw [after0_18]
  exact left18 m c y 63 tLast.isLt

end Cert.KernelIdeal.Att
end
-- ==== Proof.KBlk.lean ====
/- The block of each grid point, as the gradient's specification reads it. -/
module
public import proofs.«01_k».proof.Proof.Blocks
public import proofs.«01_k».proof.Proof.BlockAt
public import proofs.«01_k».proof.Proof.Entry
public import proofs.«01_k».proof.Proof.Arrays
@[expose] public section
set_option maxRecDepth 16384

noncomputable section

namespace Cert.KernelIdeal.Att
open Cert.KernelIdeal Cert.KernelIdeal.Gen Cert.Attention Idealize.ShloMosaic Idealize.ShloMosaic.TcCoe

variable (m : (ℓ : Loc nD τ sig) → Buf (Elt Ideal) ℓ) (c : Dev nD)

abbrev blkM (n : Fin 64) : Blk :=
  blkAt (m (c, main_arg0)) (m (c, main_arg1)) (m (c, main_arg2)) (m (c, main_arg3)) (m (c, main_arg4)) (m (c, main_arg5)) n

variable (t : Fin cfg0.N)

theorem In.x0_at (I : In) (w : Fin 4) (i l : Fin 128) : I.x 0 w (ix2 i l) = I.x0 (ix2 i ⟨w.val * 128 + l.val, by omega⟩) := by
  unfold In.x
  obtain rfl | rfl | rfl | rfl : w = 0 ∨ w = 1 ∨ w = 2 ∨ w = 3 := by omega
  all_goals pointwise
theorem In.x1_at (I : In) (w : Fin 4) (i l : Fin 128) : I.x 1 w (ix2 i l) = I.x1 (ix2 i ⟨w.val * 128 + l.val, by omega⟩) := by
  unfold In.x
  obtain rfl | rfl | rfl | rfl : w = 0 ∨ w = 1 ∨ w = 2 ∨ w = 3 := by omega
  all_goals pointwise
theorem In.g_at (I : In) (h : Fin 2) (w : Fin 4) (i l : Fin 128) : I.g h w (ix2 i l) = I.dO (ix2 i ⟨h.val * 512 + (w.val * 128 + l.val), by omega⟩) := by
  unfold In.g
  obtain rfl | rfl : h = 0 ∨ h = 1 := by omega
  all_goals obtain rfl | rfl | rfl | rfl : w = 0 ∨ w = 1 ∨ w = 2 ∨ w = 3 := by omega
  all_goals pointwise
  all_goals blk_ext
theorem In.s_at (I : In) (h e : Fin 2) (r : Fin 512) : I.s h e (ix2 0 r) = I.sk (ix3 h 0 ⟨e.val * 512 + r.val, by omega⟩) := by
  unfold In.s
  obtain rfl | rfl : h = 0 ∨ h = 1 := by omega
  all_goals obtain rfl | rfl : e = 0 ∨ e = 1 := by omega
  all_goals pointwise
theorem In.b_at (I : In) (h e : Fin 2) (j : Fin 256) (r : Fin 512) : I.b h e (ix3 0 j r) = I.bi (ix3 h j ⟨e.val * 512 + r.val, by omega⟩) := by
  unfold In.b
  obtain rfl | rfl : h = 0 ∨ h = 1 := by omega
  all_goals obtain rfl | rfl : e = 0 ∨ e = 1 := by omega
  all_goals pointwise

theorem x_at (h : Fin 2) (w : Fin 4) (i l : Fin 128) : (inAt m c t).x h w (ix2 i l)
    = (m (c, main_arg0) : FVec Ideal S8192x6400 .f32) (ix2 ⟨t.val * 128 + i.val, by have := t_lt t; omega⟩
      ⟨1024 + (h.val * 512 + (w.val * 128 + l.val)), by omega⟩) := by
  have ht := t_lt t
  obtain rfl | rfl : h = 0 ∨ h = 1 := by omega
  · exact (In.x0_at _ w i l).trans ((blk0 m c t i _).trans (by blk_ext))
  · exact (In.x1_at _ w i l).trans ((blk1 m c t i _).trans (by blk_ext))

theorem g_at (h : Fin 2) (w : Fin 4) (i l : Fin 128) : (inAt m c t).g h w (ix2 i l)
    = (m (c, main_arg5) : FVec Ideal S8192x1024 .f32) (ix2 ⟨t.val * 128 + i.val, by have := t_lt t; omega⟩
      ⟨h.val * 512 + (w.val * 128 + l.val), by omega⟩) :=
  (In.g_at _ h w i l).trans (blk10 m c t i _)

theorem s_at (h e : Fin 2) (r : Fin 512) : (inAt m c t).s h e (ix2 0 r)
    = (m (c, main_arg3) : FVec Ideal S1x16 .f32) (ix2 0 ⟨h.val * 8 + (e.val * 512 + r.val) / 128, by omega⟩) :=
  (In.s_at _ h e r).trans ((congrFun (blk8 m c t) _).trans (sk_at m c h _))

theorem b_at (h e : Fin 2) (j : Fin 256) (r : Fin 512) : (inAt m c t).b h e (ix3 0 j r)
    = if r.val % 128 < j.val ∧ j.val ≤ r.val % 128 + 128
      then Cert.ReferenceIdeal.Read.val_main_v84 (F := Ideal) (m (c, main_arg4))
        (ix3 ⟨r.val % 128, by omega⟩ j ⟨h.val * 8 + (e.val * 512 + r.val) / 128, by omega⟩) else ⊥ := by
  refine (In.b_at _ h e j r).trans ((congrFun (blk9 m c t) _).trans ?_)
  rw [V_bi, table_apply]
  have e1 : (e.val * 512 + r.val) % 128 = r.val % 128 := by omega
  simp only [e1]

theorem load_at (X : Vec Ideal S128x128 .f32) (i l : Fin 128) :
    View.ld X (Rect.unit ![0, 0] ![128, 128] inb_S128x128_S128x128_0_0) (ix2 i l) = X (ix2 i l) := by pointwise
theorem load1_at (X : Vec Ideal S1x128 .f32) (l : Fin 128) :
    shapeCast S1x128 (View.ld X (Rect.unit ![0, 0] ![1, 128] inb_S1x128_S1x128_0_0)) shapeCasts_S1x128_S1x128 (ix2 0 l) = X (ix2 0 l) := by pointwise

theorem k_at (j : Fin 256) (l : Fin 128) : band (inAt m c t).kp (inAt m c t).kc (ix2 j l)
    = (m (c, main_arg0) : FVec Ideal S8192x6400 .f32) (ix2 ⟨if j.val < 128 then (t.val - 1) * 128 + j.val else t.val * 128 + (j.val - 128),
      by have := t_lt t; split <;> omega⟩ ⟨2048 + l.val, by omega⟩) := by
  have ht := t_lt t
  rw [band_apply]
  by_cases h : j.val < 128
  · rw [dif_pos h]
    refine (load_at (iblk m c 2 t) _ _).trans ((blk2 m c t _ l).trans ?_)
    congr 2; ext; simp [h]
  · rw [dif_neg h]
    refine (load_at (iblk m c 3 t) _ _).trans ((blk3 m c t _ l).trans ?_)
    congr 2; ext; simp [h]

theorem v_at (j : Fin 256) (l : Fin 128) : band (inAt m c t).vp (inAt m c t).vc (ix2 j l)
    = (m (c, main_arg0) : FVec Ideal S8192x6400 .f32) (ix2 ⟨if j.val < 128 then (t.val - 1) * 128 + j.val else t.val * 128 + (j.val - 128),
      by have := t_lt t; split <;> omega⟩ ⟨2176 + l.val, by omega⟩) := by
  have ht := t_lt t
  rw [band_apply]
  by_cases h : j.val < 128
  · rw [dif_pos h]
    refine (load_at (iblk m c 4 t) _ _).trans ((blk4 m c t _ l).trans ?_)
    congr 2; ext; simp [h]
  · rw [dif_neg h]
    refine (load_at (iblk m c 5 t) _ _).trans ((blk5 m c t _ l).trans ?_)
    congr 2; ext; simp [h]

section Fields
variable (z : FVec Ideal S8192x6400 .f32) (gq gk : FVec Ideal S1x64 .f32) (sk : FVec Ideal S1x16 .f32) (tb : FVec Ideal S32x16 .f32)
  (dO : FVec Ideal S8192x1024 .f32) (n : Fin 64)

theorem blkAt_q (h : Fin 2) (w : Fin 4) (s : Fin 2) (i : Fin 128) (d : Fin 64) :
    z (ix2 ⟨n.val * 128 + i.val, by omega⟩ ⟨1024 + (h.val * 512 + (w.val * 128 + (lane s d).val)), by omega⟩)
      = (blkAt z gq gk sk tb dO n).q h (hd w s) i d :=
  congrArg₂ (fun a b => z (ix2 a b)) rfl (Fin.ext (show 1024 + (h.val * 512 + (w.val * 128 + (s.val * 64 + d.val)))
    = 1024 + (h.val * 512 + (2 * w.val + s.val) * 64 + d.val) by omega))
theorem blkAt_dO (h : Fin 2) (w : Fin 4) (s : Fin 2) (i : Fin 128) (d : Fin 64) :
    dO (ix2 ⟨n.val * 128 + i.val, by omega⟩ ⟨h.val * 512 + (w.val * 128 + (lane s d).val), by omega⟩)
      = (blkAt z gq gk sk tb dO n).dO h (hd w s) i d :=
  congrArg₂ (fun a b => dO (ix2 a b)) rfl (Fin.ext (show h.val * 512 + (w.val * 128 + (s.val * 64 + d.val))
    = h.val * 512 + (2 * w.val + s.val) * 64 + d.val by omega))
theorem blkAt_sink (h e f s : Fin 2) (i : Fin 128) :
    sk (ix2 0 ⟨h.val * 8 + (e.val * 512 + (row f s i).val) / 128, by omega⟩) = (blkAt z gq gk sk tb dO n).sink h (hd (pr e f) s) :=
  congrArg (fun b => sk (ix2 0 b)) (Fin.ext (show h.val * 8 + (e.val * 512 + (f.val * 256 + s.val * 128 + i.val)) / 128
    = h.val * 8 + (2 * (2 * e.val + f.val) + s.val) by omega))
theorem blkAt_bias (h e : Fin 2) (j : Fin 256) (f s : Fin 2) (i : Fin 128) :
    Cert.ReferenceIdeal.Read.val_main_v84 (F := Ideal) tb
        (ix3 ⟨(row f s i).val % 128, by omega⟩ j ⟨h.val * 8 + (e.val * 512 + (row f s i).val) / 128, by omega⟩)
      = (blkAt z gq gk sk tb dO n).bias h (hd (pr e f) s) j i :=
  congrArg₂ (fun a b => Cert.ReferenceIdeal.Read.val_main_v84 (F := Ideal) tb (ix3 a j b))
    (Fin.ext (show (f.val * 256 + s.val * 128 + i.val) % 128 = i.val by omega))
    (Fin.ext (show h.val * 8 + (e.val * 512 + (f.val * 256 + s.val * 128 + i.val)) / 128
      = h.val * 8 + (2 * (2 * e.val + f.val) + s.val) by omega))
end Fields

theorem n_eq : ((inAt m c t).n = 0#32) ↔ t.val = 0 := by
  have ht := t_lt t
  have e : ∀ t : Fin cfg0.N, (BitVec.ofNat 32 (grid0.coords t 0) = 0#32) ↔ t.val = 0 :=
    (by decide +kernel : ∀ t : Fin grid0.N, (BitVec.ofNat 32 (grid0.coords t 0) = 0#32) ↔ t.val = 0)
  exact e t

theorem off_at (h e : Fin 2) (j : Fin 256) (f s : Fin 2) (i : Fin 128) (a : EReal) :
    (if (inAt m c t).n = 0#32 ∧ j.val < 128 then ⊥ else a + (inAt m c t).b h e (ix3 0 j (row f s i)))
      = if (blkM m c ⟨t.val, t_lt t⟩).ok j i then a + (blkM m c ⟨t.val, t_lt t⟩).bias h (hd (pr e f) s) j i else ⊥ := by
  rw [b_at]
  have er : (row f s i).val % 128 = i.val := show (f.val * 256 + s.val * 128 + i.val) % 128 = i.val by omega
  have eb := blkAt_bias (m (c, main_arg0)) (m (c, main_arg1)) (m (c, main_arg2)) (m (c, main_arg3)) (m (c, main_arg4)) (m (c, main_arg5)) ⟨t.val, t_lt t⟩ h e j f s i
  have eo : (blkM m c ⟨t.val, t_lt t⟩).ok j i = decide (i.val < j.val ∧ j.val ≤ i.val + 128 ∧ (t.val = 0 → 128 ≤ j.val)) := rfl
  have en := n_eq m c t
  generalize (inAt m c t).n = N at en ⊢
  generalize (blkM m c ⟨t.val, t_lt t⟩).ok j i = O at eo ⊢
  by_cases h0 : N = 0#32 ∧ j.val < 128
  · rw [if_pos h0, if_neg]
    rw [eo, decide_eq_true_eq]
    have := en.mp h0.1
    omega
  · rw [if_neg h0]
    by_cases h1 : i.val < j.val ∧ j.val ≤ i.val + 128
    · rw [if_pos (by rw [er]; exact h1), if_pos, eb]
      rw [eo, decide_eq_true_eq]
      refine ⟨h1.1, h1.2, fun h2 => ?_⟩
      by_contra h3
      exact h0 ⟨en.mpr h2, by omega⟩
    · rw [if_neg (by rw [er]; exact h1), if_neg, EReal.add_bot]
      rw [eo, decide_eq_true_eq]
      exact fun h2 => h1 ⟨h2.1, h2.2.1⟩

theorem gqI (s : Fin 2) (d : Fin 64) : (inAt m c t).gq (ix2 0 (lane s d)) = (m (c, main_arg1) : FVec Ideal S1x64 .f32) (ix2 0 d) :=
  (load1_at (iblk m c 6 t) _).trans ((congrFun (blk6 m c t) _).trans (gq_at m c s d))
theorem gkI (s : Fin 2) (d : Fin 64) : (inAt m c t).gk (ix2 0 (lane s d)) = (m (c, main_arg2) : FVec Ideal S1x64 .f32) (ix2 0 d) :=
  (load1_at (iblk m c 7 t) _).trans ((congrFun (blk7 m c t) _).trans (gk_at m c s d))

theorem qM (h : Fin 2) (w : Fin 4) (s : Fin 2) (i : Fin 128) (d : Fin 64) : (inAt m c t).x h w (ix2 i (lane s d)) = (blkM m c ⟨t.val, t_lt t⟩).q h (hd w s) i d := by
  rw [x_at]; exact blkAt_q (m (c, main_arg0)) (m (c, main_arg1)) (m (c, main_arg2)) (m (c, main_arg3)) (m (c, main_arg4)) (m (c, main_arg5)) ⟨t.val, t_lt t⟩ h w s i d
theorem dOM (h : Fin 2) (w : Fin 4) (s : Fin 2) (i : Fin 128) (d : Fin 64) : (inAt m c t).g h w (ix2 i (lane s d)) = (blkM m c ⟨t.val, t_lt t⟩).dO h (hd w s) i d := by
  rw [g_at]; exact blkAt_dO (m (c, main_arg0)) (m (c, main_arg1)) (m (c, main_arg2)) (m (c, main_arg3)) (m (c, main_arg4)) (m (c, main_arg5)) ⟨t.val, t_lt t⟩ h w s i d
theorem sM (h e f s : Fin 2) (i : Fin 128) : (inAt m c t).s h e (ix2 0 (row f s i)) = (blkM m c ⟨t.val, t_lt t⟩).sink h (hd (pr e f) s) := by
  rw [s_at]; exact blkAt_sink (m (c, main_arg0)) (m (c, main_arg1)) (m (c, main_arg2)) (m (c, main_arg3)) (m (c, main_arg4)) (m (c, main_arg5)) ⟨t.val, t_lt t⟩ h e f s i
theorem kM (h : Fin 2) (j : Fin 256) (d : Fin 64) : band (inAt m c t).kp (inAt m c t).kc (ix2 j (lane h d)) = (blkM m c ⟨t.val, t_lt t⟩).k h j d := by
  rw [k_at]; rfl
theorem vM (h : Fin 2) (j : Fin 256) (d : Fin 64) : band (inAt m c t).vp (inAt m c t).vc (ix2 j (lane h d)) = (blkM m c ⟨t.val, t_lt t⟩).v h j d := by
  rw [v_at]; rfl

theorem holds : Holds (inAt m c t) (blkM m c ⟨t.val, t_lt t⟩) :=
  ⟨qM m c t, dOM m c t, kM m c t, vM m c t, gqI m c t, gkI m c t, sM m c t, off_at m c t⟩

end Cert.KernelIdeal.Att
-- ==== Proof.KOut.lean ====
/- The kernel's eight results at an index, as the specification of the reference's blocks. -/
module
public import proofs.«01_k».proof.Proof.KBlk
@[expose] public section
set_option maxRecDepth 16384

noncomputable section

namespace Cert.KernelIdeal.Att
open Cert.KernelIdeal Cert.KernelIdeal.Gen Cert.Attention Idealize.ShloMosaic Idealize.ShloMosaic.TcCoe

variable (m : (ℓ : Loc nD τ sig) → Buf (Elt Ideal) ℓ) (c : Dev nD)

/-- Block `n` as the reference reads it from the kernel's arguments. -/
abbrev refM (n : Fin 64) : Blk :=
  refBlk (m (c, main_arg0)) (m (c, main_arg1)) (m (c, main_arg2)) (m (c, main_arg3)) (m (c, main_arg4)) (m (c, main_arg5)) n

theorem differ (n : Fin 64) (j : Fin 256) : (∀ i, (blkM m c n).ok j i = false)
    ∨ ∀ h, (blkM m c n).k h j = bandAt (m (c, main_arg0)) n 2048 (by omega) h j ∧ (blkM m c n).v h j = bandAt (m (c, main_arg0)) n 2176 (by omega) h j :=
  band_differ (m (c, main_arg0)) (m (c, main_arg1)) (m (c, main_arg2)) (m (c, main_arg3)) (m (c, main_arg4)) (m (c, main_arg5)) n j

/-- The grid point of a block. -/
def pt (n : Fin 64) : Fin cfg0.N := ⟨n.val, by rw [show cfg0.N = 64 from N_0]; exact n.isLt⟩
theorem holds_pt (n : Fin 64) : Holds (inAt m c (pt n)) (blkM m c n) := holds m c (pt n)

theorem heads (g : Fin 8) : ∃ e f t : Fin 2, g = hd (pr e f) t :=
  ⟨⟨g.val / 4, by omega⟩, ⟨g.val / 2 % 2, by omega⟩, ⟨g.val % 2, by omega⟩,
    Fin.ext (by show g.val = 2 * (2 * (g.val / 4) + g.val / 2 % 2) + g.val % 2; omega)⟩

variable (n : Fin 64) (i j : Fin 128) (h t : Fin 2) (g : Fin 8) (d : Fin 64)

theorem out_dq : (dats m 0 c).arrAt 11 cfg0.N (ix2 (n0 := 8192) (n1 := 1024) ⟨n.val * 128 + i.val, by omega⟩ ⟨h.val * 512 + g.val * 64 + d.val, by omega⟩)
    = (refM m c n).dq h g i d := by
  obtain ⟨e, f, t, rfl⟩ := heads g
  rw [arr11]
  show (inAt m c (blkOf ⟨n.val * 128 + i.val, _⟩)).totQ (ix2 (rowOf ⟨n.val * 128 + i.val, _⟩) ⟨h.val * 512 + (hd (pr e f) t).val * 64 + d.val, _⟩) = _
  rw [blkOf_eq _ (pt n) i rfl, rowOf_eq _ (pt n) i rfl, (blkM m c n).dq_other h (hd (pr e f) t) i d _ _ (differ m c n), ← In.dq_apply (holds_pt m c n)]
  refine (In.valQ _ h e f _ _ rfl ?_).symm
  show h.val * 512 + (2 * (2 * e.val + f.val) + t.val) * 64 + d.val = (h.val * 4 + e.val * 2 + f.val) * 128 + (t.val * 64 + d.val)
  omega

theorem up_apply (X : FVec Ideal S256x128 .f32) (l : Fin 128) : In.up X (ix2 j l) = X (ix2 ⟨j.val, by omega⟩ l) := by
  pointwise [In.up]
theorem lo_apply (X : FVec Ideal S256x128 .f32) (l : Fin 128) : In.lo X (ix2 j l) = X (ix2 ⟨128 + j.val, by omega⟩ l) := by
  pointwise [In.lo]

theorem half_at (e f t : Fin 2) (i : Fin 128) : In.half ⟨(hd (pr e f) t).val * 128 + i.val, by omega⟩ = e :=
  Fin.ext (by show ((2 * (2 * e.val + f.val) + t.val) * 128 + i.val) / 512 = e.val; omega)
theorem col_at (e f t : Fin 2) (i : Fin 128) : In.col ⟨(hd (pr e f) t).val * 128 + i.val, by omega⟩ = row f t i :=
  Fin.ext (by show ((2 * (2 * e.val + f.val) + t.val) * 128 + i.val) % 512 = f.val * 256 + t.val * 128 + i.val; omega)

theorem out_dkp : (dats m 0 c).arrAt 12 cfg0.N (ix2 (n0 := 8192) (n1 := 128) ⟨n.val * 128 + j.val, by omega⟩ ⟨h.val * 64 + d.val, by omega⟩)
    = (refM m c n).dk h ⟨j.val, by omega⟩ d := by
  rw [arr12]
  show In.up (In.dK (inAt m c (blkOf ⟨n.val * 128 + j.val, _⟩))) (ix2 (rowOf ⟨n.val * 128 + j.val, _⟩) (lane h d)) = _
  rw [blkOf_eq _ (pt n) j rfl, rowOf_eq _ (pt n) j rfl, up_apply, (blkM m c n).dk_other h _ d _ _ (differ m c n), ← In.dK_apply (holds_pt m c n)]

theorem out_dkc : (dats m 0 c).arrAt 13 cfg0.N (ix2 (n0 := 8192) (n1 := 128) ⟨n.val * 128 + j.val, by omega⟩ ⟨h.val * 64 + d.val, by omega⟩)
    = (refM m c n).dk h ⟨128 + j.val, by omega⟩ d := by
  rw [arr13]
  show In.lo (In.dK (inAt m c (blkOf ⟨n.val * 128 + j.val, _⟩))) (ix2 (rowOf ⟨n.val * 128 + j.val, _⟩) (lane h d)) = _
  rw [blkOf_eq _ (pt n) j rfl, rowOf_eq _ (pt n) j rfl, lo_apply, (blkM m c n).dk_other h _ d _ _ (differ m c n), ← In.dK_apply (holds_pt m c n)]

theorem out_dvp : (dats m 0 c).arrAt 14 cfg0.N (ix2 (n0 := 8192) (n1 := 128) ⟨n.val * 128 + j.val, by omega⟩ ⟨h.val * 64 + d.val, by omega⟩)
    = (refM m c n).dv h ⟨j.val, by omega⟩ d := by
  rw [arr14]
  show In.up (In.dV (inAt m c (blkOf ⟨n.val * 128 + j.val, _⟩))) (ix2 (rowOf ⟨n.val * 128 + j.val, _⟩) (lane h d)) = _
  rw [blkOf_eq _ (pt n) j rfl, rowOf_eq _ (pt n) j rfl, up_apply, (blkM m c n).dv_other h _ d _ _ (differ m c n), ← In.dV_apply (holds_pt m c n)]

theorem out_dvc : (dats m 0 c).arrAt 15 cfg0.N (ix2 (n0 := 8192) (n1 := 128) ⟨n.val * 128 + j.val, by omega⟩ ⟨h.val * 64 + d.val, by omega⟩)
    = (refM m c n).dv h ⟨128 + j.val, by omega⟩ d := by
  rw [arr15]
  show In.lo (In.dV (inAt m c (blkOf ⟨n.val * 128 + j.val, _⟩))) (ix2 (rowOf ⟨n.val * 128 + j.val, _⟩) (lane h d)) = _
  rw [blkOf_eq _ (pt n) j rfl, rowOf_eq _ (pt n) j rfl, lo_apply, (blkM m c n).dv_other h _ d _ _ (differ m c n), ← In.dV_apply (holds_pt m c n)]

theorem out_dl (j : Fin 256) : (dats m 0 c).arrAt 16 cfg0.N (ix3 (n0 := 2) (n1 := 256) (n2 := 1024) h j ⟨g.val * 128 + i.val, by omega⟩)
    = ∑ n, (refM m c n).ds h g i j := by
  obtain ⟨e, f, t, rfl⟩ := heads g
  refine (congrFun (arr16 m c) _).trans ?_
  show (∑ k : Fin 64, (inAt m c (pt k)).totL (ix3 h j ⟨(hd (pr e f) t).val * 128 + i.val, by omega⟩) : EReal) = _
  refine Finset.sum_congr rfl fun n _ => ?_
  rw [(blkM m c n).ds_other h (hd (pr e f) t) i j _ _ (differ m c n), ← In.S_apply (holds_pt m c n)]
  exact congrArg₂ (fun a b => (inAt m c (pt n)).S h a (ix2 j b)) (half_at e f t i) (col_at e f t i)

theorem out_dsink : (dats m 0 c).arrAt 17 cfg0.N (ix3 (n0 := 2) (n1 := 1) (n2 := 1024) h 0 ⟨g.val * 128 + i.val, by omega⟩)
    = ∑ n, (refM m c n).dsink h g i := by
  obtain ⟨e, f, t, rfl⟩ := heads g
  refine (congrFun (arr17 m c) _).trans ?_
  show (∑ k : Fin 64, (inAt m c (pt k)).totK (ix3 h 0 ⟨(hd (pr e f) t).val * 128 + i.val, by omega⟩) : EReal) = _
  refine Finset.sum_congr rfl fun n _ => ?_
  rw [(blkM m c n).dsink_other h (hd (pr e f) t) i _ _ (differ m c n), ← In.dsk_apply (holds_pt m c n)]
  exact congrArg₂ (fun a b => (inAt m c (pt n)).dsk h a (ix2 0 b)) (half_at e f t i) (col_at e f t i)

theorem out_dqg : (dats m 0 c).arrAt 18 cfg0.N (ix2 (n0 := 8) (n1 := 128) 0 ⟨t.val * 64 + d.val, by omega⟩) = ∑ n, (refM m c n).dqg d t := by
  refine (congrFun (arr18 m c) _).trans ?_
  show (∑ k : Fin 64, (inAt m c (pt k)).dg (ix2 0 ⟨t.val * 64 + d.val, by omega⟩) : EReal) = _
  refine Finset.sum_congr rfl fun n _ => ?_
  rw [(blkM m c n).dqg_other d _ _ (differ m c n) t, ← In.dgq_apply (holds_pt m c n)]
  exact gains_zero _ _ _

theorem out_dkg : (dats m 0 c).arrAt 18 cfg0.N (ix2 (n0 := 8) (n1 := 128) 1 ⟨h.val * 64 + d.val, by omega⟩) = ∑ n, (refM m c n).dkg h d := by
  refine (congrFun (arr18 m c) _).trans ?_
  show (∑ k : Fin 64, (inAt m c (pt k)).dg (ix2 1 ⟨h.val * 64 + d.val, by omega⟩) : EReal) = _
  refine Finset.sum_congr rfl fun n _ => ?_
  rw [(blkM m c n).dkg_other h d _ _ (differ m c n), ← In.dgk_apply (holds_pt m c n)]
  exact gains_one _ _ _

theorem out_rest (r : Fin 8) (hr : 2 ≤ r.val) (l : Fin 128) : (dats m 0 c).arrAt 18 cfg0.N (ix2 (n0 := 8) (n1 := 128) r l) = (0 : EReal) := by
  refine (congrFun (arr18 m c) _).trans ?_
  show (∑ k : Fin 64, (inAt m c (pt k)).dg (ix2 r l) : EReal) = _
  exact Finset.sum_eq_zero fun n _ => gains_rest _ _ r hr l

end Cert.KernelIdeal.Att
end
-- ==== Proof.RefA.lean ====
/- The reference's values at an index: the normalised queries and keys, and the scores. -/
module
public import proofs.«01_k».proof.Proof.Entry
public import proofs.«01_k».proof.Proof.Gen.ReferenceIdeal.Read
public import Idealize.ShloMosaic.Lib.Pointwise
public import Idealize.ShloMosaic.Lib.Tactic
@[expose] public section
set_option maxRecDepth 65536

noncomputable section

namespace Cert.ReferenceIdeal.Att
open Cert.ReferenceIdeal Cert.ReferenceIdeal.Read Cert.Attention Idealize.ShloMosaic Idealize.ShloMosaic.TcCoe

variable (x0 : FVec Ideal S8192x6400 .f32) (x1 x2 : FVec Ideal S1x64 .f32) (x3 : FVec Ideal S1x16 .f32) (x4 : FVec Ideal S32x16 .f32)
  (x5 : FVec Ideal S8192x1024 .f32)

/-- The query head `g` of key head `h` among all sixteen, and among the eight pairs. -/
def hq (h : Fin 2) (g : Fin 8) : Fin 16 := ⟨h.val * 8 + g.val, by omega⟩
def pq (h : Fin 2) (g : Fin 8) : Fin 8 := ⟨h.val * 4 + g.val / 2, by omega⟩
def tq (g : Fin 8) : Fin 2 := ⟨g.val % 2, by omega⟩

theorem ofBits_inv64 (a : EReal) : Ideal.div a (Ideal.ofBits .f32 1115684864#32) = a * ((1 / 64 : ℝ) : EReal) := by
  have h : Ideal.ofBits .f32 1115684864#32 = ((64 : ℝ) : EReal) := by
    simp [Ideal.ofBits, Ideal.ieee, -EReal.coe_mul]
    norm_num
  rw [h, div_real (by norm_num)]
  norm_num

theorem sitofp_zero : FloatOps.sitofp (F := Ideal) FTy.f32 (0#32) = (0 : EReal) := by
  show (((0#32 : BitVec 32).toInt : ℝ) : EReal) = 0
  simp

theorem r94 (n : Fin 64) (i : Fin 128) (h : Fin 2) (g : Fin 8) (d : Fin 64) : val_main_v94 (F := Ideal) x0 (ix5 n i (pq h g) (tq g) d)
    = (refBlk x0 x1 x2 x3 x4 x5 n).q h g i d := by
  show _ = x0 _
  pointwise [val_main_v94, val_main_v0, pq, tq]
  congr 3
  omega

theorem r102 (n : Fin 64) (i : Fin 128) (w : Fin 8) (t : Fin 2) : val_main_v102 (F := Ideal) x0 (ix5 n i w t 0)
    = scale (fun d => val_main_v94 (F := Ideal) x0 (ix5 n i w t d)) := by
  pointwise [val_main_v102, val_main_v101, val_main_v100, val_main_v99, val_main_v98, val_main_v97, val_main_v96, val_main_v95, val_main_cst, val_main_cst_22, val_main_cst_23]
  rw [ofBits_inv64]; rfl

theorem r111 (n : Fin 64) (i : Fin 128) (h : Fin 2) (g : Fin 8) (d : Fin 64) : val_main_v111 (F := Ideal) x0 x1 (ix5 n i h g d)
    = (refBlk x0 x1 x2 x3 x4 x5 n).qn h g i d := by
  unfold Blk.qn Blk.qh
  rw [← funext (fun d => r94 x0 x1 x2 x3 x4 x5 n i h g d), ← r102]
  pointwise [val_main_v111, val_main_v110, val_main_v107, val_main_v106, val_main_v109, val_main_v108, val_main_v90, pq, tq]
  rfl

theorem r129 (n : Fin 64) (j : Fin 128) (h : Fin 2) (d : Fin 64) : val_main_v129 (F := Ideal) x0 (ix4 n j h d)
    = (refBlk x0 x1 x2 x3 x4 x5 n).k h ⟨128 + j.val, by omega⟩ d := by
  show _ = bandAt x0 n 2048 (by omega) h _ d
  unfold bandAt
  rw [if_neg (by show ¬ (128 + j.val < 128); omega)]
  pointwise [val_main_v129, val_main_v1]
theorem r112 (n : Fin 64) (j : Fin 128) (h : Fin 2) (d : Fin 64) : val_main_v112 (F := Ideal) x0 (ix4 n j h d)
    = (refBlk x0 x1 x2 x3 x4 x5 n).k h ⟨j.val, by omega⟩ d := by
  show _ = bandAt x0 n 2048 (by omega) h _ d
  unfold bandAt
  rw [if_pos (by show j.val < 128; omega)]
  pointwise [val_main_v112, val_main_v87, val_main_v86, val_main_v1, val_main_call0_v0]
  have hh := h.isLt
  by_cases hn : n.val = 0
  · refine (dif_neg (by omega)).trans (Eq.trans ?_ (if_pos hn).symm)
    exact sitofp_zero
  · refine (dif_pos (by omega)).trans (Eq.trans ?_ (if_neg hn).symm)
    exact congrArg (fun a => x0 (ix2 a _)) (Fin.ext (by show n.val * 128 + j.val - 128 = (n.val - 1) * 128 + j.val % 128; omega))

theorem r120 (n : Fin 64) (i : Fin 128) (t : Fin 2) : val_main_v120 (F := Ideal) x0 (ix4 n i t 0)
    = scale (fun d => val_main_v112 (F := Ideal) x0 (ix4 n i t d)) := by
  pointwise [val_main_v120, val_main_v119, val_main_v118, val_main_v117, val_main_v116, val_main_v115, val_main_v114, val_main_v113, val_main_cst_25, val_main_cst_26, val_main_cst_27]
  rw [ofBits_inv64]; rfl
theorem r137 (n : Fin 64) (i : Fin 128) (t : Fin 2) : val_main_v137 (F := Ideal) x0 (ix4 n i t 0)
    = scale (fun d => val_main_v129 (F := Ideal) x0 (ix4 n i t d)) := by
  pointwise [val_main_v137, val_main_v136, val_main_v135, val_main_v134, val_main_v133, val_main_v132, val_main_v131, val_main_v130, val_main_cst_29, val_main_cst_30, val_main_cst_31]
  rw [ofBits_inv64]; rfl
theorem r125 (n : Fin 64) (j : Fin 128) (h : Fin 2) (d : Fin 64) : val_main_v125 (F := Ideal) x0 (ix4 n j h d)
    = (refBlk x0 x1 x2 x3 x4 x5 n).kh h ⟨j.val, by omega⟩ d := by
  unfold Blk.kh
  rw [← funext (fun d => r112 x0 x1 x2 x3 x4 x5 n j h d), ← r120]
  pointwise [val_main_v125, val_main_v124]
theorem r142 (n : Fin 64) (j : Fin 128) (h : Fin 2) (d : Fin 64) : val_main_v142 (F := Ideal) x0 (ix4 n j h d)
    = (refBlk x0 x1 x2 x3 x4 x5 n).kh h ⟨128 + j.val, by omega⟩ d := by
  unfold Blk.kh
  rw [← funext (fun d => r129 x0 x1 x2 x3 x4 x5 n j h d), ← r137]
  pointwise [val_main_v142, val_main_v141]
theorem r146 (n : Fin 64) (j : Fin 256) (h : Fin 2) (d : Fin 64) : val_main_v146 (F := Ideal) x0 x2 (ix4 n j h d)
    = (refBlk x0 x1 x2 x3 x4 x5 n).kn h j d := by
  unfold Blk.kn
  pointwise [val_main_v146, val_main_v128, val_main_v145, val_main_v127, val_main_v126, val_main_v144, val_main_v143, val_main_v91]
  by_cases hj : j.val < 128
  · refine (dif_pos hj).trans ?_
    rw [r125 x0 x1 x2 x3 x4 x5]; rfl
  · refine (dif_neg hj).trans ?_
    rw [r142 x0 x1 x2 x3 x4 x5]
    have e : (⟨128 + (j.val - 128), by omega⟩ : Fin 256) = j := Fin.ext (by show 128 + (j.val - 128) = j.val; omega)
    rw [e]; rfl
theorem r149 (n : Fin 64) (j : Fin 256) (h : Fin 2) (d : Fin 64) : val_main_v149 (F := Ideal) x0 (ix4 n j h d)
    = (refBlk x0 x1 x2 x3 x4 x5 n).v h j d := by
  show _ = bandAt x0 n 2176 (by omega) h _ d
  unfold bandAt
  pointwise [val_main_v149, val_main_v147, val_main_v148, val_main_v89, val_main_v88, val_main_call1_v0, val_main_v2]
  by_cases hj : j.val < 128
  · refine (dif_pos hj).trans (Eq.trans ?_ (if_pos hj).symm)
    by_cases hn : n.val = 0
    · refine (dif_neg (by omega)).trans (Eq.trans ?_ (if_pos hn).symm)
      exact sitofp_zero
    · refine (dif_pos (by omega)).trans (Eq.trans ?_ (if_neg hn).symm)
      exact congrArg (fun a => x0 (ix2 a _)) (Fin.ext (by show n.val * 128 + j.val - 128 = (n.val - 1) * 128 + j.val % 128; omega))
  · exact (dif_neg hj).trans (Eq.trans rfl (if_neg hj).symm)
theorem r154 (n : Fin 64) (h : Fin 2) (g : Fin 8) (i : Fin 128) (j : Fin 256) : val_main_v154 (F := Ideal) x0 x1 x2 (ix4 n (hq h g) i j)
    = (∑ d, (refBlk x0 x1 x2 x3 x4 x5 n).kn h j d * (refBlk x0 x1 x2 x3 x4 x5 n).qn h g i d) * Blk.eighth := by
  pointwise [val_main_v154, val_main_v153, val_main_cst_33, val_main_v152, val_main_v151, val_main_v150, hq]
  rw [show Ideal.ofBits .f32 1040187392#32 = Blk.eighth from ofBits_eighth]
  simp only [r146 x0 x1 x2 x3 x4 x5, r111 x0 x1 x2 x3 x4 x5]
theorem r156 (n : Fin 64) (h : Fin 2) (g : Fin 8) (i : Fin 128) (j : Fin 256) : val_main_v156 (F := Ideal) x4 (ix4 n (hq h g) i j)
    = (refBlk x0 x1 x2 x3 x4 x5 n).bias h g j i := by
  show _ = val_main_v84 (F := Ideal) x4 _
  pointwise [val_main_v156, val_main_v155, val_main_v85, hq]

end Cert.ReferenceIdeal.Att
-- ==== Proof.RefB.lean ====
/- The reference's values at an index: the scores, their maximum, the weights. -/
module
public import proofs.«01_k».proof.Proof.RefA
public import proofs.«01_k».proof.Proof.Gen.ReferenceIdeal.Read
public import Idealize.ShloMosaic.Lib.Pointwise
public import Idealize.ShloMosaic.Lib.Tactic
@[expose] public section
set_option maxRecDepth 65536

noncomputable section

namespace Cert.ReferenceIdeal.Att
open Cert.ReferenceIdeal Cert.ReferenceIdeal.Read Cert.Attention Idealize.ShloMosaic Idealize.ShloMosaic.TcCoe

variable (x0 : FVec Ideal S8192x6400 .f32) (x1 x2 : FVec Ideal S1x64 .f32) (x3 : FVec Ideal S1x16 .f32) (x4 : FVec Ideal S32x16 .f32)
  (x5 : FVec Ideal S8192x1024 .f32)

theorem and_bits : ∀ p q r : Bool, BitVec.ofBool p &&& BitVec.ofBool q &&& BitVec.ofBool r = if (p && q && r) = true then 1#1 else 0#1 := by decide

theorem bmod_small (a : Int) (h0 : -100000 ≤ a) (h1 : a ≤ 100000) : Int.bmod a (2 ^ 32) = a :=
  Int.bmod_eq_of_le (by omega) (by omega)

theorem r188 (n : Fin 64) (i : Fin 128) (j : Fin 256) : val_main_v187 (F := Ideal) (ix3 n i j)
    = if (refBlk x0 x1 x2 x3 x4 x5 n).ok j i then 1#1 else 0#1 := by
  show _ = if decide _ = true then _ else _
  pointwise [val_main_v187, val_main_v186, val_main_v185,val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_c_34, val_main_c_35, val_main_c_36, val_main_c_37, val_main_c_38, val_main_c_39]
  have hi := i.isLt
  have hj := j.isLt
  have hn := n.isLt
  have a : (BitVec.ofNat 32 i.val).toInt = i.val := by
    rw [BitVec.toInt_eq_toNat_cond, BitVec.toNat_ofNat]; omega
  have b : (BitVec.ofNat 32 j.val).toInt = j.val := by
    rw [BitVec.toInt_eq_toNat_cond, BitVec.toNat_ofNat]; omega
  have u : (BitVec.ofNat 32 n.val).toInt = n.val := by
    rw [BitVec.toInt_eq_toNat_cond, BitVec.toNat_ofNat]; omega
  have z : (0#32 : BitVec 32).toInt = 0 := rfl
  have o : (128#32 : BitVec 32).toInt = 128 := rfl
  have one : (1#32 : BitVec 32).toInt = 1 := rfl
  have e1 : (IntOp.addi (IntOp.muli (BitVec.ofNat 32 n.val) 128#32) (BitVec.ofNat 32 i.val) : BitVec 32).toInt = n.val * 128 + i.val := by
    simp only [IntOp.addi, IntOp.muli, BitVec.toInt_mul, BitVec.toInt_add, a, u, o]
    rw [bmod_small (n.val * 128) (by omega) (by omega), bmod_small _ (by omega) (by omega)]
  have e2 : (IntOp.addi (IntOp.muli (IntOp.subi (BitVec.ofNat 32 n.val) 1#32) 128#32) (BitVec.ofNat 32 j.val) : BitVec 32).toInt
      = ((n.val : Int) - 1) * 128 + j.val := by
    simp only [IntOp.addi, IntOp.subi, IntOp.muli, BitVec.toInt_mul, BitVec.toInt_add, BitVec.toInt_sub, b, u, o, one]
    rw [bmod_small (n.val - 1) (by omega) (by omega), bmod_small ((n.val - 1) * 128) (by omega) (by omega), bmod_small _ (by omega) (by omega)]
  generalize (IntOp.addi (IntOp.muli (BitVec.ofNat 32 n.val) 128#32) (BitVec.ofNat 32 i.val) : BitVec 32) = Q at e1 ⊢
  generalize (IntOp.addi (IntOp.muli (IntOp.subi (BitVec.ofNat 32 n.val) 1#32) 128#32) (BitVec.ofNat 32 j.val) : BitVec 32) = K at e2 ⊢
  have e3 : (IntOp.subi Q K).toInt = 128 + (i.val : Int) - j.val := by
    simp only [IntOp.subi, BitVec.toInt_sub, e1, e2]
    rw [bmod_small _ (by omega) (by omega)]
    omega
  simp only [IntOp.andi, IntOp.cmpi, BitVec.sle, BitVec.slt, e2, e3, z, o, decide_eq_true_eq]
  rw [and_bits]
  refine if_congr ?_ rfl rfl
  simp only [Bool.and_eq_true, decide_eq_true_eq]
  omega
theorem r189 (n : Fin 64) (h : Fin 2) (g : Fin 8) (i : Fin 128) (j : Fin 256) : val_main_v189_0 (F := Ideal) x0 x1 x2 x4 (ix4 n (hq h g) i j)
    = (refBlk x0 x1 x2 x3 x4 x5 n).lg h g i j := by
  unfold Blk.lg
  pointwise [val_main_v189_0, val_main_v189_1, val_main_v188, val_main_v157, val_main_call2_v2, val_main_call2_v0, val_main_cst_40]
  rw [r188 x0 x1 x2 x3 x4 x5, r154 x0 x1 x2 x3 x4 x5, r156 x0 x1 x2 x3 x4 x5]
  cases (refBlk x0 x1 x2 x3 x4 x5 n).ok j i
  · rw [if_neg Bool.false_ne_true, if_neg Bool.false_ne_true]
    exact ofBits_neg_inf
  · rfl
theorem r192 (n : Fin 64) (h : Fin 2) (g : Fin 8) (i : Fin 128) (j : Fin 257) : val_main_v192 (F := Ideal) x0 x1 x2 x3 x4 (ix4 n (hq h g) i j)
    = if hj : j.val < 256 then (refBlk x0 x1 x2 x3 x4 x5 n).lg h g i ⟨j.val, hj⟩ else (refBlk x0 x1 x2 x3 x4 x5 n).sink h g := by
  pointwise [val_main_v192, val_main_v191, val_main_v190, val_main_v93, val_main_v92]
  by_cases hj : j.val < 256
  · refine (dif_pos hj).trans (Eq.trans ?_ (dif_pos hj).symm)
    exact r189 x0 x1 x2 x3 x4 x5 n h g i ⟨j.val, hj⟩
  · refine (dif_neg hj).trans (Eq.trans ?_ (dif_neg hj).symm)
    rfl
end Cert.ReferenceIdeal.Att
-- ==== Proof.RefC.lean ====
/- The reference's values at an index: the weights, and the gradients of the scores and of the sinks. -/
module
public import proofs.«01_k».proof.Proof.RefB
public import proofs.«01_k».proof.Proof.Gen.ReferenceIdeal.Read
public import Idealize.ShloMosaic.Lib.Pointwise
public import Idealize.ShloMosaic.Lib.Tactic
@[expose] public section
set_option maxRecDepth 65536

noncomputable section

namespace Cert.ReferenceIdeal.Att
open Cert.ReferenceIdeal Cert.ReferenceIdeal.Read Cert.Attention Idealize.ShloMosaic Idealize.ShloMosaic.TcCoe

variable (x0 : FVec Ideal S8192x6400 .f32) (x1 x2 : FVec Ideal S1x64 .f32) (x3 : FVec Ideal S1x16 .f32) (x4 : FVec Ideal S32x16 .f32)
  (x5 : FVec Ideal S8192x1024 .f32)

theorem ofBits_one : Ideal.ofBits .f32 0x3F800000#32 = 1 := by
  simp [Ideal.ofBits, Ideal.ieee, -EReal.coe_mul]
  norm_cast
  norm_num

theorem fold_last (f : Fin 257 → EReal) : Finset.univ.fold max ⊥ f = max (Finset.univ.fold max ⊥ fun j : Fin 256 => f j.castSucc) (f (Fin.last 256)) := by
  rw [Fin.univ_castSuccEmb, Finset.fold_cons, Finset.fold_map, max_comm]
  rfl

/-- Over the keys of a band and the sink. -/
def ext (f : Fin 256 → EReal) (a : EReal) (j : Fin 257) : EReal := if hj : j.val < 256 then f ⟨j.val, hj⟩ else a
theorem ext_castSucc (f : Fin 256 → EReal) (a : EReal) (j : Fin 256) : ext f a j.castSucc = f j := dif_pos j.isLt
theorem ext_last (f : Fin 256 → EReal) (a : EReal) : ext f a (Fin.last 256) = a := dif_neg (by decide)
theorem max_ext (f : Fin 256 → EReal) (a : EReal) : Finset.univ.fold max ⊥ (ext f a) = max (Finset.univ.fold max ⊥ f) a := by
  rw [fold_last, ext_last]; simp only [ext_castSucc]
theorem sum_ext (f : Fin 256 → EReal) (a : EReal) : ∑ j, ext f a j = ∑ j, f j + a := by
  rw [Fin.sum_univ_castSucc, ext_last]; simp only [ext_castSucc]
theorem map_ext (F : EReal → EReal) (f : Fin 256 → EReal) (a : EReal) (j : Fin 257) : F (ext f a j) = ext (fun j => F (f j)) (F a) j := by
  unfold ext; split <;> rfl
theorem map2_ext (F : EReal → EReal → EReal) (f g : Fin 256 → EReal) (a b : EReal) (j : Fin 257) :
    F (ext f a j) (ext g b j) = ext (fun j => F (f j) (g j)) (F a b) j := by
  unfold ext; split <;> rfl

variable (n : Fin 64) (h : Fin 2) (g : Fin 8) (i : Fin 128)

theorem r192' (j : Fin 257) : val_main_v192 (F := Ideal) x0 x1 x2 x3 x4 (ix4 n (hq h g) i j) = ext (fun j => (refBlk x0 x1 x2 x3 x4 x5 n).lg h g i j) ((refBlk x0 x1 x2 x3 x4 x5 n).sink h g) j :=
  r192  x0 x1 x2 x3 x4 x5 n h g i j

theorem r193 : val_main_v193 (F := Ideal) x0 x1 x2 x3 x4 (ix3 n (hq h g) i) = (refBlk x0 x1 x2 x3 x4 x5 n).mx h g i := by
  unfold Blk.mx
  pointwise [val_main_v193, val_main_cst_41]
  simp only [r192'  x0 x1 x2 x3 x4 x5]
  rw [show Ideal.ofBits .f32 4286578688#32 = ⊥ from ofBits_neg_inf]
  rw [max_ext]
theorem bot_max (a : EReal) : FloatOps.maximumf (F := Ideal) (φ := .f32) (FloatOps.ofBits .f32 0xFF800000#32) a = a := by
  show max (Ideal.ofBits .f32 0xFF800000#32) a = a
  rw [ofBits_neg_inf]
  exact max_eq_right bot_le
theorem r200 : val_main_v200 (F := Ideal) x0 x1 x2 x3 x4 (ix3 n (hq h g) i) = (refBlk x0 x1 x2 x3 x4 x5 n).mx h g i := by
  refine Eq.trans ?_ (r193 x0 x1 x2 x3 x4 x5 n h g i)
  rw [val_main_v200_apply, val_main_v199_apply, val_main_cst_43_apply]
  generalize val_main_v193 (F := Ideal) x0 x1 x2 x3 x4 (ix3 n (hq h g) i) = a
  exact bot_max a
theorem r213 (j : Fin 257) : val_main_v213 (F := Ideal) x0 x1 x2 x3 x4 (ix4 n (hq h g) i j) = ext (fun j => (refBlk x0 x1 x2 x3 x4 x5 n).ex h g i j) ((refBlk x0 x1 x2 x3 x4 x5 n).es h g i) j := by
  pointwise [val_main_v213, val_main_v212, val_main_v211, val_main_v210]
  rw [r200  x0 x1 x2 x3 x4 x5, r192'  x0 x1 x2 x3 x4 x5]
  exact map_ext (fun a => Ideal.exp (a - (refBlk x0 x1 x2 x3 x4 x5 n).mx h g i)) _ _ j
theorem r214 : val_main_v214 (F := Ideal) x0 x1 x2 x3 x4 (ix3 n (hq h g) i) = (refBlk x0 x1 x2 x3 x4 x5 n).sm h g i := by
  pointwise [val_main_v214, val_main_cst_49]
  simp only [r213  x0 x1 x2 x3 x4 x5]
  rw [sum_ext]; rfl
theorem r220 : val_main_v220 (F := Ideal) x0 x1 x2 x3 x4 (ix4 n (hq h g) i 0) = Ideal.div 1 ((refBlk x0 x1 x2 x3 x4 x5 n).sm h g i * (refBlk x0 x1 x2 x3 x4 x5 n).sm h g i) := by
  pointwise [val_main_v220, val_main_v219, val_main_cst_50, val_main_v218, val_main_v215]
  rw [r214  x0 x1 x2 x3 x4 x5]
theorem r222 (hB : (refBlk x0 x1 x2 x3 x4 x5 n).Real) (j : Fin 256) : val_main_v222 (F := Ideal) x0 x1 x2 x3 x4 (ix5 n h g i j) = (refBlk x0 x1 x2 x3 x4 x5 n).p h g i j := by
  have e := r213  x0 x1 x2 x3 x4 x5 n h g i j.castSucc
  rw [ext_castSucc] at e
  have e2 := r214  x0 x1 x2 x3 x4 x5 n h g i
  unfold hq at e e2
  rw [← Blk.div_sm h g i j hB, ← e, ← e2]
  pointwise [val_main_v222, val_main_v221, val_main_v217, val_main_v216, val_main_v215]
  try rfl
theorem r232 (j : Fin 257) : val_main_v232 (F := Ideal) x0 x5 (ix4 n (hq h g) i j) = ext (fun j => (refBlk x0 x1 x2 x3 x4 x5 n).dp h g i j) 0 j := by
  pointwise [val_main_v232, val_main_v231, val_main_v228, val_main_v227, val_main_v226, val_main_cst_51, hq]
  have hg := g.isLt
  have hh := h.isLt
  unfold ext
  by_cases hj : j.val < 256
  · refine (dif_pos (by omega)).trans (Eq.trans ?_ (dif_pos hj).symm)
    unfold Blk.dp
    refine Finset.sum_congr rfl fun d _ => ?_
    rw [r149 x0 x1 x2 x3 x4 x5, mul_comm]
    rfl
  · refine (dif_neg (by omega)).trans (Eq.trans ?_ (dif_neg hj).symm)
    rfl
theorem r236 : val_main_v236 (F := Ideal) x0 x1 x2 x3 x4 x5 (ix3 n (hq h g) i)
    = ∑ k, (refBlk x0 x1 x2 x3 x4 x5 n).dp h g i k * Ideal.div 1 ((refBlk x0 x1 x2 x3 x4 x5 n).sm h g i * (refBlk x0 x1 x2 x3 x4 x5 n).sm h g i) * (refBlk x0 x1 x2 x3 x4 x5 n).ex h g i k := by
  pointwise [val_main_v236, val_main_v235, val_main_v234, val_main_v233, val_main_cst_52]
  simp only [r232  x0 x1 x2 x3 x4 x5, r213  x0 x1 x2 x3 x4 x5, r220  x0 x1 x2 x3 x4 x5]
  refine (Finset.sum_congr rfl fun j _ => map2_ext (fun a b => a * Ideal.div 1 ((refBlk x0 x1 x2 x3 x4 x5 n).sm h g i * (refBlk x0 x1 x2 x3 x4 x5 n).sm h g i) * b) _ _ _ _ j).trans ?_
  rw [sum_ext, zero_mul, zero_mul, add_zero]
theorem r244 (hB : (refBlk x0 x1 x2 x3 x4 x5 n).Real) (j : Fin 257) : val_main_v244 (F := Ideal) x0 x1 x2 x3 x4 x5 (ix4 n (hq h g) i j)
    = ext (fun j => (refBlk x0 x1 x2 x3 x4 x5 n).ds h g i j) ((refBlk x0 x1 x2 x3 x4 x5 n).dsink h g i) j := by
  pointwise [val_main_v244, val_main_v243, val_main_v242, val_main_v241, val_main_v240, val_main_v239, val_main_v238, val_main_v237, val_main_v215, val_main_cst_53]
  rw [r213 x0 x1 x2 x3 x4 x5, r232 x0 x1 x2 x3 x4 x5, r236 x0 x1 x2 x3 x4 x5, r214 x0 x1 x2 x3 x4 x5]
  rw [Fin.sum_univ_one]
  refine Fin.lastCases ?_ (fun j => ?_) j
  · rw [ext_last, ext_last, ext_last]
    exact Blk.dsink_ref h g i hB
  · rw [ext_castSucc, ext_castSucc, ext_castSucc]
    exact Blk.ds_ref h g i j hB
theorem r247 (hB : (refBlk x0 x1 x2 x3 x4 x5 n).Real) : val_main_v247 (F := Ideal) x0 x1 x2 x3 x4 x5 (ix3 n (hq h g) i) = (refBlk x0 x1 x2 x3 x4 x5 n).dsink h g i := by
  have e := r244 x0 x1 x2 x3 x4 x5 n h g i hB (Fin.last 256)
  rw [ext_last] at e
  rw [← e]
  pointwise [val_main_v247, val_main_v246, val_main_cst_54]
  exact Fin.sum_univ_one _
theorem r249 (hB : (refBlk x0 x1 x2 x3 x4 x5 n).Real) (j : Fin 256) : val_main_v249 (F := Ideal) x0 x1 x2 x3 x4 x5 (ix4 n (hq h g) i j) = (refBlk x0 x1 x2 x3 x4 x5 n).ds h g i j := by
  have e := r244 x0 x1 x2 x3 x4 x5 n h g i hB j.castSucc
  rw [ext_castSucc] at e
  have z := Blk.ds_of_not_ok (B := (refBlk x0 x1 x2 x3 x4 x5 n)) h g i j
  rw [← e] at z ⊢
  pointwise [val_main_v249, val_main_v189_1, val_main_v188, val_main_v245, val_main_call3_v0, val_main_call3_cst]
  rw [r188 x0 x1 x2 x3 x4 x5]
  generalize (refBlk x0 x1 x2 x3 x4 x5 n).ok j i = b at z ⊢
  cases b
  · exact (z rfl).symm
  · rfl
theorem r248 (hB : ∀ n, (refBlk x0 x1 x2 x3 x4 x5 n).Real) : val_main_v248 (F := Ideal) x0 x1 x2 x3 x4 x5 (ix2 (hq h g) i) = ∑ n, (refBlk x0 x1 x2 x3 x4 x5 n).dsink h g i := by
  pointwise [val_main_v248, val_main_cst_55]
  exact Finset.sum_congr rfl fun n _ => r247 x0 x1 x2 x3 x4 x5 n h g i (hB n)
theorem r250 (hB : ∀ n, (refBlk x0 x1 x2 x3 x4 x5 n).Real) (j : Fin 256) : val_main_v250 (F := Ideal) x0 x1 x2 x3 x4 x5 (ix3 (hq h g) i j) = ∑ n, (refBlk x0 x1 x2 x3 x4 x5 n).ds h g i j := by
  pointwise [val_main_v250, val_main_cst_56]
  exact Finset.sum_congr rfl fun n _ => r249 x0 x1 x2 x3 x4 x5 n h g i (hB n) j

end Cert.ReferenceIdeal.Att
-- ==== Proof.RefD.lean ====
/- The reference's values at an index: the gradients of the queries, keys, values and gains. -/
module
public import proofs.«01_k».proof.Proof.RefC
public import proofs.«01_k».proof.Proof.Gen.ReferenceIdeal.Read
public import Idealize.ShloMosaic.Lib.Pointwise
public import Idealize.ShloMosaic.Lib.Tactic
@[expose] public section
set_option maxRecDepth 65536

noncomputable section

namespace Cert.ReferenceIdeal.Att
open Cert.ReferenceIdeal Cert.ReferenceIdeal.Read Cert.Attention Idealize.ShloMosaic Idealize.ShloMosaic.TcCoe

variable (x0 : FVec Ideal S8192x6400 .f32) (x1 x2 : FVec Ideal S1x64 .f32) (x3 : FVec Ideal S1x16 .f32) (x4 : FVec Ideal S32x16 .f32)
  (x5 : FVec Ideal S8192x1024 .f32)

theorem ofBits_none : Ideal.ofBits .f32 0x00000000#32 = 0 := by
  simp [Ideal.ofBits, Ideal.ieee]
section
variable (hB : ∀ n, (refBlk x0 x1 x2 x3 x4 x5 n).Real) (n : Fin 64) (i : Fin 128) (h : Fin 2) (g : Fin 8) (d : Fin 64)
section
include hB
theorem r256 (j : Fin 256) : val_main_v256 (F := Ideal) x0 x1 x2 x3 x4 x5 (ix5 n h j i g) = (refBlk x0 x1 x2 x3 x4 x5 n).ds h g i j * Blk.eighth := by
  have e := r249 x0 x1 x2 x3 x4 x5 n h g i (hB n) j
  rw [← e]
  pointwise [val_main_v256, val_main_v255, val_main_v254, val_main_v253, val_main_cst_58, hq]
  rw [show Ideal.ofBits .f32 1040187392#32 = Blk.eighth from ofBits_eighth]
theorem r258 : val_main_v258 (F := Ideal) x0 x1 x2 x3 x4 x5 (ix5 n i h g d) = (refBlk x0 x1 x2 x3 x4 x5 n).dqn h g i d := by
  unfold Blk.dqn
  pointwise [val_main_v258, val_main_v257]
  simp only [r256 x0 x1 x2 x3 x4 x5 hB, r146 x0 x1 x2 x3 x4 x5]
  rw [show Blk.eighth = ((1 / 8 : ℝ) : EReal) from rfl, sum_mul_real _ _ _ (by norm_num)]
  exact Finset.sum_congr rfl fun j _ => by ac_rfl
theorem r260 (j : Fin 256) : val_main_v260 (F := Ideal) x0 x1 x2 x3 x4 x5 (ix4 n j h d) = (refBlk x0 x1 x2 x3 x4 x5 n).dkn h j d := by
  unfold Blk.dkn
  pointwise [val_main_v260, val_main_v259]
  simp only [r256 x0 x1 x2 x3 x4 x5 hB, r111 x0 x1 x2 x3 x4 x5]
  rw [Finset.sum_comm]
  exact Finset.sum_congr rfl fun g _ => Finset.sum_congr rfl fun i _ => by ac_rfl
theorem r230 (j : Fin 256) : val_main_v230 (F := Ideal) x0 x1 x2 x3 x4 x5 (ix4 n j h d) = (refBlk x0 x1 x2 x3 x4 x5 n).dv h j d := by
  unfold Blk.dv
  pointwise [val_main_v230, val_main_v229, val_main_v227, val_main_v226]
  simp only [r222 x0 x1 x2 x3 x4 x5 n h _ _ (hB n)]
  refine Finset.sum_congr rfl fun g _ => Finset.sum_congr rfl fun i _ => ?_
  exact mul_comm _ _
end
theorem r310 : val_main_v310 (F := Ideal) x0 x1 x2 x3 x4 x5 (ix5 n i (pq h g) (tq g) d) = val_main_v258 (F := Ideal) x0 x1 x2 x3 x4 x5 (ix5 n i h g d) := by
  unfold val_main_v310
  generalize val_main_v258 (F := Ideal) x0 x1 x2 x3 x4 x5 = a
  pointwise [pq, tq]
theorem r315 : val_main_v315 (F := Ideal) x0 x1 x2 x3 x4 x5 (ix5 n i (pq h g) (tq g) d) = val_main_v258 (F := Ideal) x0 x1 x2 x3 x4 x5 (ix5 n i h g d) * x1 (ix2 0 d) := by
  rw [val_main_v315_apply, r310, val_main_v314_apply, val_main_v108_apply, val_main_v90_apply]
  refine congrArg₂ (· * ·) rfl (congrArg x1 ?_)
  funext a
  fin_cases a <;> rfl
theorem r105 (w : Fin 8) (t : Fin 2) : val_main_v105 (F := Ideal) x0 (ix5 n i w t 0)
    = ((-(1 / 2) : ℝ) : EReal) * Ideal.div (scale fun d => val_main_v94 (F := Ideal) x0 (ix5 n i w t d))
      ((∑ d, val_main_v94 (F := Ideal) x0 (ix5 n i w t d) * val_main_v94 (F := Ideal) x0 (ix5 n i w t d)) * ((1 / 64 : ℝ) : EReal) + eps) := by
  rw [← r102]
  pointwise [val_main_v105, val_main_v104, val_main_cst_24, val_main_v103, val_main_v101, val_main_v100, val_main_v99, val_main_v98, val_main_v97, val_main_v96, val_main_v95, val_main_cst, val_main_cst_22, val_main_cst_23]
  rw [ofBits_inv64, show Ideal.ofBits .f32 3204448256#32 = ((-(1 / 2) : ℝ) : EReal) from ofBits_neg_half]; rfl
theorem r123 (t : Fin 2) : val_main_v123 (F := Ideal) x0 (ix4 n i t 0)
    = ((-(1 / 2) : ℝ) : EReal) * Ideal.div (scale fun d => val_main_v112 (F := Ideal) x0 (ix4 n i t d))
      ((∑ d, val_main_v112 (F := Ideal) x0 (ix4 n i t d) * val_main_v112 (F := Ideal) x0 (ix4 n i t d)) * ((1 / 64 : ℝ) : EReal) + eps) := by
  rw [← r120]
  pointwise [val_main_v123, val_main_v122, val_main_cst_28, val_main_v121, val_main_v119, val_main_v118, val_main_v117, val_main_v116, val_main_v115, val_main_v114, val_main_v113, val_main_cst_25, val_main_cst_26, val_main_cst_27]
  rw [ofBits_inv64, show Ideal.ofBits .f32 3204448256#32 = ((-(1 / 2) : ℝ) : EReal) from ofBits_neg_half]; rfl
theorem r140 (t : Fin 2) : val_main_v140 (F := Ideal) x0 (ix4 n i t 0)
    = ((-(1 / 2) : ℝ) : EReal) * Ideal.div (scale fun d => val_main_v129 (F := Ideal) x0 (ix4 n i t d))
      ((∑ d, val_main_v129 (F := Ideal) x0 (ix4 n i t d) * val_main_v129 (F := Ideal) x0 (ix4 n i t d)) * ((1 / 64 : ℝ) : EReal) + eps) := by
  rw [← r137]
  pointwise [val_main_v140, val_main_v139, val_main_cst_32, val_main_v138, val_main_v136, val_main_v135, val_main_v134, val_main_v133, val_main_v132, val_main_v131, val_main_v130, val_main_cst_29, val_main_cst_30, val_main_cst_31]
  rw [ofBits_inv64, show Ideal.ofBits .f32 3204448256#32 = ((-(1 / 2) : ℝ) : EReal) from ofBits_neg_half]; rfl
theorem div64 (a : EReal) : Ideal.div a (Ideal.ofBits .f32 1115684864#32) = Ideal.div a ((64 : ℝ) : EReal) := by
  rw [show Ideal.ofBits .f32 1115684864#32 = ((64 : ℝ) : EReal) from ofBits_sixtyfour]
theorem r326 (w : Fin 8) (t : Fin 2) : val_main_v326 (F := Ideal) x0 x1 x2 x3 x4 x5 (ix5 n i w t d)
    = Ideal.div ((∑ d, val_main_v94 (F := Ideal) x0 (ix5 n i w t d) * val_main_v315 (F := Ideal) x0 x1 x2 x3 x4 x5 (ix5 n i w t d))
      * val_main_v105 (F := Ideal) x0 (ix5 n i w t 0)) ((64 : ℝ) : EReal) := by
  have e1 : idx_main_v325 (idx_main_v326 (ix5 n i w t d)) 0 = ix5 n i w t 0 := by
    funext a; fin_cases a <;> rfl
  have e2 : ∀ k, idx_main_v318 (idx_main_v319 (ix5 n i w t 0)) k = ix5 n i w t k := fun k => by
    funext a; fin_cases a <;> exact Fin.ext (by first | rfl | (show (((((n.val * 128 + i.val) * 8 + w.val) * 2 + t.val) * 1 + 0) / 2048 = n.val); omega) | (show (((((n.val * 128 + i.val) * 8 + w.val) * 2 + t.val) * 1 + 0) / 16 % 128 = i.val); omega) | (show (((((n.val * 128 + i.val) * 8 + w.val) * 2 + t.val) * 1 + 0) / 2 % 8 = w.val); omega) | (show (((((n.val * 128 + i.val) * 8 + w.val) * 2 + t.val) * 1 + 0) % 2 = t.val); omega))
  rw [← div64, val_main_v326_apply, val_main_v325_apply, Fin.sum_univ_one, e1, val_main_v324_apply, val_main_v323_apply, val_main_cst_72_apply, val_main_v322_apply, val_main_v319_apply, val_main_v318_apply]
  simp only [val_main_v317_apply, val_main_cst_73_apply, val_main_cst_71_apply, e2]
  show Ideal.ofBits .f32 0x00000000#32 + Ideal.div ((Ideal.ofBits .f32 0x00000000#32 + _) * _) _ = _
  rw [ofBits_none, zero_add, zero_add]
  rfl
theorem r304 (t : Fin 2) : val_main_v304 (F := Ideal) x0 x1 x2 x3 x4 x5 (ix4 n i t d)
    = Ideal.div ((∑ d, val_main_v112 (F := Ideal) x0 (ix4 n i t d) * val_main_v292 (F := Ideal) x0 x1 x2 x3 x4 x5 (ix4 n i t d))
      * val_main_v123 (F := Ideal) x0 (ix4 n i t 0)) ((64 : ℝ) : EReal) := by
  have e1 : idx_main_v303 (idx_main_v304 (ix4 n i t d)) 0 = ix4 n i t 0 := by
    funext a; fin_cases a <;> rfl
  have e2 : ∀ k, idx_main_v296 (idx_main_v297 (ix4 n i t 0)) k = ix4 n i t k := fun k => by
    funext a; fin_cases a <;> exact Fin.ext (by first | rfl | (show ((((n.val * 128 + i.val) * 2 + t.val) * 1 + 0) / 256 = n.val); omega) | (show ((((n.val * 128 + i.val) * 2 + t.val) * 1 + 0) / 2 % 128 = i.val); omega) | (show ((((n.val * 128 + i.val) * 2 + t.val) * 1 + 0) % 2 = t.val); omega))
  rw [← div64, val_main_v304_apply, val_main_v303_apply, Fin.sum_univ_one, e1, val_main_v302_apply, val_main_v301_apply, val_main_cst_67_apply, val_main_v300_apply, val_main_v297_apply, val_main_v296_apply]
  simp only [val_main_v295_apply, val_main_cst_68_apply, val_main_cst_66_apply, e2]
  show Ideal.ofBits .f32 0x00000000#32 + Ideal.div ((Ideal.ofBits .f32 0x00000000#32 + _) * _) _ = _
  rw [ofBits_none, zero_add, zero_add]
  rfl
theorem r282 (t : Fin 2) : val_main_v282 (F := Ideal) x0 x1 x2 x3 x4 x5 (ix4 n i t d)
    = Ideal.div ((∑ d, val_main_v129 (F := Ideal) x0 (ix4 n i t d) * val_main_v271 (F := Ideal) x0 x1 x2 x3 x4 x5 (ix4 n i t d))
      * val_main_v140 (F := Ideal) x0 (ix4 n i t 0)) ((64 : ℝ) : EReal) := by
  have e1 : idx_main_v281 (idx_main_v282 (ix4 n i t d)) 0 = ix4 n i t 0 := by
    funext a; fin_cases a <;> rfl
  have e2 : ∀ k, idx_main_v274 (idx_main_v275 (ix4 n i t 0)) k = ix4 n i t k := fun k => by
    funext a; fin_cases a <;> exact Fin.ext (by first | rfl | (show ((((n.val * 128 + i.val) * 2 + t.val) * 1 + 0) / 256 = n.val); omega) | (show ((((n.val * 128 + i.val) * 2 + t.val) * 1 + 0) / 2 % 128 = i.val); omega) | (show ((((n.val * 128 + i.val) * 2 + t.val) * 1 + 0) % 2 = t.val); omega))
  rw [← div64, val_main_v282_apply, val_main_v281_apply, Fin.sum_univ_one, e1, val_main_v280_apply, val_main_v279_apply, val_main_cst_62_apply, val_main_v278_apply, val_main_v275_apply, val_main_v274_apply]
  simp only [val_main_v273_apply, val_main_cst_63_apply, val_main_cst_61_apply, e2]
  show Ideal.ofBits .f32 0x00000000#32 + Ideal.div ((Ideal.ofBits .f32 0x00000000#32 + _) * _) _ = _
  rw [ofBits_none, zero_add, zero_add]
  rfl
theorem r292 (j : Fin 128) : val_main_v292 (F := Ideal) x0 x1 x2 x3 x4 x5 (ix4 n j h d) = val_main_v260 (F := Ideal) x0 x1 x2 x3 x4 x5 (ix4 n ⟨j.val, by omega⟩ h d) * x2 (ix2 0 d) := by
  rw [val_main_v292_apply, val_main_v265_apply, val_main_v291_apply, val_main_v126_apply, val_main_v91_apply]
  generalize val_main_v260 (F := Ideal) x0 x1 x2 x3 x4 x5 = a
  refine congrArg₂ (· * ·) (congrArg a ?_) (congrArg x2 ?_) <;> funext a <;> fin_cases a <;> rfl
theorem r271 (j : Fin 128) : val_main_v271 (F := Ideal) x0 x1 x2 x3 x4 x5 (ix4 n j h d) = val_main_v260 (F := Ideal) x0 x1 x2 x3 x4 x5 (ix4 n ⟨128 + j.val, by omega⟩ h d) * x2 (ix2 0 d) := by
  rw [val_main_v271_apply, val_main_v266_apply, val_main_v270_apply, val_main_v143_apply, val_main_v91_apply]
  generalize val_main_v260 (F := Ideal) x0 x1 x2 x3 x4 x5 = a
  refine congrArg₂ (· * ·) (congrArg a ?_) (congrArg x2 ?_) <;> funext a <;> fin_cases a <;> rfl
theorem r330_sum : val_main_v330 (F := Ideal) x0 x1 x2 x3 x4 x5 (ix5 n i (pq h g) (tq g) d)
    = val_main_v315 (F := Ideal) x0 x1 x2 x3 x4 x5 (ix5 n i (pq h g) (tq g) d) * val_main_v102 (F := Ideal) x0 (ix5 n i (pq h g) (tq g) 0) + val_main_v94 (F := Ideal) x0 (ix5 n i (pq h g) (tq g) d) * val_main_v326 (F := Ideal) x0 x1 x2 x3 x4 x5 (ix5 n i (pq h g) (tq g) d)
      + val_main_v326 (F := Ideal) x0 x1 x2 x3 x4 x5 (ix5 n i (pq h g) (tq g) d) * val_main_v94 (F := Ideal) x0 (ix5 n i (pq h g) (tq g) d) := by
  have e : idx_main_v320 (ix5 n i (pq h g) (tq g) d) = ix5 n i (pq h g) (tq g) 0 := by
    funext a; fin_cases a <;> rfl
  rw [val_main_v330_apply, val_main_v329_apply, val_main_v328_apply, val_main_v327_apply, val_main_v321_apply, val_main_v320_apply, e]
  rfl
theorem r308_sum (j : Fin 128) : val_main_v308 (F := Ideal) x0 x1 x2 x3 x4 x5 (ix4 n j h d)
    = val_main_v292 (F := Ideal) x0 x1 x2 x3 x4 x5 (ix4 n j h d) * val_main_v120 (F := Ideal) x0 (ix4 n j h 0) + val_main_v112 (F := Ideal) x0 (ix4 n j h d) * val_main_v304 (F := Ideal) x0 x1 x2 x3 x4 x5 (ix4 n j h d)
      + val_main_v304 (F := Ideal) x0 x1 x2 x3 x4 x5 (ix4 n j h d) * val_main_v112 (F := Ideal) x0 (ix4 n j h d) := by
  have e : idx_main_v298 (ix4 n j h d) = ix4 n j h 0 := by
    funext a; fin_cases a <;> rfl
  rw [val_main_v308_apply, val_main_v307_apply, val_main_v306_apply, val_main_v305_apply, val_main_v299_apply, val_main_v298_apply, e]
  rfl
theorem r286_sum (j : Fin 128) : val_main_v286 (F := Ideal) x0 x1 x2 x3 x4 x5 (ix4 n j h d)
    = val_main_v271 (F := Ideal) x0 x1 x2 x3 x4 x5 (ix4 n j h d) * val_main_v137 (F := Ideal) x0 (ix4 n j h 0) + val_main_v129 (F := Ideal) x0 (ix4 n j h d) * val_main_v282 (F := Ideal) x0 x1 x2 x3 x4 x5 (ix4 n j h d)
      + val_main_v282 (F := Ideal) x0 x1 x2 x3 x4 x5 (ix4 n j h d) * val_main_v129 (F := Ideal) x0 (ix4 n j h d) := by
  have e : idx_main_v276 (ix4 n j h d) = ix4 n j h 0 := by
    funext a; fin_cases a <;> rfl
  rw [val_main_v286_apply, val_main_v285_apply, val_main_v284_apply, val_main_v283_apply, val_main_v277_apply, val_main_v276_apply, e]
  rfl
section
include hB
theorem r330 : val_main_v330 (F := Ideal) x0 x1 x2 x3 x4 x5 (ix5 n i (pq h g) (tq g) d) = (refBlk x0 x1 x2 x3 x4 x5 n).dq h g i d := by
  rw [r330_sum, r326, r105, r102]
  simp only [r315, r94 x0 x1 x2 x3 x4 x5, r258 x0 x1 x2 x3 x4 x5 hB]
  exact Blk.back_ref ((refBlk x0 x1 x2 x3 x4 x5 n).q h g i) (refBlk x0 x1 x2 x3 x4 x5 n).gq ((refBlk x0 x1 x2 x3 x4 x5 n).dqn h g i) ((hB n).q h g i) d
theorem r308 (j : Fin 128) : val_main_v308 (F := Ideal) x0 x1 x2 x3 x4 x5 (ix4 n j h d) = (refBlk x0 x1 x2 x3 x4 x5 n).dk h ⟨j.val, by omega⟩ d := by
  rw [r308_sum, r304, r123, r120]
  simp only [r292, r112 x0 x1 x2 x3 x4 x5, r260 x0 x1 x2 x3 x4 x5 hB]
  exact Blk.back_ref ((refBlk x0 x1 x2 x3 x4 x5 n).k h ⟨j.val, by omega⟩) (refBlk x0 x1 x2 x3 x4 x5 n).gk ((refBlk x0 x1 x2 x3 x4 x5 n).dkn h ⟨j.val, by omega⟩) ((hB n).k h ⟨j.val, by omega⟩) d
theorem r286 (j : Fin 128) : val_main_v286 (F := Ideal) x0 x1 x2 x3 x4 x5 (ix4 n j h d) = (refBlk x0 x1 x2 x3 x4 x5 n).dk h ⟨128 + j.val, by omega⟩ d := by
  rw [r286_sum, r282, r140, r137]
  simp only [r271, r129 x0 x1 x2 x3 x4 x5, r260 x0 x1 x2 x3 x4 x5 hB]
  exact Blk.back_ref ((refBlk x0 x1 x2 x3 x4 x5 n).k h ⟨128 + j.val, by omega⟩) (refBlk x0 x1 x2 x3 x4 x5 n).gk ((refBlk x0 x1 x2 x3 x4 x5 n).dkn h ⟨128 + j.val, by omega⟩) ((hB n).k h ⟨128 + j.val, by omega⟩) d
end
end

theorem sum_one2 (f : Fin 1 × Fin 1 → EReal) : ∑ k, f k = f (0, 0) := by
  rw [Fintype.sum_prod_type, Fin.sum_univ_one, Fin.sum_univ_one]
theorem sum_one3 (f : Fin 1 × Fin 1 × Fin 1 → EReal) : ∑ k, f k = f (0, 0, 0) := by
  rw [Fintype.sum_prod_type, Fin.sum_univ_one, Fintype.sum_prod_type, Fin.sum_univ_one, Fin.sum_univ_one]
theorem red_k (v : FVec Ideal S64x128x2x64 .f32) (u : EReal) (h : Fin 2) (d : Fin 64) : Ideal.hostReduceAdd Gen.reducesTo_S64x128x2x64_S2x64_d0_1 v u (ix2 h d) = u + ∑ k : Fin 64 × Fin 128, v (ix4 k.1 k.2 h d) := by
  refine congrArg (u + ·) (Finset.sum_filter_eq_sum_of_fiber _ (fun k : Fin 64 × Fin 128 => ix4 k.1 k.2 h d) ?_ ?_ v)
  · intro a b e
    have e0 := congrFun e 0
    have e1 := congrFun e 1
    exact Prod.ext e0 e1
  · intro i
    have v0 : (Shape.ReducesTo.drop Gen.reducesTo_S64x128x2x64_S2x64_d0_1 i 0 : Nat) = i 2 := Shape.ReducesTo.drop_apply_val _ i 0
    have v1 : (Shape.ReducesTo.drop Gen.reducesTo_S64x128x2x64_S2x64_d0_1 i 1 : Nat) = i 3 := Shape.ReducesTo.drop_apply_val _ i 1
    constructor
    · intro e
      rw [e] at v0 v1
      refine ⟨(i 0, i 1), funext fun a => Fin.ext ?_⟩
      match a with
      | ⟨0, _⟩ => rfl
      | ⟨1, _⟩ => rfl
      | ⟨2, _⟩ => exact v0
      | ⟨3, _⟩ => exact v1
    · rintro ⟨k, rfl⟩
      exact funext fun a => Fin.ext (by match a with | ⟨0, _⟩ => exact v0 | ⟨1, _⟩ => exact v1)

theorem red_k1 (v : FVec Ideal S1x1x2x64 .f32) (u : EReal) (h : Fin 2) (d : Fin 64) : Ideal.hostReduceAdd Gen.reducesTo_S1x1x2x64_S2x64_d0_1 v u (ix2 h d) = u + ∑ k : Fin 1 × Fin 1, v (ix4 k.1 k.2 h d) := by
  refine congrArg (u + ·) (Finset.sum_filter_eq_sum_of_fiber _ (fun k : Fin 1 × Fin 1 => ix4 k.1 k.2 h d) ?_ ?_ v)
  · intro a b e
    have e0 := congrFun e 0
    have e1 := congrFun e 1
    exact Prod.ext e0 e1
  · intro i
    have v0 : (Shape.ReducesTo.drop Gen.reducesTo_S1x1x2x64_S2x64_d0_1 i 0 : Nat) = i 2 := Shape.ReducesTo.drop_apply_val _ i 0
    have v1 : (Shape.ReducesTo.drop Gen.reducesTo_S1x1x2x64_S2x64_d0_1 i 1 : Nat) = i 3 := Shape.ReducesTo.drop_apply_val _ i 1
    constructor
    · intro e
      rw [e] at v0 v1
      refine ⟨(i 0, i 1), funext fun a => Fin.ext ?_⟩
      match a with
      | ⟨0, _⟩ => rfl
      | ⟨1, _⟩ => rfl
      | ⟨2, _⟩ => exact v0
      | ⟨3, _⟩ => exact v1
    · rintro ⟨k, rfl⟩
      exact funext fun a => Fin.ext (by match a with | ⟨0, _⟩ => exact v0 | ⟨1, _⟩ => exact v1)

theorem red_q (v : FVec Ideal S64x128x8x2x64 .f32) (u : EReal) (h : Fin 2) (d : Fin 64) : Ideal.hostReduceAdd Gen.reducesTo_S64x128x8x2x64_S2x64_d0_1_2 v u (ix2 h d) = u + ∑ k : Fin 64 × Fin 128 × Fin 8, v (ix5 k.1 k.2.1 k.2.2 h d) := by
  refine congrArg (u + ·) (Finset.sum_filter_eq_sum_of_fiber _ (fun k : Fin 64 × Fin 128 × Fin 8 => ix5 k.1 k.2.1 k.2.2 h d) ?_ ?_ v)
  · intro a b e
    have e0 := congrFun e 0
    have e1 := congrFun e 1
    have e2 := congrFun e 2
    exact Prod.ext e0 (Prod.ext e1 e2)
  · intro i
    have v0 : (Shape.ReducesTo.drop Gen.reducesTo_S64x128x8x2x64_S2x64_d0_1_2 i 0 : Nat) = i 3 := Shape.ReducesTo.drop_apply_val _ i 0
    have v1 : (Shape.ReducesTo.drop Gen.reducesTo_S64x128x8x2x64_S2x64_d0_1_2 i 1 : Nat) = i 4 := Shape.ReducesTo.drop_apply_val _ i 1
    constructor
    · intro e
      rw [e] at v0 v1
      refine ⟨(i 0, i 1, i 2), funext fun a => Fin.ext ?_⟩
      match a with
      | ⟨0, _⟩ => rfl
      | ⟨1, _⟩ => rfl
      | ⟨2, _⟩ => rfl
      | ⟨3, _⟩ => exact v0
      | ⟨4, _⟩ => exact v1
    · rintro ⟨k, rfl⟩
      exact funext fun a => Fin.ext (by match a with | ⟨0, _⟩ => exact v0 | ⟨1, _⟩ => exact v1)

theorem red_q1 (v : FVec Ideal S1x1x1x2x64 .f32) (u : EReal) (h : Fin 2) (d : Fin 64) : Ideal.hostReduceAdd Gen.reducesTo_S1x1x1x2x64_S2x64_d0_1_2 v u (ix2 h d) = u + ∑ k : Fin 1 × Fin 1 × Fin 1, v (ix5 k.1 k.2.1 k.2.2 h d) := by
  refine congrArg (u + ·) (Finset.sum_filter_eq_sum_of_fiber _ (fun k : Fin 1 × Fin 1 × Fin 1 => ix5 k.1 k.2.1 k.2.2 h d) ?_ ?_ v)
  · intro a b e
    have e0 := congrFun e 0
    have e1 := congrFun e 1
    have e2 := congrFun e 2
    exact Prod.ext e0 (Prod.ext e1 e2)
  · intro i
    have v0 : (Shape.ReducesTo.drop Gen.reducesTo_S1x1x1x2x64_S2x64_d0_1_2 i 0 : Nat) = i 3 := Shape.ReducesTo.drop_apply_val _ i 0
    have v1 : (Shape.ReducesTo.drop Gen.reducesTo_S1x1x1x2x64_S2x64_d0_1_2 i 1 : Nat) = i 4 := Shape.ReducesTo.drop_apply_val _ i 1
    constructor
    · intro e
      rw [e] at v0 v1
      refine ⟨(i 0, i 1, i 2), funext fun a => Fin.ext ?_⟩
      match a with
      | ⟨0, _⟩ => rfl
      | ⟨1, _⟩ => rfl
      | ⟨2, _⟩ => rfl
      | ⟨3, _⟩ => exact v0
      | ⟨4, _⟩ => exact v1
    · rintro ⟨k, rfl⟩
      exact funext fun a => Fin.ext (by match a with | ⟨0, _⟩ => exact v0 | ⟨1, _⟩ => exact v1)

section
variable (hB : ∀ n, (refBlk x0 x1 x2 x3 x4 x5 n).Real) (n : Fin 64) (i : Fin 128) (h : Fin 2) (g : Fin 8) (d : Fin 64)
theorem r107 : val_main_v107 (F := Ideal) x0 (ix5 n i (pq h g) (tq g) d) = (refBlk x0 x1 x2 x3 x4 x5 n).qh h g i d := by
  unfold Blk.qh
  rw [← funext (fun d => r94 x0 x1 x2 x3 x4 x5 n i h g d), ← r102]
  pointwise [val_main_v107, val_main_v106]
theorem r316_sum (t : Fin 2) : val_main_v316 (F := Ideal) x0 x1 x2 x3 x4 x5 (ix2 t d)
    = ∑ n : Fin 64, ∑ i : Fin 128, ∑ w : Fin 8, val_main_v107 (F := Ideal) x0 (ix5 n i w t d) * val_main_v310 (F := Ideal) x0 x1 x2 x3 x4 x5 (ix5 n i w t d) := by
  unfold val_main_v316 val_main_v313 val_main_v312 val_main_v311
  generalize val_main_v310 (F := Ideal) x0 x1 x2 x3 x4 x5 = a
  generalize val_main_v107 (F := Ideal) x0 = b
  refine (red_q1 _ _ t d).trans ?_
  rw [sum_one3]
  refine Eq.trans ?_ ((red_q (mulf b a) (Ideal.ofBits .f32 0x00000000#32) t d).trans ?_)
  · pointwise [val_main_cst_69, val_main_cst_70]
  · rw [ofBits_none, zero_add]
    simp only [Fintype.sum_prod_type]
    rfl
theorem sum_pairs (F : Fin 8 → Fin 2 → EReal) (t : Fin 2) : ∑ w, F w t = ∑ h : Fin 2, ∑ w : Fin 4,
    F (pq h ⟨2 * w.val + t.val, by omega⟩) (tq ⟨2 * w.val + t.val, by omega⟩) := by
  have e : ∀ w : Fin 4, tq (⟨2 * w.val + t.val, by omega⟩ : Fin 8) = t := fun w => Fin.ext (by show (2 * w.val + t.val) % 2 = t.val; omega)
  have e' : ∀ (h : Fin 2) (w : Fin 4), pq h ⟨2 * w.val + t.val, by omega⟩ = ⟨h.val * 4 + w.val, by omega⟩ :=
    fun h w => Fin.ext (by show h.val * 4 + (2 * w.val + t.val) / 2 = h.val * 4 + w.val; omega)
  simp only [e, e', Fin.sum_univ_eight, Fin.sum_univ_two, Fin.sum_univ_four]
  show _ = F 0 t + F 1 t + F 2 t + F 3 t + (F 4 t + F 5 t + F 6 t + F 7 t)
  ac_rfl
theorem r294_sum : val_main_v294 (F := Ideal) x0 x1 x2 x3 x4 x5 (ix2 h d)
    = (∑ n : Fin 64, ∑ j : Fin 128, val_main_v142 (F := Ideal) x0 (ix4 n j h d) * val_main_v266 (F := Ideal) x0 x1 x2 x3 x4 x5 (ix4 n j h d))
      + ∑ n : Fin 64, ∑ j : Fin 128, val_main_v125 (F := Ideal) x0 (ix4 n j h d) * val_main_v265 (F := Ideal) x0 x1 x2 x3 x4 x5 (ix4 n j h d) := by
  unfold val_main_v294 val_main_v272 val_main_v269 val_main_v268 val_main_v267 val_main_v293 val_main_v290 val_main_v289 val_main_v288
  generalize val_main_v266 (F := Ideal) x0 x1 x2 x3 x4 x5 = a
  generalize val_main_v265 (F := Ideal) x0 x1 x2 x3 x4 x5 = b
  generalize val_main_v142 (F := Ideal) x0 = a'
  generalize val_main_v125 (F := Ideal) x0 = b'
  have key : ∀ (p q : FVec Ideal S64x128x2x64 .f32), (Host.reduceAdd (shapeCast S1x1x2x64 (Host.reduceAdd (mulf p q) (val_main_cst_59 (F := Ideal))
      Gen.reducesTo_S64x128x2x64_S2x64_d0_1 Gen.h_S_ : FVec Ideal S2x64 .f32) Gen.shapeCasts_S2x64_S1x1x2x64) (val_main_cst_60 (F := Ideal)) Gen.reducesTo_S1x1x2x64_S2x64_d0_1 Gen.h_S_ : FVec Ideal S2x64 .f32) (ix2 h d)
        = ∑ n : Fin 64, ∑ j : Fin 128, p (ix4 n j h d) * q (ix4 n j h d) := fun p q => by
    refine (red_k1 _ _ h d).trans ?_
    rw [sum_one2]
    refine Eq.trans ?_ ((red_k (mulf p q) (Ideal.ofBits .f32 0x00000000#32) h d).trans ?_)
    · pointwise [val_main_cst_59, val_main_cst_60]
    · rw [ofBits_none, zero_add]
      simp only [Fintype.sum_prod_type]
      rfl
  exact congrArg₂ (· + ·) (key a' a) (key b' b)
theorem r266 (j : Fin 128) : val_main_v266 (F := Ideal) x0 x1 x2 x3 x4 x5 (ix4 n j h d) = val_main_v260 (F := Ideal) x0 x1 x2 x3 x4 x5 (ix4 n ⟨128 + j.val, by omega⟩ h d) := by
  unfold val_main_v266
  generalize val_main_v260 (F := Ideal) x0 x1 x2 x3 x4 x5 = a
  pointwise
theorem r265 (j : Fin 128) : val_main_v265 (F := Ideal) x0 x1 x2 x3 x4 x5 (ix4 n j h d) = val_main_v260 (F := Ideal) x0 x1 x2 x3 x4 x5 (ix4 n ⟨j.val, by omega⟩ h d) := by
  unfold val_main_v265
  generalize val_main_v260 (F := Ideal) x0 x1 x2 x3 x4 x5 = a
  pointwise
include hB
theorem r316 (t : Fin 2) : val_main_v316 (F := Ideal) x0 x1 x2 x3 x4 x5 (ix2 t d) = ∑ n, (refBlk x0 x1 x2 x3 x4 x5 n).dqg d t := by
  rw [r316_sum]
  refine Finset.sum_congr rfl fun n _ => ?_
  have e : ∀ i : Fin 128, ∑ w : Fin 8, val_main_v107 (F := Ideal) x0 (ix5 n i w t d) * val_main_v310 (F := Ideal) x0 x1 x2 x3 x4 x5 (ix5 n i w t d) = ∑ h : Fin 2, ∑ w : Fin 4,
      (refBlk x0 x1 x2 x3 x4 x5 n).dqn h ⟨2 * w.val + t.val, by omega⟩ i d * (refBlk x0 x1 x2 x3 x4 x5 n).qh h ⟨2 * w.val + t.val, by omega⟩ i d := fun i => by
    rw [sum_pairs (fun w t => val_main_v107 (F := Ideal) x0 (ix5 n i w t d) * val_main_v310 (F := Ideal) x0 x1 x2 x3 x4 x5 (ix5 n i w t d)) t]
    refine Finset.sum_congr rfl fun h _ => Finset.sum_congr rfl fun w _ => ?_
    rw [r310, r107 x0 x1 x2 x3 x4 x5, r258 x0 x1 x2 x3 x4 x5 hB]
    exact mul_comm _ _
  rw [Finset.sum_congr rfl fun i _ => e i, Finset.sum_comm]
  exact Finset.sum_congr rfl fun h _ => Finset.sum_comm
theorem r294 : val_main_v294 (F := Ideal) x0 x1 x2 x3 x4 x5 (ix2 h d) = ∑ n, (refBlk x0 x1 x2 x3 x4 x5 n).dkg h d := by
  rw [r294_sum, ← Finset.sum_add_distrib]
  refine Finset.sum_congr rfl fun n _ => ?_
  simp only [r265, r266, r260 x0 x1 x2 x3 x4 x5 hB, r125 x0 x1 x2 x3 x4 x5, r142 x0 x1 x2 x3 x4 x5]
  unfold Blk.dkg
  generalize refBlk x0 x1 x2 x3 x4 x5 n = B
  refine Eq.trans ?_ (Fin.sum_univ_add (a := 128) (b := 128) fun j : Fin (128 + 128) => B.dkn h j d * B.kh h j d).symm
  rw [add_comm]
  exact congrArg₂ (· + ·) (Finset.sum_congr rfl fun j _ => mul_comm _ _) (Finset.sum_congr rfl fun j _ => mul_comm _ _)
end

end Cert.ReferenceIdeal.Att
end
-- ==== Proof.RefE.lean ====
/- The reference's values at an index: its eight results. -/
module
public import proofs.«01_k».proof.Proof.RefD
public import proofs.«01_k».proof.Proof.Gen.ReferenceIdeal.Read
public import Idealize.ShloMosaic.Lib.Pointwise
public import Idealize.ShloMosaic.Lib.Tactic
@[expose] public section
set_option maxRecDepth 65536

noncomputable section

namespace Cert.ReferenceIdeal.Att
open Cert.ReferenceIdeal Cert.ReferenceIdeal.Read Cert.Attention Idealize.ShloMosaic Idealize.ShloMosaic.TcCoe

variable (x0 : FVec Ideal S8192x6400 .f32) (x1 x2 : FVec Ideal S1x64 .f32) (x3 : FVec Ideal S1x16 .f32) (x4 : FVec Ideal S32x16 .f32)
  (x5 : FVec Ideal S8192x1024 .f32)

section
variable (hB : ∀ n, (refBlk x0 x1 x2 x3 x4 x5 n).Real) (n : Fin 64) (i j : Fin 128) (h t : Fin 2) (g : Fin 8) (d : Fin 64)
include hB
theorem res_dq : val_main_v332 (F := Ideal) x0 x1 x2 x3 x4 x5 (ix2 ⟨n.val * 128 + i.val, by omega⟩ ⟨h.val * 512 + g.val * 64 + d.val, by omega⟩) = (refBlk x0 x1 x2 x3 x4 x5 n).dq h g i d := by
  rw [← r330 x0 x1 x2 x3 x4 x5 hB n i h g d, val_main_v332_apply, val_main_v331_apply]
  generalize val_main_v330 (F := Ideal) x0 x1 x2 x3 x4 x5 = a
  refine congrArg a ?_
  funext a
  fin_cases a
  all_goals refine Fin.ext ?_
  · show ((n.val * 128 + i.val) * 1024 + (h.val * 512 + g.val * 64 + d.val)) / 131072 = n.val; omega
  · show ((n.val * 128 + i.val) * 1024 + (h.val * 512 + g.val * 64 + d.val)) / 1024 % 128 = i.val; omega
  · show ((n.val * 128 + i.val) * 1024 + (h.val * 512 + g.val * 64 + d.val)) / 128 % 8 = h.val * 4 + g.val / 2; omega
  · show ((n.val * 128 + i.val) * 1024 + (h.val * 512 + g.val * 64 + d.val)) / 64 % 2 = g.val % 2; omega
  · show ((n.val * 128 + i.val) * 1024 + (h.val * 512 + g.val * 64 + d.val)) % 64 = d.val; omega
theorem res_dkp : val_main_v309 (F := Ideal) x0 x1 x2 x3 x4 x5 (ix2 ⟨n.val * 128 + j.val, by omega⟩ ⟨h.val * 64 + d.val, by omega⟩) = (refBlk x0 x1 x2 x3 x4 x5 n).dk h ⟨j.val, by omega⟩ d := by
  rw [← r308 x0 x1 x2 x3 x4 x5 hB n h d j, val_main_v309_apply]
  generalize val_main_v308 (F := Ideal) x0 x1 x2 x3 x4 x5 = a
  refine congrArg a ?_
  funext a
  fin_cases a
  all_goals refine Fin.ext ?_
  · show ((n.val * 128 + j.val) * 128 + (h.val * 64 + d.val)) / 16384 = n.val; omega
  · show ((n.val * 128 + j.val) * 128 + (h.val * 64 + d.val)) / 128 % 128 = j.val; omega
  · show ((n.val * 128 + j.val) * 128 + (h.val * 64 + d.val)) / 64 % 2 = h.val; omega
  · show ((n.val * 128 + j.val) * 128 + (h.val * 64 + d.val)) % 64 = d.val; omega
theorem res_dkc : val_main_v287 (F := Ideal) x0 x1 x2 x3 x4 x5 (ix2 ⟨n.val * 128 + j.val, by omega⟩ ⟨h.val * 64 + d.val, by omega⟩) = (refBlk x0 x1 x2 x3 x4 x5 n).dk h ⟨128 + j.val, by omega⟩ d := by
  rw [← r286 x0 x1 x2 x3 x4 x5 hB n h d j, val_main_v287_apply]
  generalize val_main_v286 (F := Ideal) x0 x1 x2 x3 x4 x5 = a
  refine congrArg a ?_
  funext a
  fin_cases a
  all_goals refine Fin.ext ?_
  · show ((n.val * 128 + j.val) * 128 + (h.val * 64 + d.val)) / 16384 = n.val; omega
  · show ((n.val * 128 + j.val) * 128 + (h.val * 64 + d.val)) / 128 % 128 = j.val; omega
  · show ((n.val * 128 + j.val) * 128 + (h.val * 64 + d.val)) / 64 % 2 = h.val; omega
  · show ((n.val * 128 + j.val) * 128 + (h.val * 64 + d.val)) % 64 = d.val; omega
theorem res_dvp : val_main_v264 (F := Ideal) x0 x1 x2 x3 x4 x5 (ix2 ⟨n.val * 128 + j.val, by omega⟩ ⟨h.val * 64 + d.val, by omega⟩) = (refBlk x0 x1 x2 x3 x4 x5 n).dv h ⟨j.val, by omega⟩ d := by
  rw [← r230 x0 x1 x2 x3 x4 x5 hB n h d ⟨j.val, by omega⟩, val_main_v264_apply, val_main_v261_apply]
  generalize val_main_v230 (F := Ideal) x0 x1 x2 x3 x4 x5 = a
  refine congrArg a ?_
  funext a
  fin_cases a
  all_goals refine Fin.ext ?_
  · show ((n.val * 128 + j.val) * 128 + (h.val * 64 + d.val)) / 16384 = n.val; omega
  · show ((n.val * 128 + j.val) * 128 + (h.val * 64 + d.val)) / 128 % 128 = j.val; omega
  · show ((n.val * 128 + j.val) * 128 + (h.val * 64 + d.val)) / 64 % 2 = h.val; omega
  · show ((n.val * 128 + j.val) * 128 + (h.val * 64 + d.val)) % 64 = d.val; omega
theorem res_dvc : val_main_v263 (F := Ideal) x0 x1 x2 x3 x4 x5 (ix2 ⟨n.val * 128 + j.val, by omega⟩ ⟨h.val * 64 + d.val, by omega⟩) = (refBlk x0 x1 x2 x3 x4 x5 n).dv h ⟨128 + j.val, by omega⟩ d := by
  rw [← r230 x0 x1 x2 x3 x4 x5 hB n h d ⟨128 + j.val, by omega⟩, val_main_v263_apply, val_main_v262_apply]
  generalize val_main_v230 (F := Ideal) x0 x1 x2 x3 x4 x5 = a
  refine congrArg a ?_
  funext a
  fin_cases a
  all_goals refine Fin.ext ?_
  · show ((n.val * 128 + j.val) * 128 + (h.val * 64 + d.val)) / 16384 = n.val; omega
  · show 128 + ((n.val * 128 + j.val) * 128 + (h.val * 64 + d.val)) / 128 % 128 = 128 + j.val; omega
  · show ((n.val * 128 + j.val) * 128 + (h.val * 64 + d.val)) / 64 % 2 = h.val; omega
  · show ((n.val * 128 + j.val) * 128 + (h.val * 64 + d.val)) % 64 = d.val; omega
theorem res_dl (j : Fin 256) : val_main_v335 (F := Ideal) x0 x1 x2 x3 x4 x5 (ix3 h j ⟨g.val * 128 + i.val, by omega⟩) = ∑ n, (refBlk x0 x1 x2 x3 x4 x5 n).ds h g i j := by
  rw [← r250 x0 x1 x2 x3 x4 x5 h g i hB j]
  unfold val_main_v335 val_main_v334 val_main_v333 val_main_v252 val_main_v251
  generalize val_main_v250 (F := Ideal) x0 x1 x2 x3 x4 x5 = a
  pointwise [val_main_cst_57]
  exact Fin.sum_univ_one _
theorem res_dsink : val_main_v336 (F := Ideal) x0 x1 x2 x3 x4 x5 (ix3 h 0 ⟨g.val * 128 + i.val, by omega⟩) = ∑ n, (refBlk x0 x1 x2 x3 x4 x5 n).dsink h g i := by
  rw [← r248 x0 x1 x2 x3 x4 x5 h g i hB]
  unfold val_main_v336
  generalize val_main_v248 (F := Ideal) x0 x1 x2 x3 x4 x5 = a
  pointwise [hq]
  exact congrArg (fun q => a (ix2 q i)) (Fin.ext (by show h.val * 8 + (g.val * 128 + i.val) / 128 = h.val * 8 + g.val; omega))
theorem res_dqg : val_main_v340 (F := Ideal) x0 x1 x2 x3 x4 x5 (ix2 0 ⟨t.val * 64 + d.val, by omega⟩) = ∑ n, (refBlk x0 x1 x2 x3 x4 x5 n).dqg d t := by
  rw [← r316 x0 x1 x2 x3 x4 x5 hB d t]
  unfold val_main_v340 val_main_v337
  generalize val_main_v316 (F := Ideal) x0 x1 x2 x3 x4 x5 = a
  generalize val_main_v338 (F := Ideal) x0 x1 x2 x3 x4 x5 = b
  generalize val_main_v339 (F := Ideal) = c
  pointwise
theorem res_dkg : val_main_v340 (F := Ideal) x0 x1 x2 x3 x4 x5 (ix2 1 ⟨h.val * 64 + d.val, by omega⟩) = ∑ n, (refBlk x0 x1 x2 x3 x4 x5 n).dkg h d := by
  rw [← r294 x0 x1 x2 x3 x4 x5 hB h d]
  unfold val_main_v340 val_main_v338
  generalize val_main_v294 (F := Ideal) x0 x1 x2 x3 x4 x5 = a
  generalize val_main_v337 (F := Ideal) x0 x1 x2 x3 x4 x5 = b
  generalize val_main_v339 (F := Ideal) = c
  pointwise
omit hB in
theorem res_rest (r : Fin 8) (hr : 2 ≤ r.val) (c : Fin 128) : val_main_v340 (F := Ideal) x0 x1 x2 x3 x4 x5 (ix2 r c) = 0 := by
  unfold val_main_v340
  generalize val_main_v337 (F := Ideal) x0 x1 x2 x3 x4 x5 = a
  generalize val_main_v338 (F := Ideal) x0 x1 x2 x3 x4 x5 = b
  pointwise [val_main_v339, val_main_cst_74]
  rw [dif_neg (by omega), dif_neg (by omega)]
end

end Cert.ReferenceIdeal.Att
end
-- ==== Proof.Finite.lean ====
/- What the precondition says: the entries it is stated of are real numbers. -/
module
public import proofs.«01_k».proof.Proof.Entry
public import proofs.«01_k».proof.Pre_finite
public import proofs.«01_k».proof.Proof.Gen.ReferenceIdeal.Read
public import proofs.«01_k».proof.Proof.Gen.Pre_finite
public import Idealize.ShloMosaic.Lib.Pointwise
public import Idealize.ShloMosaic.Lib.Tactic
public import Idealize.ShloMosaic.Lib.ReduceAll
@[expose] public section
set_option maxRecDepth 16384

noncomputable section

namespace Cert.Attention
open Idealize.ShloMosaic Idealize.ShloMosaic.TcCoe Cert.Pre_finite Cert.Pre_finite.Gen

theorem real_of_lt (a : EReal) (h : max a (-a) < ⊤) : ∃ x : ℝ, a = x := by
  have h1 : a ≠ ⊤ := fun e => by subst e; simp at h
  have h2 : a ≠ ⊥ := fun e => by subst e; simp at h
  exact ⟨a.toReal, (EReal.coe_toReal h1 h2).symm⟩

theorem lt_of_bit (a b : EReal) (h : Ideal.cmp .olt a b = 1#1) : a < b := by
  by_contra hn
  simp [Ideal.cmp, hn] at h

theorem ofBits_top : Ideal.ofBits .f32 0x7F800000#32 = ⊤ := by
  simp [Ideal.ofBits, Ideal.ieee]

theorem both (a b : BitVec 1) (h : a &&& b = 1#1) : a = 1#1 ∧ b = 1#1 := by
  revert h; revert a b; decide

/-- The bit that says of an array that all its entries are below infinity in absolute value. -/
def allBelow {s : Shape} {ax : List (Fin s.rank)} (x : FVec Ideal s .f32) (hb : S_.BroadcastsInDim s (![] : Fin 0 → Fin s.rank))
    (hr : s.ReducesTo ax S_) : IVec S_ 1 :=
  Host.reduce IntOp.andi (cmpf .olt (Host.absf x) (broadcastInDim s ![] hb (constant S_ .f32 0x7F800000#32))) (constantI S_ 1 1#1) hr h_S_

theorem entries_real {s : Shape} {ax : List (Fin s.rank)} (x : FVec Ideal s .f32) (hb : S_.BroadcastsInDim s (![] : Fin 0 → Fin s.rank))
    (hr : s.ReducesTo ax S_) (j : S_.Idx) (e : allBelow x hb hr j = 1#1) (i : s.Idx) : ∃ a : ℝ, x i = a := by
  have : Subsingleton S_.Idx := ⟨fun a b => funext fun k => k.elim0⟩
  have h := Host.reduce_andi_all _ _ hr h_S_ j e i
  refine real_of_lt _ ?_
  have h1 := lt_of_bit (max (x i) (-x i)) (Ideal.ofBits .f32 0x7F800000#32) h
  rwa [ofBits_top] at h1

section
variable (x0 : FVec Ideal S8192x6400 .f32) (x1 x2 : FVec Ideal S1x64 .f32) (x3 : FVec Ideal S1x16 .f32) (x4 : FVec Ideal S32x16 .f32)
  (x5 : FVec Ideal S8192x1024 .f32)

theorem pre_real (h : Cert.Pre_finite.fn (F := Ideal) x0 x1 x2 x3 x4 x5 = fun _ => 1#1) :
    (∀ (r : Fin 8192) (l : Fin 1152), ∃ a : ℝ, x0 (ix2 r ⟨1024 + l.val, by omega⟩) = a) ∧ (∀ i, ∃ a : ℝ, x1 i = a) ∧ (∀ i, ∃ a : ℝ, x2 i = a)
      ∧ (∀ i, ∃ a : ℝ, x3 i = a) ∧ ∀ i, ∃ a : ℝ, x4 i = a := by
  have j : S_.Idx := fun k => k.elim0
  have h : (((allBelow (extractStridedSlice S8192x1152 ![0, 1024] x0 slices_S8192x6400_S8192x1152_0_1024) bcast_S_S8192x1152
      reducesTo_S8192x1152_S_d0_1 j &&& allBelow x1 bcast_S_S1x64 reducesTo_S1x64_S_d0_1 j) &&& allBelow x2 bcast_S_S1x64 reducesTo_S1x64_S_d0_1 j)
      &&& allBelow x3 bcast_S_S1x16 reducesTo_S1x16_S_d0_1 j) &&& allBelow x4 bcast_S_S32x16 reducesTo_S32x16_S_d0_1 j = 1#1 := congrFun h j
  obtain ⟨h, h4⟩ := both _ _ h
  obtain ⟨h, h3⟩ := both _ _ h
  obtain ⟨h, h2⟩ := both _ _ h
  obtain ⟨h0, h1⟩ := both _ _ h
  refine ⟨fun r l => ?_, entries_real x1 _ _ j h1, entries_real x2 _ _ j h2, entries_real x3 _ _ j h3, entries_real x4 _ _ j h4⟩
  obtain ⟨a, ha⟩ := entries_real _ _ _ j h0 (ix2 r l)
  refine ⟨a, Eq.trans ?_ ha⟩
  pointwise

theorem bias_real (h : ∀ i, ∃ a : ℝ, x4 i = a) (i : Fin 128) (j : Fin 256) (g : Fin 16) :
    ∃ a : ℝ, Cert.ReferenceIdeal.Read.val_main_v84 (F := Ideal) x4 (ix3 i j g) = a := by
  unfold Cert.ReferenceIdeal.Read.val_main_v84
  generalize Cert.ReferenceIdeal.Read.val_main_v83 (F := Ideal) = y
  exact h _

theorem pick_real {ι : Type} (f : ι → EReal) (h : ∀ i, ∃ a : ℝ, f i = a) : ∃ x : ι → ℝ, f = fun i => (x i : EReal) := by
  choose x hx using h
  exact ⟨x, funext hx⟩

theorem blocks_real (h : Cert.Pre_finite.fn (F := Ideal) x0 x1 x2 x3 x4 x5 = fun _ => 1#1) (n : Fin 64) : (refBlk x0 x1 x2 x3 x4 x5 n).Real := by
  obtain ⟨h0, h1, h2, h3, h4⟩ := pre_real x0 x1 x2 x3 x4 x5 h
  refine ⟨fun h g i => pick_real _ fun d => ?_, fun h j => pick_real _ fun d => ?_, pick_real _ fun d => h1 _, pick_real _ fun d => h2 _,
    fun h g => h3 _, fun h g j i => bias_real x4 h4 i j _⟩
  · exact h0 _ ⟨h.val * 512 + g.val * 64 + d.val, by omega⟩
  · show ∃ a : ℝ, bandAt x0 n 2048 (by omega) h j d = a
    have hk : ∀ r : Fin 8192, ∃ a : ℝ, x0 (ix2 r ⟨2048 + (h.val * 64 + d.val), by omega⟩) = a := fun r => by
      obtain ⟨a, ha⟩ := h0 r ⟨1024 + (h.val * 64 + d.val), by omega⟩
      refine ⟨a, Eq.trans (congrArg (fun l => x0 (ix2 r l)) (Fin.ext ?_)) ha⟩
      show 2048 + (h.val * 64 + d.val) = 1024 + (1024 + (h.val * 64 + d.val))
      omega
    unfold bandAt
    split
    · split
      · exact ⟨0, rfl⟩
      · exact hk _
    · exact hk _
end
end Cert.Attention
end
-- ==== Proof.Agree.lean ====
/- The two programs' results agree, array by array. -/
module
public import proofs.«01_k».proof.Proof.KOut
public import proofs.«01_k».proof.Proof.RefE
public import proofs.«01_k».proof.Proof.Finite
@[expose] public section
set_option maxRecDepth 16384

noncomputable section

namespace Cert.KernelIdeal.Att
open Cert.KernelIdeal Cert.KernelIdeal.Gen Cert.Attention Cert.ReferenceIdeal.Read Cert.ReferenceIdeal.Att Idealize.ShloMosaic Idealize.ShloMosaic.TcCoe

/-! Every index of a result is one of the forms the results are stated at. -/

theorem ext_q {f g : (⟨2, ![8192, 1024]⟩ : Shape).Idx → EReal}
    (e : ∀ (n : Fin 64) (i : Fin 128) (h : Fin 2) (a : Fin 8) (d : Fin 64), f (ix2 ⟨n.val * 128 + i.val, by omega⟩ ⟨h.val * 512 + a.val * 64 + d.val, by omega⟩)
      = g (ix2 ⟨n.val * 128 + i.val, by omega⟩ ⟨h.val * 512 + a.val * 64 + d.val, by omega⟩)) : f = g := by
  funext x
  obtain ⟨r, l, rfl⟩ : ∃ (r : Fin 8192) (l : Fin 1024), x = ix2 r l := ⟨x 0, x 1, eq_ix2 x⟩
  have := e ⟨r.val / 128, by omega⟩ ⟨r.val % 128, by omega⟩ ⟨l.val / 512, by omega⟩ ⟨l.val % 512 / 64, by omega⟩ ⟨l.val % 64, by omega⟩
  have hr : r = ⟨r.val / 128 * 128 + r.val % 128, by omega⟩ := Fin.ext (by dsimp only; omega)
  have hl : l = ⟨l.val / 512 * 512 + l.val % 512 / 64 * 64 + l.val % 64, by omega⟩ := Fin.ext (by dsimp only; omega)
  rw [hr, hl]
  exact this

theorem ext_k {f g : (⟨2, ![8192, 128]⟩ : Shape).Idx → EReal}
    (e : ∀ (n : Fin 64) (j : Fin 128) (h : Fin 2) (d : Fin 64), f (ix2 ⟨n.val * 128 + j.val, by omega⟩ ⟨h.val * 64 + d.val, by omega⟩)
      = g (ix2 ⟨n.val * 128 + j.val, by omega⟩ ⟨h.val * 64 + d.val, by omega⟩)) : f = g := by
  funext x
  obtain ⟨r, l, rfl⟩ : ∃ (r : Fin 8192) (l : Fin 128), x = ix2 r l := ⟨x 0, x 1, eq_ix2 x⟩
  have := e ⟨r.val / 128, by omega⟩ ⟨r.val % 128, by omega⟩ ⟨l.val / 64, by omega⟩ ⟨l.val % 64, by omega⟩
  have hr : r = ⟨r.val / 128 * 128 + r.val % 128, by omega⟩ := Fin.ext (by dsimp only; omega)
  have hl : l = ⟨l.val / 64 * 64 + l.val % 64, by omega⟩ := Fin.ext (by dsimp only; omega)
  rw [hr, hl]
  exact this

theorem ext_l {b : Nat} {f g : (⟨3, ![2, b, 1024]⟩ : Shape).Idx → EReal}
    (e : ∀ (h : Fin 2) (j : Fin b) (a : Fin 8) (i : Fin 128), f (ix3 h j ⟨a.val * 128 + i.val, by omega⟩) = g (ix3 h j ⟨a.val * 128 + i.val, by omega⟩)) : f = g := by
  funext x
  obtain ⟨h, j, l, rfl⟩ : ∃ (h : Fin 2) (j : Fin b) (l : Fin 1024), x = ix3 h j l := ⟨x 0, x 1, x 2, eq_ix3 x⟩
  have := e h j ⟨l.val / 128, by omega⟩ ⟨l.val % 128, by omega⟩
  have hl : l = ⟨l.val / 128 * 128 + l.val % 128, by omega⟩ := Fin.ext (by dsimp only; omega)
  rw [hl]
  exact this

theorem ext_g {f g : (⟨2, ![8, 128]⟩ : Shape).Idx → EReal}
    (e0 : ∀ (t : Fin 2) (d : Fin 64), f (ix2 0 ⟨t.val * 64 + d.val, by omega⟩) = g (ix2 0 ⟨t.val * 64 + d.val, by omega⟩))
    (e1 : ∀ (h : Fin 2) (d : Fin 64), f (ix2 1 ⟨h.val * 64 + d.val, by omega⟩) = g (ix2 1 ⟨h.val * 64 + d.val, by omega⟩))
    (e2 : ∀ r : Fin 8, 2 ≤ r.val → ∀ l : Fin 128, f (ix2 r l) = g (ix2 r l)) : f = g := by
  funext x
  obtain ⟨r, l, rfl⟩ : ∃ (r : Fin 8) (l : Fin 128), x = ix2 r l := ⟨x 0, x 1, eq_ix2 x⟩
  have hl : l = ⟨l.val / 64 * 64 + l.val % 64, by omega⟩ := Fin.ext (by dsimp only; omega)
  by_cases h2 : 2 ≤ r.val
  · exact e2 r h2 l
  by_cases h0 : r.val = 0
  · obtain rfl : r = 0 := Fin.ext h0
    rw [hl]
    exact e0 ⟨l.val / 64, by omega⟩ ⟨l.val % 64, by omega⟩
  · obtain rfl : r = 1 := Fin.ext (by show r.val = 1; omega)
    rw [hl]
    exact e1 ⟨l.val / 64, by omega⟩ ⟨l.val % 64, by omega⟩

variable (m : (ℓ : Loc nD τ sig) → Buf (Elt Ideal) ℓ) (c : Dev nD)

/-- The precondition makes every block real. -/
theorem refM_real (hp : Cert.Pre_finite.fn (F := Ideal) (m (c, main_arg0)) (m (c, main_arg1)) (m (c, main_arg2)) (m (c, main_arg3)) (m (c, main_arg4))
    (m (c, main_arg5)) = fun _ => 1#1) (n : Fin 64) : (refM m c n).Real :=
  blocks_real _ _ _ _ _ _ hp n

variable (hB : ∀ n, (refM m c n).Real)
include hB

theorem same_dq : val_main_v332 (F := Ideal) (m (c, main_arg0)) (m (c, main_arg1)) (m (c, main_arg2)) (m (c, main_arg3)) (m (c, main_arg4)) (m (c, main_arg5)) = (dats m 0 c).arrAt 11 cfg0.N :=
  ext_q fun n i h g d => (res_dq _ _ _ _ _ _ hB n i h g d).trans (out_dq m c n i h g d).symm

theorem same_dkp : val_main_v309 (F := Ideal) (m (c, main_arg0)) (m (c, main_arg1)) (m (c, main_arg2)) (m (c, main_arg3)) (m (c, main_arg4)) (m (c, main_arg5)) = (dats m 0 c).arrAt 12 cfg0.N :=
  ext_k fun n j h d => (res_dkp _ _ _ _ _ _ hB n j h d).trans (out_dkp m c n j h d).symm

theorem same_dkc : val_main_v287 (F := Ideal) (m (c, main_arg0)) (m (c, main_arg1)) (m (c, main_arg2)) (m (c, main_arg3)) (m (c, main_arg4)) (m (c, main_arg5)) = (dats m 0 c).arrAt 13 cfg0.N :=
  ext_k fun n j h d => (res_dkc _ _ _ _ _ _ hB n j h d).trans (out_dkc m c n j h d).symm

theorem same_dvp : val_main_v264 (F := Ideal) (m (c, main_arg0)) (m (c, main_arg1)) (m (c, main_arg2)) (m (c, main_arg3)) (m (c, main_arg4)) (m (c, main_arg5)) = (dats m 0 c).arrAt 14 cfg0.N :=
  ext_k fun n j h d => (res_dvp _ _ _ _ _ _ hB n j h d).trans (out_dvp m c n j h d).symm

theorem same_dvc : val_main_v263 (F := Ideal) (m (c, main_arg0)) (m (c, main_arg1)) (m (c, main_arg2)) (m (c, main_arg3)) (m (c, main_arg4)) (m (c, main_arg5)) = (dats m 0 c).arrAt 15 cfg0.N :=
  ext_k fun n j h d => (res_dvc _ _ _ _ _ _ hB n j h d).trans (out_dvc m c n j h d).symm

theorem same_dl : val_main_v335 (F := Ideal) (m (c, main_arg0)) (m (c, main_arg1)) (m (c, main_arg2)) (m (c, main_arg3)) (m (c, main_arg4)) (m (c, main_arg5)) = (dats m 0 c).arrAt 16 cfg0.N :=
  ext_l fun h j g i => (res_dl _ _ _ _ _ _ hB i h g j).trans (out_dl m c i h g j).symm

theorem same_dsink : val_main_v336 (F := Ideal) (m (c, main_arg0)) (m (c, main_arg1)) (m (c, main_arg2)) (m (c, main_arg3)) (m (c, main_arg4)) (m (c, main_arg5)) = (dats m 0 c).arrAt 17 cfg0.N :=
  ext_l fun h j g i => by
    obtain rfl : j = 0 := Subsingleton.elim _ _
    exact (res_dsink _ _ _ _ _ _ hB i h g).trans (out_dsink m c i h g).symm

theorem same_dgain : val_main_v340 (F := Ideal) (m (c, main_arg0)) (m (c, main_arg1)) (m (c, main_arg2)) (m (c, main_arg3)) (m (c, main_arg4)) (m (c, main_arg5)) = (dats m 0 c).arrAt 18 cfg0.N :=
  ext_g (fun t d => (res_dqg _ _ _ _ _ _ hB t d).trans (out_dqg m c t d).symm) (fun h d => (res_dkg _ _ _ _ _ _ hB h d).trans (out_dkg m c h d).symm)
    fun r hr l => (res_rest _ _ _ _ _ _ r hr l).trans (out_rest m c r hr l).symm

end Cert.KernelIdeal.Att
end
-- ==== Proof.RefRun.lean ====
/- The reference's run with each result as the last stage of its reading. -/
module
public import proofs.«01_k».proof.Proof.Gen.ReferenceIdeal.Run
public import proofs.«01_k».proof.Proof.Gen.ReferenceIdeal.Read
@[expose] public section
set_option maxRecDepth 16384

noncomputable section

namespace Cert.ReferenceIdeal.Att
open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v332) = val_main_v332 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v309) = val_main_v309 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v287) = val_main_v287 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v264) = val_main_v264 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v263) = val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v335) = val_main_v335 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v336) = val_main_v336 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v340) = val_main_v340 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, h5, h6, h7, ht⟩ := h c
    exact ⟨h0.trans (val_main_v332_eq (launchContents m c)),
      h1.trans (val_main_v309_eq (launchContents m c)),
      h2.trans (val_main_v287_eq (launchContents m c)),
      h3.trans (val_main_v264_eq (launchContents m c)),
      h4.trans (val_main_v263_eq (launchContents m c)),
      h5.trans (val_main_v335_eq (launchContents m c)),
      h6.trans (val_main_v336_eq (launchContents m c)),
      h7.trans (val_main_v340_eq (launchContents m c)), ht⟩)
    (run (F := Ideal) m ρ)

end Cert.ReferenceIdeal.Att
end
-- ==== Proof.FfnDw.lean ====
/- The second gradient of the feed-forward product (`Kernel2`): what a point of the grid computes, and what its blocks hold. -/
module
public import proofs.«01_k».proof.Proof.Gen.Kernel2Ideal.Value
public import Idealize.ShloMosaic.Lib.Pointwise
public import Idealize.ShloMosaic.Lib.Pipeline.ValueKit
public import Idealize.ShloMosaic.Lib.Tactic
public import Idealize.ShloMosaic.Lib.VecWindow
public import Idealize.ShloMosaic.Lib.StableHlo.RunRead
@[expose] public section
set_option maxRecDepth 65536

noncomputable section

namespace Cert.Kernel2Ideal.Dw
open Cert.Kernel2Ideal Cert.Kernel2Ideal.Gen Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a point, over its half of the tokens. -/
theorem prod_apply (x : Vec Ideal S4096x512 .bf16) (w : Vec Ideal S1x4096x1408 .bf16) (r : Fin 512) (d : Fin 1408) :
    k0_pay1 x w (ix2 r d) = ∑ k : Fin 4096, x (ix2 k r) * w (ix3 0 k d) := by
  unfold k0_pay1
  pointwise

/-- A finished block is written back in the narrower type. -/
theorem round_apply (s : Vec Ideal S512x1408 .f32) (y : S1x512x1408.Idx) : k0_pay4 s y = s (ix2 (y 1) (y 2)) := by
  unfold k0_pay4
  pointwise

section
variable (c : Dev nD) (i : grid0.Coords) (a3 : Memref sig .tc .vmem S4096x512 .bf16) (h3 : a3.IsWhole)
  (a4 : Memref sig .tc .vmem S1x4096x1408 .bf16) (h4 : a4.IsWhole) (a5 : Memref sig .tc .vmem S1x512x1408 .bf16) (h5 : a5.IsWhole)
  (a6 : Memref sig .tc .vmem S512x1408 .f32) (h6 : a6.IsWhole)
  (x : Vec Ideal S4096x512 .bf16) (w : Vec Ideal S1x4096x1408 .bf16)

/-- The first point of a pair keeps its product. -/
theorem kept (e0 : cond0_0 i) (e1 : ¬cond0_1 i) (e2 : ¬cond0_2 i) : sout0_A_0 (F := Ideal) c i a3 h3 a4 h4 a5 h5 a6 h6 e0 e1 e2 x w = k0_pay1 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  simp only [View.readAt_eq_ld]
  rw [h3.read_unread x]
  rw [h4.read_unread w]
  unfold k0_pay2
  dsimp only
  rw [shapeCast_self, View.ld_unit_zero hz2, View.ld_unit_zero hz3]

/-- The second point writes what was kept and its own product. -/
theorem written (e0 : ¬cond0_0 i) (e1 : cond0_1 i) (e2 : cond0_2 i) (s : Vec Ideal S512x1408 .f32) :
    out0_B_2 (F := Ideal) c i a3 h3 a4 h4 a5 h5 a6 h6 e0 e1 e2 x w s = k0_pay4 (addf s (k0_pay1 x w)) := by
  unfold out0_B_2
  rw [View.read_writes_eq_canon _ _ _ (cover0_B_2 c i a3 h3 a4 h4 a5 h5 a6 h6 e0 e1 e2 x w s)]
  unfold kernelRun0_B
  dsimp only
  sl_unfold_words
  rw [View.canon_unit_zero hz3]
  rw [View.readCov_full]
  simp only [View.readAt_eq_ld]
  rw [h3.read_unread x]
  rw [h4.read_unread w]
  rw [h6.read_unread s]
  unfold k0_pay3
  dsimp only
  rw [shapeCast_self, View.ld_unit_zero hz2, View.ld_unit_zero hz2, View.ld_unit_zero hz3]
end

variable (m : (ℓ : Loc nD τ sig) → Buf (Elt Ideal) ℓ) (c : Dev nD)

/-- The saved rows and the cotangent. -/
abbrev act : FVec Ideal S8192x2048 .bf16 := m (c, main_arg0)
abbrev ct : FVec Ideal S2x8192x5632 .bf16 := m (c, main_arg1)

theorem t_lt (t : Fin cfg0.N) : t.val < 64 := lt_of_lt_of_eq t.isLt N_0

theorem blk0 (t : Fin cfg0.N) (k : Fin 4096) (r : Fin 512) : (iblk m c 0 t : Vec Ideal S4096x512 .bf16) (ix2 k r)
    = act m c (ix2 ⟨t.val % 2 * 4096 + k.val, by omega⟩ ⟨t.val / 16 * 512 + r.val, by have := t_lt t; omega⟩) := by
  have e : ∀ t : Fin cfg0.N, win0_0.index t = ![t.val % 2, t.val / 16] := (by decide +kernel : ∀ t : Fin grid0.N, win0_0.index t = ![t.val % 2, t.val / 16])
  have ht := t_lt t
  blk_ext [iblk, V_main_arg0, e]

theorem blk1 (t : Fin cfg0.N) (k : Fin 4096) (d : Fin 1408) : (iblk m c 1 t : Vec Ideal S1x4096x1408 .bf16) (ix3 0 k d)
    = ct m c (ix3 ⟨t.val / 8 % 2, by omega⟩ ⟨t.val % 2 * 4096 + k.val, by omega⟩ ⟨t.val / 2 % 4 * 1408 + d.val, by omega⟩) := by
  have e : ∀ t : Fin cfg0.N, win0_1.index t = ![t.val / 8 % 2, t.val % 2, t.val / 2 % 4] := (by decide +kernel : ∀ t : Fin grid0.N, win0_1.index t = ![t.val / 8 % 2, t.val % 2, t.val / 2 % 4])
  have ht := t_lt t
  blk_ext [iblk, V_main_arg1, e]

/-- Half an entry of the result: the sum over the first or the second half of the tokens. -/
def seg (a : FVec Ideal S8192x2048 .bf16) (g : FVec Ideal S2x8192x5632 .bf16) (q : Fin 4) (r : Fin 2048) (d : Fin 2816) (h : Fin 2) : EReal :=
  ∑ k : Fin 4096, a (ix2 ⟨h.val * 4096 + k.val, by omega⟩ r) * g (ix3 ⟨q.val / 2, by omega⟩ ⟨h.val * 4096 + k.val, by omega⟩ ⟨q.val % 2 * 2816 + d.val, by omega⟩)

/-- An entry of the result. -/
def cell (a : FVec Ideal S8192x2048 .bf16) (g : FVec Ideal S2x8192x5632 .bf16) (q : Fin 4) (r : Fin 2048) (d : Fin 2816) : EReal :=
  seg a g q r d 0 + seg a g q r d 1

theorem prod_at (t : Fin cfg0.N) (r : Fin 512) (d : Fin 1408) (h : Fin 2) (hh : h.val = t.val % 2) :
    k0_pay1 (iblk m c 0 t) (iblk m c 1 t) (ix2 r d)
      = seg (act m c) (ct m c) ⟨t.val / 4 % 4, by omega⟩ ⟨t.val / 16 * 512 + r.val, by have := t_lt t; omega⟩ ⟨t.val / 2 % 2 * 1408 + d.val, by omega⟩ h := by
  rw [prod_apply]
  unfold seg
  refine Finset.sum_congr rfl fun k _ => ?_
  rw [blk0, blk1]
  refine congrArg₂ (· * ·) (congrArg _ ?_) (congrArg _ ?_) <;> funext a <;> fin_cases a <;>
    first | rfl | (apply Fin.ext; simp [ix2, ix3]; omega)

theorem scratch (u : Fin cfg0.N) (h0 : u.val % 2 = 0) (h1 : ¬u.val % 2 = 1) : (outsAt0 m c u.val u.isLt).2 = k0_pay1 (iblk m c 0 u) (iblk m c 1 u) := by
  have e := congrArg (fun p => p.2) (outsAt0_A m c u h0 h1 h1)
  dsimp only at e
  rw [e]
  exact kept c (grid0.coords u) (ms0_0 u) (hs0_0 u) (ms0_1 u) (hs0_1 u) (ms0_2 u) (hs0_2 u) scM0_0 (Memref.isWhole_whole _) (iblk m c 0 u) (iblk m c 1 u) _ _ _

theorem left_sum (t : Fin cfg0.N) (h0 : ¬t.val % 2 = 0) (h1 : t.val % 2 = 1) : (outsAt0 m c t.val t.isLt).1
    = k0_pay4 (addf (outsAt0 m c (t.val - 1) (Nat.lt_of_le_of_lt (Nat.sub_le _ _) t.isLt)).2 (k0_pay1 (iblk m c 0 t) (iblk m c 1 t))) := by
  have e := congrArg (fun p => p.1) (outsAt0_B m c t h0 h1 h1)
  dsimp only at e
  rw [e]
  exact written c (grid0.coords t) (ms0_0 t) (hs0_0 t) (ms0_1 t) (hs0_1 t) (ms0_2 t) (hs0_2 t) scM0_0 (Memref.isWhole_whole _) (iblk m c 0 t) (iblk m c 1 t) _ _ _ _

theorem left (t u : Fin cfg0.N) (ho : t.val % 2 = 1) (hu : u.val = t.val - 1) (y : S1x512x1408.Idx) : (outsAt0 m c t.val t.isLt).1 y
    = cell (act m c) (ct m c) ⟨t.val / 4 % 4, by omega⟩ ⟨t.val / 16 * 512 + (y 1).val, by have := t_lt t; have : (y 1).val < 512 := (y 1).isLt; omega⟩
      ⟨t.val / 2 % 2 * 1408 + (y 2).val, by have : (y 2).val < 1408 := (y 2).isLt; omega⟩ := by
  have ht := t_lt t
  have hs : (outsAt0 m c (t.val - 1) (Nat.lt_of_le_of_lt (Nat.sub_le _ _) t.isLt)).2 = k0_pay1 (iblk m c 0 u) (iblk m c 1 u) := by
    rw [← scratch m c u (by omega) (by omega)]
    congr 2
    exact hu.symm
  rw [left_sum m c t (by omega) ho, hs, round_apply, addf_apply, prod_at m c u (y 1) (y 2) 0 (by simp; omega), prod_at m c t (y 1) (y 2) 1 (by simp; omega)]
  have e1 : u.val / 4 = t.val / 4 := by omega
  have e2 : u.val / 2 = t.val / 2 := by omega
  have e3 : u.val / 16 = t.val / 16 := by omega
  unfold cell
  simp only [e1, e2, e3]
  rfl

/-- The result array. -/
theorem arr : (dats m 0 c).arrAt 2 cfg0.N = fun y : S4x2048x2816.Idx => cell (act m c) (ct m c) (y 0) (y 1) (y 2) := by
  have e : ∀ t : Fin cfg0.N, win0_2.index t = ![t.val / 4 % 4, t.val / 16, t.val / 2 % 2] := (by decide +kernel : ∀ t : Fin grid0.N, win0_2.index t = ![t.val / 4 % 4, t.val / 16, t.val / 2 % 2])
  refine (dats m 0 c).arrAt_eq_of_covers 2 _ (by decide +kernel) fun t hf y => ?_
  have ho : t.val % 2 = 1 := (flush0_2 t).mp hf
  blk_simp
  rw [after0_2]
  have hy : (y 0).val = 0 := by have : (y 0).val < 1 := (y 0).isLt; omega
  have h0 : ((win0_2.blk t).view.emb y 0).val = t.val / 4 % 4 := by blk_simp [e]
  have h1 : ((win0_2.blk t).view.emb y 1).val = t.val / 16 * 512 + (y 1).val := by blk_simp [e]
  have h2 : ((win0_2.blk t).view.emb y 2).val = t.val / 2 % 2 * 1408 + (y 2).val := by blk_simp [e]
  refine (left m c t ⟨t.val - 1, Nat.lt_of_le_of_lt (Nat.sub_le _ _) t.isLt⟩ ho rfl y).trans ?_
  have c3 : ∀ (q q' : Fin 4) (r r' : Fin 2048) (d d' : Fin 2816), q = q' → r = r' → d = d' → cell (act m c) (ct m c) q r d = cell (act m c) (ct m c) q' r' d' := by
    rintro _ _ _ _ _ _ rfl rfl rfl; rfl
  exact (c3 _ _ _ _ _ _ (Fin.ext h0) (Fin.ext h1) (Fin.ext h2)).symm

end Cert.Kernel2Ideal.Dw
end
-- ==== Proof.FfnDwRef.lean ====
/- The reference of the second gradient of the feed-forward product, entry by entry, beside the kernel's result. -/
module
public import proofs.«01_k».proof.Proof.FfnDw
public import proofs.«01_k».proof.Proof.Gen.Reference2Ideal.Read
@[expose] public section
set_option maxRecDepth 65536

noncomputable section

namespace Cert.Kernel2Ideal.Dw
open Cert.Reference2Ideal.Read Idealize.ShloMosaic Idealize.ShloMosaic.TcCoe

abbrev A : Type := FVec Ideal Cert.Kernel2Ideal.S8192x2048 .bf16
abbrev G : Type := FVec Ideal Cert.Kernel2Ideal.S2x8192x5632 .bf16

/-- The two halves of the cotangent side by side. -/
theorem cat (g : G) (k : Fin 8192) (q : Fin 4) (d : Fin 2816) : val_main_v4 (F := Ideal) g (ix2 k ⟨q.val * 2816 + d.val, by omega⟩)
    = g (ix3 ⟨q.val / 2, by omega⟩ k ⟨q.val % 2 * 2816 + d.val, by omega⟩) := by
  pointwise [val_main_v4, val_main_v1, val_main_v0, val_main_v3, val_main_v2]
  split <;> (refine congrArg g ?_; funext b; fin_cases b <;> first | rfl | (apply Fin.ext; simp [ix3]; omega))

/-- A sum over the tokens, half by half. -/
theorem sum_halves (f : Fin 8192 → EReal) : ∑ k, f k = (∑ k : Fin 4096, f ⟨(0 : Fin 2).val * 4096 + k.val, by simp; omega⟩) + ∑ k : Fin 4096, f ⟨(1 : Fin 2).val * 4096 + k.val, by simp; omega⟩ := by
  refine (Fin.sum_univ_add (a := 4096) (b := 4096) f).trans (congrArg₂ (· + ·) ?_ ?_) <;>
    (refine Finset.sum_congr rfl fun k _ => congrArg f (Fin.ext ?_); simp [add_comm])

theorem ref_apply (a : A) (g : G) (y : Cert.Kernel2Ideal.S4x2048x2816.Idx) : val_main_v13 (F := Ideal) a g y = cell a g (y 0) (y 1) (y 2) := by
  have hq : (y 0).val < 4 := (y 0).isLt
  have hd : (y 2).val < 2816 := (y 2).isLt
  rw [val_main_v13_apply, val_main_v12_apply]
  refine (val_main_v10_apply (F := Ideal) a g _).trans ((val_main_v9_apply a g _).trans ((sum_halves _).trans ?_))
  have hp : ∀ k : Fin 8192, val_main_v5 (F := Ideal) g (lidx_main_v9 (idx_main_v10 (idx_main_v12 (idx_main_v13 y))) k)
      * val_main_v7 (F := Ideal) a (ridx_main_v9 (idx_main_v10 (idx_main_v12 (idx_main_v13 y))) k)
      = a (ix2 k (y 1)) * g (ix3 ⟨(y 0).val / 2, by omega⟩ k ⟨(y 0).val % 2 * 2816 + (y 2).val, by omega⟩) := fun k => by
    have e1 : lidx_main_v9 (idx_main_v10 (idx_main_v12 (idx_main_v13 y))) k = ix2 k ⟨(y 0).val * 2816 + (y 2).val, by omega⟩ := by
      funext b; fin_cases b
      · rfl
      · apply Fin.ext; simp [ix2]; omega
    have e2 : ridx_main_v9 (idx_main_v10 (idx_main_v12 (idx_main_v13 y))) k = ix2 k (y 1) := by
      funext b; fin_cases b
      · rfl
      · apply Fin.ext; simp [ix2]; omega
    rw [mul_comm]
    exact congrArg₂ (· * ·) (congrArg a e2) ((congrArg (val_main_v4 (F := Ideal) g) e1).trans (cat g k (y 0) (y 2)))
  unfold cell seg
  exact congrArg₂ (· + ·) (Finset.sum_congr rfl fun k _ => hp _) (Finset.sum_congr rfl fun k _ => hp _)

end Cert.Kernel2Ideal.Dw
end
-- ==== Proof.FfnDh.lean ====
/- The first gradient of the feed-forward product (`Kernel3`): what a point of the grid computes, and what its blocks hold. -/
module
public import proofs.«01_k».proof.Proof.Gen.Kernel3Ideal.Value
public import Idealize.ShloMosaic.Lib.Pointwise
public import Idealize.ShloMosaic.Lib.Pipeline.ValueKit
public import Idealize.ShloMosaic.Lib.Tactic
public import Idealize.ShloMosaic.Lib.StableHlo.RunRead
@[expose] public section
set_option maxRecDepth 65536

noncomputable section

namespace Cert.Kernel3Ideal.Dh
open Cert.Kernel3Ideal Cert.Kernel3Ideal.Gen Idealize.ShloMosaic Idealize.ShloMosaic.TcCoe

theorem hz2 : (![0, 0] : Fin 2 → Nat) = fun _ => 0 := funext fun a => by fin_cases a <;> rfl

/-- The two products of a point, added: the halves of a row of the cotangent against the two slabs of the weights. -/
def prod (x : Vec Ideal S1x1024x5632 .bf16) (w : Vec Ideal S2x512x2816 .bf16) : FVec Ideal S1024x512 .f32 :=
  k0_pay1 (View.ld x (Rect.unit ![0, 0, 0] ![1, 1024, 2816] inb_S1x1024x5632_S1x1024x2816_0_0_0))
    (View.ld w (Rect.unit ![0, 0, 0] ![1, 512, 2816] inb_S2x512x2816_S1x512x2816_0_0_0))
    (View.ld x (Rect.unit ![0, 0, 2816] ![1, 1024, 2816] inb_S1x1024x5632_S1x1024x2816_0_0_2816))
    (View.ld w (Rect.unit ![1, 0, 0] ![1, 512, 2816] inb_S2x512x2816_S1x512x2816_1_0_0))

theorem prod_apply (x : Vec Ideal S1x1024x5632 .bf16) (w : Vec Ideal S2x512x2816 .bf16) (r : Fin 1024) (d : Fin 512) :
    prod x w (ix2 r d) = (∑ k : Fin 2816, x (ix3 0 r ⟨k.val, by omega⟩) * w (ix3 0 d k))
      + ∑ k : Fin 2816, x (ix3 0 r ⟨2816 + k.val, by omega⟩) * w (ix3 1 d k) := by
  unfold prod
  rw [View.ld_unit, View.ld_unit, View.ld_unit, View.ld_unit]
  unfold k0_pay1
  pointwise

section
variable (c : Dev nD) (i : grid0.Coords) (a3 : Memref sig .tc .vmem S1x1024x5632 .bf16) (h3 : a3.IsWhole)
  (a4 : Memref sig .tc .vmem S2x512x2816 .bf16) (h4 : a4.IsWhole) (a5 a6 : Memref sig .tc .vmem S1024x512 .f32) (h5 : a5.IsWhole) (h6 : a6.IsWhole)
  (x : Vec Ideal S1x1024x5632 .bf16) (w : Vec Ideal S2x512x2816 .bf16)

/-- The first point of a pair keeps its product. -/
theorem kept (e0 : cond0_0 i) (e1 : ¬cond0_1 i) : sout0_A_0 (F := Ideal) c i a3 h3 a4 h4 a5 h5 a6 h6 e0 e1 x w = prod x w := by
  unfold sout0_A_0
  rw [View.read_writes_eq_canon _ _ _ (scover0_A_0 c i a3 h3 a4 h4 a5 h5 a6 h6 e0 e1 x w)]
  unfold kernelRun0_A
  dsimp only
  rw [View.canon_unit_zero hz2]
  simp only [View.readAt_eq_ld]
  rw [h3.read_unread x]
  rw [h4.read_unread w]
  unfold k0_pay2
  dsimp only
  rw [shapeCast_self]
  rfl

/-- The second point writes what was kept and its own product. -/
theorem written (e0 : ¬cond0_0 i) (e1 : cond0_1 i) (s : Vec Ideal S1024x512 .f32) :
    out0_B_2 (F := Ideal) c i a3 h3 a4 h4 a5 h5 a6 h6 e0 e1 x w s = addf s (prod x w) := by
  unfold out0_B_2
  rw [View.read_writes_eq_canon _ _ _ (cover0_B_2 c i a3 h3 a4 h4 a5 h5 a6 h6 e0 e1 x w s)]
  unfold kernelRun0_B
  dsimp only
  rw [View.canon_unit_zero hz2]
  simp only [View.readAt_eq_ld]
  rw [h3.read_unread x]
  rw [h4.read_unread w]
  rw [h6.read_unread s]
  rw [View.ld_unit_zero hz2]
  rfl
end

variable (m : (ℓ : Loc nD τ sig) → Buf (Elt Ideal) ℓ) (c : Dev nD)

/-- The cotangent and the weights. -/
abbrev ct : FVec Ideal S2x8192x5632 .bf16 := m (c, main_arg0)
abbrev wt : FVec Ideal S2048x11264 .f32 := m (c, main_arg1)

/-- The weights' four slabs. -/
theorem slabs (q : Fin 4) (d : Fin 2048) (k : Fin 2816) : (V m c main_v2 : FVec Ideal S4x2048x2816 .bf16) (ix3 q d k)
    = wt m c (ix2 d ⟨q.val * 2816 + k.val, by omega⟩) := by
  have e : V m c main_v2 = transpose S4x2048x2816 [1, 0, 2] (shapeCast S2048x4x2816 (truncf .bf16 (wt m c) bitsLt_bf16_f32)
      shapeCasts_S2048x11264_S2048x4x2816) transposes_S2048x4x2816_S4x2048x2816_1_0_2 := by
    dsimp only [V, List.flatten, hostOps0, List.append]
    after_reads_simp
    rfl
  rw [e]
  pointwise

theorem t_lt (t : Fin cfg0.N) : t.val < 64 := lt_of_lt_of_eq t.isLt N_0

theorem blk0 (t : Fin cfg0.N) (r : Fin 1024) (k : Fin 5632) : (iblk m c 0 t : Vec Ideal S1x1024x5632 .bf16) (ix3 0 r k)
    = ct m c (ix3 ⟨t.val % 2, by omega⟩ ⟨t.val / 8 * 1024 + r.val, by have := t_lt t; omega⟩ k) := by
  have e : ∀ t : Fin cfg0.N, win0_0.index t = ![t.val % 2, t.val / 8, 0] := (by decide +kernel : ∀ t : Fin grid0.N, win0_0.index t = ![t.val % 2, t.val / 8, 0])
  have ht := t_lt t
  blk_ext [iblk, V_main_arg0, e]

theorem blk1 (t : Fin cfg0.N) (h : Fin 2) (d : Fin 512) (k : Fin 2816) : (iblk m c 1 t : Vec Ideal S2x512x2816 .bf16) (ix3 h d k)
    = (V m c main_v2 : FVec Ideal S4x2048x2816 .bf16) (ix3 ⟨t.val % 2 * 2 + h.val, by omega⟩ ⟨t.val / 2 % 4 * 512 + d.val, by omega⟩ k) := by
  have e : ∀ t : Fin cfg0.N, win0_1.index t = ![t.val % 2, t.val / 2 % 4, 0] := (by decide +kernel : ∀ t : Fin grid0.N, win0_1.index t = ![t.val % 2, t.val / 2 % 4, 0])
  have ht := t_lt t
  blk_ext [iblk, e]

/-- One slab's part of an entry of the result: a quarter of the row of the cotangent against that slab of the weights. -/
def seg (a : FVec Ideal S2x8192x5632 .bf16) (w : FVec Ideal S2048x11264 .f32) (r : Fin 8192) (d : Fin 2048) (q : Fin 4) : EReal :=
  ∑ k : Fin 2816, a (ix3 ⟨q.val / 2, by omega⟩ r ⟨q.val % 2 * 2816 + k.val, by omega⟩) * w (ix2 d ⟨q.val * 2816 + k.val, by omega⟩)

theorem prod_at (t : Fin cfg0.N) (r : Fin 1024) (d : Fin 512) (q q' : Fin 4) (hq : q.val = t.val % 2 * 2) (hq' : q'.val = t.val % 2 * 2 + 1) :
    prod (iblk m c 0 t) (iblk m c 1 t) (ix2 r d)
      = seg (ct m c) (wt m c) ⟨t.val / 8 * 1024 + r.val, by have := t_lt t; omega⟩ ⟨t.val / 2 % 4 * 512 + d.val, by omega⟩ q
        + seg (ct m c) (wt m c) ⟨t.val / 8 * 1024 + r.val, by have := t_lt t; omega⟩ ⟨t.val / 2 % 4 * 512 + d.val, by omega⟩ q' := by
  rw [prod_apply]
  unfold seg
  refine congrArg₂ (· + ·) (Finset.sum_congr rfl fun k _ => ?_) (Finset.sum_congr rfl fun k _ => ?_)
  · rw [blk0, blk1, slabs]
    refine congrArg₂ (· * ·) (congrArg _ ?_) (congrArg _ ?_) <;> funext a <;> fin_cases a <;>
      first | rfl | (apply Fin.ext; simp [ix2, ix3]; omega)
  · rw [blk0, blk1, slabs]
    refine congrArg₂ (· * ·) (congrArg _ ?_) (congrArg _ ?_) <;> funext a <;> fin_cases a <;>
      first | rfl | (apply Fin.ext; simp [ix2, ix3]; omega)

theorem scratch (u : Fin cfg0.N) (h0 : u.val % 2 = 0) (h1 : ¬u.val % 2 = 1) : (outsAt0 m c u.val u.isLt).2 = prod (iblk m c 0 u) (iblk m c 1 u) := by
  have e := congrArg (fun p => p.2) (outsAt0_A m c u h0 h1)
  dsimp only at e
  rw [e]
  exact kept c (grid0.coords u) (ms0_0 u) (hs0_0 u) (ms0_1 u) (hs0_1 u) (ms0_2 u) scM0_0 (hs0_2 u) (Memref.isWhole_whole _) (iblk m c 0 u) (iblk m c 1 u) _ _

theorem left_sum (t : Fin cfg0.N) (h0 : ¬t.val % 2 = 0) (h1 : t.val % 2 = 1) : (outsAt0 m c t.val t.isLt).1
    = addf (outsAt0 m c (t.val - 1) (Nat.lt_of_le_of_lt (Nat.sub_le _ _) t.isLt)).2 (prod (iblk m c 0 t) (iblk m c 1 t)) :=
  (congrArg (fun p => p.1) (outsAt0_B m c t h0 h1)).trans (written c (grid0.coords t) (ms0_0 t) (hs0_0 t) (ms0_1 t) (hs0_1 t) (ms0_2 t) scM0_0 (hs0_2 t)
    (Memref.isWhole_whole _) (iblk m c 0 t) (iblk m c 1 t) (fun h => h0 ((hcond0_0 t).mp h)) ((hcond0_1 t).mpr h1) _)

/-- An entry of the result. -/
def cell (a : FVec Ideal S2x8192x5632 .bf16) (w : FVec Ideal S2048x11264 .f32) (r : Fin 8192) (d : Fin 2048) : EReal :=
  (seg a w r d 0 + seg a w r d 1) + (seg a w r d 2 + seg a w r d 3)

theorem left (t u : Fin cfg0.N) (ho : t.val % 2 = 1) (hu : u.val = t.val - 1) (r : Fin 1024) (d : Fin 512) : (outsAt0 m c t.val t.isLt).1 (ix2 r d)
    = cell (ct m c) (wt m c) ⟨t.val / 8 * 1024 + r.val, by have := t_lt t; omega⟩ ⟨t.val / 2 % 4 * 512 + d.val, by omega⟩ := by
  have ht := t_lt t
  have hs : (outsAt0 m c (t.val - 1) (Nat.lt_of_le_of_lt (Nat.sub_le _ _) t.isLt)).2 = prod (iblk m c 0 u) (iblk m c 1 u) := by
    rw [← scratch m c u (by omega) (by omega)]
    congr 2
    exact hu.symm
  rw [left_sum m c t (by omega) ho, hs, addf_apply, prod_at m c u r d 0 1 (by simp; omega) (by simp; omega), prod_at m c t r d 2 3 (by simp; omega) (by simp; omega)]
  have e1 : u.val / 8 = t.val / 8 := by omega
  have e2 : u.val / 2 = t.val / 2 := by omega
  unfold cell
  simp only [e1, e2]
  rfl

/-- The result array. -/
theorem arr : (dats m 0 c).arrAt 2 cfg0.N = fun y : S8192x2048.Idx => cell (ct m c) (wt m c) (y 0) (y 1) := by
  have e : ∀ t : Fin cfg0.N, win0_2.index t = ![t.val / 8, t.val / 2 % 4] := (by decide +kernel : ∀ t : Fin grid0.N, win0_2.index t = ![t.val / 8, t.val / 2 % 4])
  refine (dats m 0 c).arrAt_eq_of_covers 2 _ (by decide +kernel) fun t hf y => ?_
  have ho : t.val % 2 = 1 := (flush0_2 t).mp hf
  blk_simp
  rw [after0_2]
  have h0 : ((win0_2.blk t).view.emb y 0).val = t.val / 8 * 1024 + (y 0).val := by blk_simp [e]
  have h1 : ((win0_2.blk t).view.emb y 1).val = t.val / 2 % 4 * 512 + (y 1).val := by blk_simp [e]
  have ey : y = ix2 (y 0) (y 1) := by funext a; fin_cases a <;> rfl
  refine (congrArg _ ey).trans ((left m c t ⟨t.val - 1, Nat.lt_of_le_of_lt (Nat.sub_le _ _) t.isLt⟩ ho rfl (y 0) (y 1)).trans ?_)
  exact (congrArg₂ (cell (ct m c) (wt m c)) (Fin.ext h0) (Fin.ext h1)).symm

end Cert.Kernel3Ideal.Dh
end
-- ==== Proof.FfnDhRef.lean ====
/- The reference of the first gradient of the feed-forward product, entry by entry, beside the kernel's result. -/
module
public import proofs.«01_k».proof.Proof.FfnDh
public import proofs.«01_k».proof.Proof.Gen.Reference3Ideal.Read
@[expose] public section
set_option maxRecDepth 65536

noncomputable section

namespace Cert.Kernel3Ideal.Dh
open Cert.Reference3Ideal.Read Idealize.ShloMosaic Idealize.ShloMosaic.TcCoe

abbrev A : Type := FVec Ideal Cert.Kernel3Ideal.S2x8192x5632 .bf16
abbrev W : Type := FVec Ideal Cert.Kernel3Ideal.S2048x11264 .f32

theorem cat_lo (a : A) (r : Fin 8192) (k : Fin 11264) (h : k.val < 5632) : val_main_v4 (F := Ideal) a (ix2 r k) = a (ix3 0 r ⟨k.val, h⟩) := by
  pointwise [val_main_v4, val_main_v1, val_main_v0, val_main_v3, val_main_v2]
  rw [dif_pos h]
theorem cat_hi (a : A) (r : Fin 8192) (k : Fin 5632) : val_main_v4 (F := Ideal) a (ix2 r ⟨5632 + k.val, by omega⟩) = a (ix3 1 r k) := by
  pointwise [val_main_v4, val_main_v1, val_main_v0, val_main_v3, val_main_v2]

/-- A sum over a row of the weights, slab by slab. -/
theorem sum_slabs (f : Fin 11264 → EReal) : ∑ k, f k
    = ((∑ k : Fin 2816, f ⟨k.val, by omega⟩) + ∑ k : Fin 2816, f ⟨2816 + k.val, by omega⟩)
      + ((∑ k : Fin 2816, f ⟨5632 + k.val, by omega⟩) + ∑ k : Fin 2816, f ⟨8448 + k.val, by omega⟩) := by
  refine (Fin.sum_univ_add (a := 5632) (b := 5632) f).trans (congrArg₂ (· + ·) ((Fin.sum_univ_add (a := 2816) (b := 2816) _).trans ?_)
    ((Fin.sum_univ_add (a := 2816) (b := 2816) _).trans ?_))
  · rfl
  · refine congrArg₂ (· + ·) rfl (Finset.sum_congr rfl fun k _ => congrArg f (Fin.ext ?_))
    show 5632 + (2816 + k.val) = 8448 + k.val
    omega

theorem ref_apply (a : A) (w : W) (y : Cert.Kernel3Ideal.S8192x2048.Idx) : val_main_v10 (F := Ideal) a w y
    = cell a w (y 0) (y 1) := by
  rw [val_main_v10_apply, sum_slabs]
  have lo : ∀ k : Fin 11264, (h : k.val < 5632) → val_main_v5 (F := Ideal) a (lidx_main_v10 y k) * val_main_v8 (F := Ideal) w (ridx_main_v10 y k)
      = a (ix3 0 (y 0) ⟨k.val, h⟩) * w (ix2 (y 1) k) := fun k h => by
    refine congrArg₂ (· * ·) ((congrArg (val_main_v4 (F := Ideal) a) ?_).trans (cat_lo a (y 0) k h)) (congrArg w ?_) <;> funext b <;> fin_cases b <;> rfl
  have hi : ∀ k : Fin 5632, val_main_v5 (F := Ideal) a (lidx_main_v10 y ⟨5632 + k.val, by omega⟩) * val_main_v8 (F := Ideal) w (ridx_main_v10 y ⟨5632 + k.val, by omega⟩)
      = a (ix3 1 (y 0) k) * w (ix2 (y 1) ⟨5632 + k.val, by omega⟩) := fun k => by
    refine congrArg₂ (· * ·) ((congrArg (val_main_v4 (F := Ideal) a) ?_).trans (cat_hi a (y 0) k)) (congrArg w ?_) <;> funext b <;> fin_cases b <;> rfl
  unfold cell seg
  refine congrArg₂ (· + ·) (congrArg₂ (· + ·) (Finset.sum_congr rfl fun k _ => ?_) (Finset.sum_congr rfl fun k _ => ?_))
    (congrArg₂ (· + ·) (Finset.sum_congr rfl fun k _ => ?_) (Finset.sum_congr rfl fun k _ => ?_))
  · refine (lo ⟨k.val, by omega⟩ (by dsimp only; omega)).trans (congrArg₂ (· * ·) (congrArg a ?_) (congrArg w ?_)) <;> funext b <;> fin_cases b <;>
      first | rfl | (apply Fin.ext; simp [ix2, ix3])
  · refine (lo ⟨2816 + k.val, by omega⟩ (by dsimp only; omega)).trans (congrArg₂ (· * ·) (congrArg a ?_) (congrArg w ?_)) <;> funext b <;> fin_cases b <;>
      first | rfl | (apply Fin.ext; simp [ix2, ix3])
  · refine (hi ⟨k.val, by omega⟩).trans (congrArg₂ (· * ·) (congrArg a ?_) (congrArg w ?_)) <;> funext b <;> fin_cases b <;>
      first | rfl | (apply Fin.ext; simp [ix2, ix3])
  · refine Eq.trans ?_ ((hi ⟨2816 + k.val, by omega⟩).trans (congrArg₂ (· * ·) (congrArg a ?_) (congrArg w ?_)))
    · have e : (⟨8448 + k.val, by omega⟩ : Fin 11264) = ⟨5632 + (2816 + k.val), by omega⟩ := Fin.ext (by dsimp only; omega)
      rw [e]
    all_goals
      funext b
      fin_cases b <;> first | rfl | (apply Fin.ext; simp [ix2]; done) | (apply Fin.ext; simp [ix2, ix3]; omega)

end Cert.Kernel3Ideal.Dh
end
-- ==== Proof.FfnDwd.lean ====
/- The gradient of the weights of the down projection (`Kernel4`): the kernel, block by block, and the reference. -/
module
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Tactic
public import Idealize.ShloMosaic.Lib.VecWindow
public import Idealize.ShloMosaic.Lib.StableHlo.RunRead
@[expose] public section
set_option maxRecDepth 65536

noncomputable section

namespace Cert.Kernel4Ideal.Dwd
open Cert.Kernel4Ideal Cert.Kernel4Ideal.Gen Idealize.ShloMosaic Idealize.ShloMosaic.TcCoe
open Cert.Reference4Ideal.Read

theorem hz2 : (![0, 0] : Fin 2 → Nat) = fun _ => 0 := funext fun a => by fin_cases a <;> rfl

/-- The product of a point, over its half of the tokens. -/
theorem prod_apply (x : Vec Ideal S4096x1408 .bf16) (w : Vec Ideal S4096x512 .bf16) (r : Fin 1408) (d : Fin 512) :
    k0_pay1 x w (ix2 r d) = ∑ k : Fin 4096, x (ix2 k r) * w (ix2 k d) := by
  unfold k0_pay1
  pointwise

/-- A finished block is written back in the narrower type. -/
theorem round_apply (s : Vec Ideal S1408x512 .f32) (y : S1408x512.Idx) : k0_pay4 s y = s (ix2 (y 0) (y 1)) := by
  unfold k0_pay4
  pointwise

section
variable (c : Dev nD) (i : grid0.Coords) (a3 : Memref sig .tc .vmem S4096x1408 .bf16) (h3 : a3.IsWhole)
  (a4 : Memref sig .tc .vmem S4096x512 .bf16) (h4 : a4.IsWhole) (a5 : Memref sig .tc .vmem S1408x512 .bf16) (h5 : a5.IsWhole)
  (a6 : Memref sig .tc .vmem S1408x512 .f32) (h6 : a6.IsWhole)
  (x : Vec Ideal S4096x1408 .bf16) (w : Vec Ideal S4096x512 .bf16)

/-- The first point of a pair keeps its product. -/
theorem kept (e0 : cond0_0 i) (e1 : ¬cond0_1 i) (e2 : ¬cond0_2 i) : sout0_A_0 (F := Ideal) c i a3 h3 a4 h4 a5 h5 a6 h6 e0 e1 e2 x w = k0_pay1 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  simp only [View.readAt_eq_ld]
  rw [h3.read_unread x]
  rw [h4.read_unread w]
  unfold k0_pay2
  dsimp only
  rw [shapeCast_self, View.ld_unit_zero hz2, View.ld_unit_zero hz2]

/-- The second point writes what was kept and its own product. -/
theorem written (e0 : ¬cond0_0 i) (e1 : cond0_1 i) (e2 : cond0_2 i) (s : Vec Ideal S1408x512 .f32) :
    out0_B_2 (F := Ideal) c i a3 h3 a4 h4 a5 h5 a6 h6 e0 e1 e2 x w s = k0_pay4 (addf s (k0_pay1 x w)) := by
  unfold out0_B_2
  rw [View.read_writes_eq_canon _ _ _ (cover0_B_2 c i a3 h3 a4 h4 a5 h5 a6 h6 e0 e1 e2 x w s)]
  unfold kernelRun0_B
  dsimp only
  sl_unfold_words
  rw [View.canon_unit_zero hz2]
  rw [View.readCov_full]
  simp only [View.readAt_eq_ld]
  rw [h3.read_unread x]
  rw [h4.read_unread w]
  rw [h6.read_unread s]
  unfold k0_pay3
  dsimp only
  rw [shapeCast_self, View.ld_unit_zero hz2, View.ld_unit_zero hz2, View.ld_unit_zero hz2]
end

variable (m : (ℓ : Loc nD τ sig) → Buf (Elt Ideal) ℓ) (c : Dev nD)

/-- The two arguments. -/
abbrev lhs : FVec Ideal S8192x5632 .bf16 := m (c, main_arg0)
abbrev rhs : FVec Ideal S8192x2048 .bf16 := m (c, main_arg1)

theorem t_lt (t : Fin cfg0.N) : t.val < 32 := lt_of_lt_of_eq t.isLt N_0

theorem blk0 (t : Fin cfg0.N) (k : Fin 4096) (r : Fin 1408) : (iblk m c 0 t : Vec Ideal S4096x1408 .bf16) (ix2 k r)
    = lhs m c (ix2 ⟨t.val % 2 * 4096 + k.val, by omega⟩ ⟨t.val / 8 * 1408 + r.val, by have := t_lt t; omega⟩) := by
  have e : ∀ t : Fin cfg0.N, win0_0.index t = ![t.val % 2, t.val / 8] := (by decide +kernel : ∀ t : Fin grid0.N, win0_0.index t = ![t.val % 2, t.val / 8])
  have ht := t_lt t
  blk_ext [iblk, V_main_arg0, e]

theorem blk1 (t : Fin cfg0.N) (k : Fin 4096) (d : Fin 512) : (iblk m c 1 t : Vec Ideal S4096x512 .bf16) (ix2 k d)
    = rhs m c (ix2 ⟨t.val % 2 * 4096 + k.val, by omega⟩ ⟨t.val / 2 % 4 * 512 + d.val, by omega⟩) := by
  have e : ∀ t : Fin cfg0.N, win0_1.index t = ![t.val % 2, t.val / 2 % 4] := (by decide +kernel : ∀ t : Fin grid0.N, win0_1.index t = ![t.val % 2, t.val / 2 % 4])
  have ht := t_lt t
  blk_ext [iblk, V_main_arg1, e]

/-- Half an entry of the result: the sum over the first or the second half of the tokens. -/
def seg (a : FVec Ideal S8192x5632 .bf16) (b : FVec Ideal S8192x2048 .bf16) (r : Fin 5632) (d : Fin 2048) (h : Fin 2) : EReal :=
  ∑ k : Fin 4096, a (ix2 ⟨h.val * 4096 + k.val, by omega⟩ r) * b (ix2 ⟨h.val * 4096 + k.val, by omega⟩ d)

/-- An entry of the result. -/
def cell (a : FVec Ideal S8192x5632 .bf16) (b : FVec Ideal S8192x2048 .bf16) (r : Fin 5632) (d : Fin 2048) : EReal :=
  seg a b r d 0 + seg a b r d 1

theorem prod_at (t : Fin cfg0.N) (r : Fin 1408) (d : Fin 512) (h : Fin 2) (hh : h.val = t.val % 2) :
    k0_pay1 (iblk m c 0 t) (iblk m c 1 t) (ix2 r d)
      = seg (lhs m c) (rhs m c) ⟨t.val / 8 * 1408 + r.val, by have := t_lt t; omega⟩ ⟨t.val / 2 % 4 * 512 + d.val, by omega⟩ h := by
  rw [prod_apply]
  unfold seg
  refine Finset.sum_congr rfl fun k _ => ?_
  rw [blk0, blk1]
  refine congrArg₂ (· * ·) (congrArg _ ?_) (congrArg _ ?_) <;> funext a <;> fin_cases a <;>
    first | rfl | (apply Fin.ext; simp [ix2]; omega)

theorem scratch (u : Fin cfg0.N) (h0 : u.val % 2 = 0) (h1 : ¬u.val % 2 = 1) : (outsAt0 m c u.val u.isLt).2 = k0_pay1 (iblk m c 0 u) (iblk m c 1 u) := by
  have e := congrArg (fun p => p.2) (outsAt0_A m c u h0 h1 h1)
  dsimp only at e
  rw [e]
  exact kept c (grid0.coords u) (ms0_0 u) (hs0_0 u) (ms0_1 u) (hs0_1 u) (ms0_2 u) (hs0_2 u) scM0_0 (Memref.isWhole_whole _) (iblk m c 0 u) (iblk m c 1 u) _ _ _

theorem left_sum (t : Fin cfg0.N) (h0 : ¬t.val % 2 = 0) (h1 : t.val % 2 = 1) : (outsAt0 m c t.val t.isLt).1
    = k0_pay4 (addf (outsAt0 m c (t.val - 1) (Nat.lt_of_le_of_lt (Nat.sub_le _ _) t.isLt)).2 (k0_pay1 (iblk m c 0 t) (iblk m c 1 t))) := by
  have e := congrArg (fun p => p.1) (outsAt0_B m c t h0 h1 h1)
  dsimp only at e
  rw [e]
  exact written c (grid0.coords t) (ms0_0 t) (hs0_0 t) (ms0_1 t) (hs0_1 t) (ms0_2 t) (hs0_2 t) scM0_0 (Memref.isWhole_whole _) (iblk m c 0 t) (iblk m c 1 t) _ _ _ _

theorem left (t u : Fin cfg0.N) (ho : t.val % 2 = 1) (hu : u.val = t.val - 1) (y : S1408x512.Idx) : (outsAt0 m c t.val t.isLt).1 y
    = cell (lhs m c) (rhs m c) ⟨t.val / 8 * 1408 + (y 0).val, by have := t_lt t; have : (y 0).val < 1408 := (y 0).isLt; omega⟩
      ⟨t.val / 2 % 4 * 512 + (y 1).val, by have : (y 1).val < 512 := (y 1).isLt; omega⟩ := by
  have ht := t_lt t
  have hs : (outsAt0 m c (t.val - 1) (Nat.lt_of_le_of_lt (Nat.sub_le _ _) t.isLt)).2 = k0_pay1 (iblk m c 0 u) (iblk m c 1 u) := by
    rw [← scratch m c u (by omega) (by omega)]
    congr 2
    exact hu.symm
  rw [left_sum m c t (by omega) ho, hs, round_apply, addf_apply, prod_at m c u (y 0) (y 1) 0 (by simp; omega), prod_at m c t (y 0) (y 1) 1 (by simp; omega)]
  have e1 : u.val / 8 = t.val / 8 := by omega
  have e2 : u.val / 2 = t.val / 2 := by omega
  unfold cell
  simp only [e1, e2]
  rfl

/-- The result array. -/
theorem arr : (dats m 0 c).arrAt 2 cfg0.N = fun y : S5632x2048.Idx => cell (lhs m c) (rhs m c) (y 0) (y 1) := by
  have e : ∀ t : Fin cfg0.N, win0_2.index t = ![t.val / 8, t.val / 2 % 4] := (by decide +kernel : ∀ t : Fin grid0.N, win0_2.index t = ![t.val / 8, t.val / 2 % 4])
  refine (dats m 0 c).arrAt_eq_of_covers 2 _ (by decide +kernel) fun t hf y => ?_
  have ho : t.val % 2 = 1 := (flush0_2 t).mp hf
  blk_simp
  rw [after0_2]
  have h0 : ((win0_2.blk t).view.emb y 0).val = t.val / 8 * 1408 + (y 0).val := by blk_simp [e]
  have h1 : ((win0_2.blk t).view.emb y 1).val = t.val / 2 % 4 * 512 + (y 1).val := by blk_simp [e]
  refine (left m c t ⟨t.val - 1, Nat.lt_of_le_of_lt (Nat.sub_le _ _) t.isLt⟩ ho rfl y).trans ?_
  have c2 : ∀ (r r' : Fin 5632) (d d' : Fin 2048), r = r' → d = d' → cell (lhs m c) (rhs m c) r d = cell (lhs m c) (rhs m c) r' d' := by
    rintro _ _ _ _ rfl rfl; rfl
  exact (c2 _ _ _ _ (Fin.ext h0) (Fin.ext h1)).symm

/-- A sum over the tokens, half by half. -/
theorem sum_halves (f : Fin 8192 → EReal) : ∑ k, f k = (∑ k : Fin 4096, f ⟨(0 : Fin 2).val * 4096 + k.val, by simp; omega⟩) + ∑ k : Fin 4096, f ⟨(1 : Fin 2).val * 4096 + k.val, by simp; omega⟩ := by
  refine (Fin.sum_univ_add (a := 4096) (b := 4096) f).trans (congrArg₂ (· + ·) ?_ ?_) <;>
    (refine Finset.sum_congr rfl fun k _ => congrArg f (Fin.ext ?_); simp [add_comm])

/-- An entry of the reference. -/
theorem ref_apply (a : FVec Ideal S8192x5632 .bf16) (b : FVec Ideal S8192x2048 .bf16) (y : S5632x2048.Idx) : val_main_v6 (F := Ideal) a b y = cell a b (y 0) (y 1) := by
  refine (val_main_v5_apply (F := Ideal) a b y).trans ((val_main_v4_apply a b _).trans ((sum_halves _).trans ?_))
  have hp : ∀ k : Fin 8192, val_main_v3 (F := Ideal) b (lidx_main_v4 (idx_main_v5 y) k) * val_main_v1 (F := Ideal) a (ridx_main_v4 (idx_main_v5 y) k) = a (ix2 k (y 0)) * b (ix2 k (y 1)) := fun k => by
    rw [mul_comm]
    refine congrArg₂ (· * ·) (congrArg a ?_) (congrArg b ?_) <;> funext e <;> fin_cases e <;> rfl
  unfold cell seg
  exact congrArg₂ (· + ·) (Finset.sum_congr rfl fun k _ => hp _) (Finset.sum_congr rfl fun k _ => hp _)

end Cert.Kernel4Ideal.Dwd
end
-- ==== Proof.FfnUp.lean ====
/- The gate and up projections and the activation (`Kernel5`): the kernel, block by block, and the reference. -/
module
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Tactic
public import Idealize.ShloMosaic.Lib.VecWindow
public import Idealize.ShloMosaic.Lib.StableHlo.RunRead
@[expose] public section
set_option maxRecDepth 65536

noncomputable section

namespace Cert.Kernel5Ideal.Up
open Cert.Kernel5Ideal Cert.Kernel5Ideal.Gen Idealize.ShloMosaic Idealize.ShloMosaic.TcCoe
open Cert.Reference5Ideal.Read

theorem hz2 : (![0, 0] : Fin 2 → Nat) = fun _ => 0 := funext fun a => by fin_cases a <;> rfl

theorem hz3 : (![0, 0, 0] : Fin 3 → Nat) = fun _ => 0 := funext fun a => by fin_cases a <;> rfl

/-- The two products of a point. -/
theorem gate_apply (x : Vec Ideal S512x2048 .bf16) (w : Vec Ideal S1x2048x1408 .bf16) (r : Fin 512) (d : Fin 1408) :
    k0_pay1 x w (ix2 r d) = ∑ k : Fin 2048, x (ix2 r k) * w (ix3 0 k d) := by
  unfold k0_pay1
  pointwise

theorem up_apply (x : Vec Ideal S512x2048 .bf16) (w : Vec Ideal S1x2048x1408 .bf16) (r : Fin 512) (d : Fin 1408) :
    k0_pay2 x w (ix2 r d) = ∑ k : Fin 2048, x (ix2 r k) * w (ix3 0 k d) := by
  unfold k0_pay2
  pointwise

theorem gate_store (x : Vec Ideal S512x2048 .bf16) (w : Vec Ideal S1x2048x1408 .bf16) (y : S1x512x1408.Idx) :
    k0_pay3 x w y = k0_pay1 x w (ix2 (y 1) (y 2)) := by
  unfold k0_pay3
  generalize k0_pay1 x w = p
  pointwise

theorem up_store (x : Vec Ideal S512x2048 .bf16) (w : Vec Ideal S1x2048x1408 .bf16) (y : S1x512x1408.Idx) :
    k0_pay4 x w y = k0_pay2 x w (ix2 (y 1) (y 2)) := by
  unfold k0_pay4
  generalize k0_pay2 x w = p
  pointwise

theorem act_apply (x : Vec Ideal S512x2048 .bf16) (w v : Vec Ideal S1x2048x1408 .bf16) (r : Fin 512) (d : Fin 1408) :
    k0_pay5 x w v (ix2 r d) = k0_pay1 x w (ix2 r d) * Ideal.logistic (k0_pay1 x w (ix2 r d)) * k0_pay2 x v (ix2 r d) := by
  unfold k0_pay5
  generalize k0_pay1 x w = p
  generalize k0_pay2 x v = q
  pointwise

variable (m : (ℓ : Loc nD τ sig) → Buf (Elt Ideal) ℓ) (c : Dev nD)

/-- The rows and the weights. -/
abbrev rows : FVec Ideal S8192x2048 .bf16 := m (c, main_arg0)
abbrev wt : FVec Ideal S2048x11264 .f32 := m (c, main_arg1)

/-- The weights' four slabs. -/
theorem slabs (q : Fin 4) (d : Fin 2048) (k : Fin 2816) : (V m c main_v2 : FVec Ideal S4x2048x2816 .bf16) (ix3 q d k)
    = wt m c (ix2 d ⟨q.val * 2816 + k.val, by omega⟩) := by
  have e : V m c main_v2 = transpose S4x2048x2816 [1, 0, 2] (shapeCast S2048x4x2816 (truncf .bf16 (wt m c) bitsLt_bf16_f32)
      shapeCasts_S2048x11264_S2048x4x2816) transposes_S2048x4x2816_S4x2048x2816_1_0_2 := by
    dsimp only [V, List.flatten, hostOps0, List.append]
    after_reads_simp
    rfl
  rw [e]
  pointwise

theorem t_lt (t : Fin cfg0.N) : t.val < 64 := lt_of_lt_of_eq t.isLt N_0

theorem blk0 (t : Fin cfg0.N) (r : Fin 512) (k : Fin 2048) : (iblk m c 0 t : Vec Ideal S512x2048 .bf16) (ix2 r k)
    = rows m c (ix2 ⟨t.val / 4 * 512 + r.val, by have := t_lt t; omega⟩ k) := by
  have e : ∀ t : Fin cfg0.N, win0_0.index t = ![t.val / 4, 0] := (by decide +kernel : ∀ t : Fin grid0.N, win0_0.index t = ![t.val / 4, 0])
  have ht := t_lt t
  blk_ext [iblk, V_main_arg0, e]

theorem blk1 (t : Fin cfg0.N) (k : Fin 2048) (d : Fin 1408) : (iblk m c 1 t : Vec Ideal S1x2048x1408 .bf16) (ix3 0 k d)
    = (V m c main_v2 : FVec Ideal S4x2048x2816 .bf16) (ix3 ⟨t.val % 4 / 2, by omega⟩ k ⟨t.val % 2 * 1408 + d.val, by omega⟩) := by
  have e : ∀ t : Fin cfg0.N, win0_1.index t = ![t.val % 4 / 2, 0, t.val % 2] := (by decide +kernel : ∀ t : Fin grid0.N, win0_1.index t = ![t.val % 4 / 2, 0, t.val % 2])
  have ht := t_lt t
  blk_ext [iblk, e]

theorem blk2 (t : Fin cfg0.N) (k : Fin 2048) (d : Fin 1408) : (iblk m c 2 t : Vec Ideal S1x2048x1408 .bf16) (ix3 0 k d)
    = (V m c main_v2 : FVec Ideal S4x2048x2816 .bf16) (ix3 ⟨2 + t.val % 4 / 2, by omega⟩ k ⟨t.val % 2 * 1408 + d.val, by omega⟩) := by
  have e : ∀ t : Fin cfg0.N, win0_2.index t = ![2 + t.val % 4 / 2, 0, t.val % 2] := (by decide +kernel : ∀ t : Fin grid0.N, win0_2.index t = ![2 + t.val % 4 / 2, 0, t.val % 2])
  have ht := t_lt t
  blk_ext [iblk, e]

/-- An entry of the product of the rows and the weights. -/
def dot (a : FVec Ideal S8192x2048 .bf16) (w : FVec Ideal S2048x11264 .f32) (r : Fin 8192) (d : Fin 11264) : EReal :=
  ∑ k : Fin 2048, a (ix2 r k) * w (ix2 k d)

/-- An entry of the activations. -/
def cell (a : FVec Ideal S8192x2048 .bf16) (w : FVec Ideal S2048x11264 .f32) (r : Fin 8192) (d : Fin 5632) : EReal :=
  dot a w r ⟨d.val, by omega⟩ * Ideal.logistic (dot a w r ⟨d.val, by omega⟩) * dot a w r ⟨5632 + d.val, by omega⟩

/-- An entry of one of the two halves of the product. -/
def half (a : FVec Ideal S8192x2048 .bf16) (w : FVec Ideal S2048x11264 .f32) (h : Fin 2) (r : Fin 8192) (d : Fin 5632) : EReal :=
  dot a w r ⟨h.val * 5632 + d.val, by omega⟩

theorem gate_at (t : Fin cfg0.N) (r : Fin 512) (d : Fin 1408) : k0_pay1 (iblk m c 0 t) (iblk m c 1 t) (ix2 r d)
    = dot (rows m c) (wt m c) ⟨t.val / 4 * 512 + r.val, by have := t_lt t; omega⟩ ⟨t.val % 4 * 1408 + d.val, by omega⟩ := by
  rw [gate_apply]
  unfold dot
  refine Finset.sum_congr rfl fun k _ => ?_
  rw [blk0, blk1, slabs]
  refine congrArg₂ (· * ·) (congrArg _ ?_) (congrArg _ ?_) <;> funext a <;> fin_cases a <;>
    first | rfl | (apply Fin.ext; simp [ix2]; omega)

theorem up_at (t : Fin cfg0.N) (r : Fin 512) (d : Fin 1408) : k0_pay2 (iblk m c 0 t) (iblk m c 2 t) (ix2 r d)
    = dot (rows m c) (wt m c) ⟨t.val / 4 * 512 + r.val, by have := t_lt t; omega⟩ ⟨5632 + (t.val % 4 * 1408 + d.val), by omega⟩ := by
  rw [up_apply]
  unfold dot
  refine Finset.sum_congr rfl fun k _ => ?_
  rw [blk0, blk2, slabs]
  refine congrArg₂ (· * ·) (congrArg _ ?_) (congrArg _ ?_) <;> funext a <;> fin_cases a <;>
    first | rfl | (apply Fin.ext; simp [ix2]; omega)

theorem dot_congr (a : FVec Ideal S8192x2048 .bf16) (w : FVec Ideal S2048x11264 .f32) (r r' : Fin 8192) (d d' : Fin 11264) (hr : r = r') (hd : d = d') :
    dot a w r d = dot a w r' d' := by rw [hr, hd]

/-- The gate and the up projection of a point, one after the other. -/
theorem left3 (t : Fin cfg0.N) (y : S2x512x1408.Idx) : out0_3 (iblk m c 0 t) (iblk m c 1 t) (iblk m c 2 t) y
    = half (rows m c) (wt m c) (y 0) ⟨t.val / 4 * 512 + (y 1).val, by have := t_lt t; have : (y 1).val < 512 := (y 1).isLt; omega⟩
      ⟨t.val % 4 * 1408 + (y 2).val, by have : (y 2).val < 1408 := (y 2).isLt; omega⟩ := by
  have ht := t_lt t
  unfold out0_3
  refine View.canon_apply_of_pieces (Val := Elt Ideal) (e := .bf16) (fun y : S2x512x1408.Idx => half (rows m c) (wt m c) (y 0) ⟨t.val / 4 * 512 + (y 1).val, by have : (y 1).val < 512 := (y 1).isLt; omega⟩
      ⟨t.val % 4 * 1408 + (y 2).val, by have : (y 2).val < 1408 := (y 2).isLt; omega⟩) _ ?_ y (cover0_3 _ _ y)
  intro p hp x
  rcases List.mem_cons.mp hp with rfl | hp
  · have hx : (x 0).val < 1 := (x 0).isLt
    dsimp only
    rw [View.ld_unit_zero hz2, View.ld_unit_zero hz3]
    refine (up_store _ _ x).trans ((up_at m c t (x 1) (x 2)).trans (dot_congr _ _ _ _ _ _ (Fin.ext ?_) (Fin.ext ?_))) <;>
      simp [Rect.unit, Rect.emb]
  · rcases List.mem_cons.mp hp with rfl | hp
    · have hx : (x 0).val < 1 := (x 0).isLt
      dsimp only
      rw [View.ld_unit_zero hz2, View.ld_unit_zero hz3]
      refine (gate_store _ _ x).trans ((gate_at m c t (x 1) (x 2)).trans (dot_congr _ _ _ _ _ _ (Fin.ext ?_) (Fin.ext ?_))) <;>
        simp [Rect.unit, Rect.emb]
    · exact absurd hp List.not_mem_nil

theorem act_at (t : Fin cfg0.N) (r : Fin 512) (d : Fin 1408) : k0_pay5 (iblk m c 0 t) (iblk m c 1 t) (iblk m c 2 t) (ix2 r d)
    = cell (rows m c) (wt m c) ⟨t.val / 4 * 512 + r.val, by have := t_lt t; omega⟩ ⟨t.val % 4 * 1408 + d.val, by omega⟩ := by
  rw [act_apply, gate_at, up_at]
  rfl

theorem left4 (t : Fin cfg0.N) (y : S512x1408.Idx) : out0_4 (iblk m c 0 t) (iblk m c 1 t) (iblk m c 2 t) y
    = cell (rows m c) (wt m c) ⟨t.val / 4 * 512 + (y 0).val, by have := t_lt t; have : (y 0).val < 512 := (y 0).isLt; omega⟩
      ⟨t.val % 4 * 1408 + (y 1).val, by have : (y 1).val < 1408 := (y 1).isLt; omega⟩ := by
  unfold out0_4
  rw [View.canon_unit_zero hz2, View.ld_unit_zero hz2, View.ld_unit_zero hz3, View.ld_unit_zero hz3]
  have hy : y = ix2 (y 0) (y 1) := funext fun b => by fin_cases b <;> rfl
  exact (congrArg (k0_pay5 (iblk m c 0 t) (iblk m c 1 t) (iblk m c 2 t)) hy).trans (act_at m c t (y 0) (y 1))

/-- The result arrays: the two projections and the activations. -/
theorem arr3 : (dats m 0 c).arrAt 3 cfg0.N = fun y : S2x8192x5632.Idx => half (rows m c) (wt m c) (y 0) (y 1) (y 2) := by
  have e : ∀ t : Fin cfg0.N, win0_3.index t = ![0, t.val / 4, t.val % 4] := (by decide +kernel : ∀ t : Fin grid0.N, win0_3.index t = ![0, t.val / 4, t.val % 4])
  refine (dats m 0 c).arrAt_eq_of_covers 3 _ (by decide +kernel) fun t hf y => ?_
  blk_simp
  rw [after0_3]
  have h0 : ((win0_3.blk t).view.emb y 0).val = (y 0).val := by blk_simp [e]
  have h1 : ((win0_3.blk t).view.emb y 1).val = t.val / 4 * 512 + (y 1).val := by blk_simp [e]
  have h2 : ((win0_3.blk t).view.emb y 2).val = t.val % 4 * 1408 + (y 2).val := by blk_simp [e]
  refine (left3 m c t y).trans ?_
  have c2 : ∀ (h h' : Fin 2) (r r' : Fin 8192) (d d' : Fin 5632), h = h' → r = r' → d = d' → half (rows m c) (wt m c) h r d = half (rows m c) (wt m c) h' r' d' := by
    rintro _ _ _ _ _ _ rfl rfl rfl; rfl
  exact (c2 _ _ _ _ _ _ (Fin.ext h0) (Fin.ext h1) (Fin.ext h2)).symm

theorem arr4 : (dats m 0 c).arrAt 4 cfg0.N = fun y : S8192x5632.Idx => cell (rows m c) (wt m c) (y 0) (y 1) := by
  have e : ∀ t : Fin cfg0.N, win0_4.index t = ![t.val / 4, t.val % 4] := (by decide +kernel : ∀ t : Fin grid0.N, win0_4.index t = ![t.val / 4, t.val % 4])
  refine (dats m 0 c).arrAt_eq_of_covers 4 _ (by decide +kernel) fun t hf y => ?_
  blk_simp
  rw [after0_4]
  have h0 : ((win0_4.blk t).view.emb y 0).val = t.val / 4 * 512 + (y 0).val := by blk_simp [e]
  have h1 : ((win0_4.blk t).view.emb y 1).val = t.val % 4 * 1408 + (y 1).val := by blk_simp [e]
  refine (left4 m c t y).trans ?_
  have c2 : ∀ (r r' : Fin 8192) (d d' : Fin 5632), r = r' → d = d' → cell (rows m c) (wt m c) r d = cell (rows m c) (wt m c) r' d' := by
    rintro _ _ _ _ rfl rfl; rfl
  exact (c2 _ _ _ _ (Fin.ext h0) (Fin.ext h1)).symm

/-- An entry of the reference's product. -/
theorem ref_dot (a : FVec Ideal S8192x2048 .bf16) (w : FVec Ideal S2048x11264 .f32) (y : Cert.Reference5Ideal.S8192x11264.Idx) : val_main_v1 (F := Ideal) a w y = dot a w (y 0) (y 1) := by
  rw [val_main_v1_apply]
  unfold dot
  refine Finset.sum_congr rfl fun k _ => congrArg₂ (· * ·) (congrArg a ?_) (congrArg w ?_) <;> funext b <;> fin_cases b <;> rfl

/-- An entry of the reference's two halves. -/
theorem ref_halves (a : FVec Ideal S8192x2048 .bf16) (w : FVec Ideal S2048x11264 .f32) (h : Fin 2) (r : Fin 8192) (d : Fin 5632) :
    val_main_v7 (F := Ideal) a w (ix3 h r d) = half a w h r d := by
  have e : val_main_v7 (F := Ideal) a w (ix3 h r d) = val_main_v1 (F := Ideal) a w (ix2 r ⟨h.val * 5632 + d.val, by omega⟩) := by
    unfold val_main_v7 val_main_v6 val_main_v5 val_main_v4 val_main_v3 val_main_v2
    generalize val_main_v1 (F := Ideal) a w = p
    pointwise
    split <;> (refine congrArg p ?_; funext b; fin_cases b <;> first | rfl | (apply Fin.ext; simp [ix2]; omega))
  rw [e, ref_dot]
  rfl

theorem one : FloatOps.ofBits (F := Ideal) .f32 0x3F800000#32 = (1 : EReal) := by
  show Ideal.ofBits .f32 0x3F800000#32 = 1
  simp [Ideal.ofBits, Ideal.ieee, -EReal.coe_mul]
  norm_cast
  norm_num

/-- An entry of the reference's activations. -/
theorem ref_act (a : FVec Ideal S8192x2048 .bf16) (w : FVec Ideal S2048x11264 .f32) (y : S8192x5632.Idx) : val_main_v10 (F := Ideal) a w y = cell a w (y 0) (y 1) := by
  have e2 : val_main_v2 (F := Ideal) a w y = dot a w (y 0) ⟨(y 1).val, by have : (y 1).val < 5632 := (y 1).isLt; omega⟩ := by
    rw [val_main_v2_apply, ref_dot]
    refine dot_congr _ _ _ _ _ _ (Fin.ext ?_) (Fin.ext ?_) <;> simp
  have e3 : val_main_v3 (F := Ideal) a w y = dot a w (y 0) ⟨5632 + (y 1).val, by have : (y 1).val < 5632 := (y 1).isLt; omega⟩ := by
    rw [val_main_v3_apply, ref_dot]
    refine dot_congr _ _ _ _ _ _ (Fin.ext ?_) (Fin.ext ?_) <;> simp
  rw [val_main_v10_apply, val_main_v9_apply, val_main_v8_apply, val_main_call0_v5_apply, val_main_call0_v4_apply, val_main_call0_v3_apply,
    val_main_call0_v2_apply, val_main_call0_v1_apply, val_main_call0_v0_apply, val_main_call0_cst_0_apply, val_main_call0_cst_apply, one, e2, e3]
  rfl

end Cert.Kernel5Ideal.Up
end
-- ==== Proof.FfnDown.lean ====
/- The down projection and the residual (`Kernel6`): the kernel, block by block, and the reference. -/
module
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Tactic
public import Idealize.ShloMosaic.Lib.VecWindow
public import Idealize.ShloMosaic.Lib.StableHlo.RunRead
@[expose] public section
set_option maxRecDepth 65536

noncomputable section

namespace Cert.Kernel6Ideal.Down
open Cert.Kernel6Ideal Cert.Kernel6Ideal.Gen Idealize.ShloMosaic Idealize.ShloMosaic.TcCoe
open Cert.Reference6Ideal.Read

theorem hz2 : (![0, 0] : Fin 2 → Nat) = fun _ => 0 := funext fun a => by fin_cases a <;> rfl

/-- The product of a point. -/
theorem prod_apply (x : Vec Ideal S1024x5632 .bf16) (w : Vec Ideal S5632x512 .bf16) (r : Fin 1024) (d : Fin 512) :
    k0_pay1 x w (ix2 r d) = ∑ k : Fin 5632, x (ix2 r k) * w (ix2 k d) := by
  unfold k0_pay1
  pointwise

/-- The sum a point writes. -/
theorem sum_apply (x : Vec Ideal S1024x5632 .bf16) (w : Vec Ideal S5632x512 .bf16) (v : Vec Ideal S1024x512 .f32) (s : Vec Ideal S1x512 .f32)
    (r : Fin 1024) (d : Fin 512) : k0_pay2 x w v s (ix2 r d) = v (ix2 r d) + s (ix2 0 d) * k0_pay1 x w (ix2 r d) := by
  unfold k0_pay2
  generalize k0_pay1 x w = p
  pointwise

variable (m : (ℓ : Loc nD τ sig) → Buf (Elt Ideal) ℓ) (c : Dev nD)

/-- The activations, the weights, the residual and its coefficients. -/
abbrev act : FVec Ideal S8192x5632 .bf16 := m (c, main_arg0)
abbrev wt : FVec Ideal S5632x2048 .f32 := m (c, main_arg1)
abbrev res : FVec Ideal S8192x2048 .f32 := m (c, main_arg2)
abbrev coef : FVec Ideal S1x2048 .f32 := m (c, main_arg3)

theorem narrow (k : Fin 5632) (d : Fin 2048) : (V m c main_v0 : FVec Ideal S5632x2048 .bf16) (ix2 k d) = wt m c (ix2 k d) := by
  have e : V m c main_v0 = truncf .bf16 (wt m c) bitsLt_bf16_f32 := by
    dsimp only [V, List.flatten, hostOps0, List.append]
    after_reads_simp
  rw [e]
  pointwise

theorem t_lt (t : Fin cfg0.N) : t.val < 32 := lt_of_lt_of_eq t.isLt N_0

theorem blk0 (t : Fin cfg0.N) (r : Fin 1024) (k : Fin 5632) : (iblk m c 0 t : Vec Ideal S1024x5632 .bf16) (ix2 r k)
    = act m c (ix2 ⟨t.val / 4 * 1024 + r.val, by have := t_lt t; omega⟩ k) := by
  have e : ∀ t : Fin cfg0.N, win0_0.index t = ![t.val / 4, 0] := (by decide +kernel : ∀ t : Fin grid0.N, win0_0.index t = ![t.val / 4, 0])
  have ht := t_lt t
  blk_ext [iblk, V_main_arg0, e]

theorem blk1 (t : Fin cfg0.N) (k : Fin 5632) (d : Fin 512) : (iblk m c 1 t : Vec Ideal S5632x512 .bf16) (ix2 k d)
    = (V m c main_v0 : FVec Ideal S5632x2048 .bf16) (ix2 k ⟨t.val % 4 * 512 + d.val, by omega⟩) := by
  have e : ∀ t : Fin cfg0.N, win0_1.index t = ![0, t.val % 4] := (by decide +kernel : ∀ t : Fin grid0.N, win0_1.index t = ![0, t.val % 4])
  have ht := t_lt t
  blk_ext [iblk, e]

theorem blk2 (t : Fin cfg0.N) (r : Fin 1024) (d : Fin 512) : (iblk m c 2 t : Vec Ideal S1024x512 .f32) (ix2 r d)
    = res m c (ix2 ⟨t.val / 4 * 1024 + r.val, by have := t_lt t; omega⟩ ⟨t.val % 4 * 512 + d.val, by omega⟩) := by
  have e : ∀ t : Fin cfg0.N, win0_2.index t = ![t.val / 4, t.val % 4] := (by decide +kernel : ∀ t : Fin grid0.N, win0_2.index t = ![t.val / 4, t.val % 4])
  have ht := t_lt t
  blk_ext [iblk, V_main_arg2, e]

theorem blk3 (t : Fin cfg0.N) (d : Fin 512) : (iblk m c 3 t : Vec Ideal S1x512 .f32) (ix2 0 d)
    = coef m c (ix2 0 ⟨t.val % 4 * 512 + d.val, by omega⟩) := by
  have e : ∀ t : Fin cfg0.N, win0_3.index t = ![0, t.val % 4] := (by decide +kernel : ∀ t : Fin grid0.N, win0_3.index t = ![0, t.val % 4])
  have ht := t_lt t
  blk_ext [iblk, V_main_arg3, e]

/-- An entry of the product. -/
def cell (a : FVec Ideal S8192x5632 .bf16) (w : FVec Ideal S5632x2048 .f32) (r : Fin 8192) (d : Fin 2048) : EReal :=
  ∑ k : Fin 5632, a (ix2 r k) * w (ix2 k d)

/-- An entry of the sum. -/
def total (a : FVec Ideal S8192x5632 .bf16) (w : FVec Ideal S5632x2048 .f32) (x : FVec Ideal S8192x2048 .f32) (s : FVec Ideal S1x2048 .f32)
    (r : Fin 8192) (d : Fin 2048) : EReal :=
  x (ix2 r d) + s (ix2 0 d) * cell a w r d

theorem prod_at (t : Fin cfg0.N) (r : Fin 1024) (d : Fin 512) : k0_pay1 (iblk m c 0 t) (iblk m c 1 t) (ix2 r d)
    = cell (act m c) (wt m c) ⟨t.val / 4 * 1024 + r.val, by have := t_lt t; omega⟩ ⟨t.val % 4 * 512 + d.val, by omega⟩ := by
  rw [prod_apply]
  unfold cell
  refine Finset.sum_congr rfl fun k _ => ?_
  rw [blk0, blk1, narrow]

theorem sum_at (t : Fin cfg0.N) (r : Fin 1024) (d : Fin 512) : k0_pay2 (iblk m c 0 t) (iblk m c 1 t) (iblk m c 2 t) (iblk m c 3 t) (ix2 r d)
    = total (act m c) (wt m c) (res m c) (coef m c) ⟨t.val / 4 * 1024 + r.val, by have := t_lt t; omega⟩ ⟨t.val % 4 * 512 + d.val, by omega⟩ := by
  rw [sum_apply, prod_at, blk2, blk3]
  rfl

theorem left4 (t : Fin cfg0.N) (y : S1024x512.Idx) : out0_4 (iblk m c 0 t) (iblk m c 1 t) (iblk m c 2 t) (iblk m c 3 t) y
    = total (act m c) (wt m c) (res m c) (coef m c) ⟨t.val / 4 * 1024 + (y 0).val, by have := t_lt t; have : (y 0).val < 1024 := (y 0).isLt; omega⟩
      ⟨t.val % 4 * 512 + (y 1).val, by have : (y 1).val < 512 := (y 1).isLt; omega⟩ := by
  unfold out0_4
  rw [View.canon_unit_zero hz2, View.ld_unit_zero hz2, View.ld_unit_zero hz2, View.ld_unit_zero hz2, View.ld_unit_zero hz2]
  have hy : y = ix2 (y 0) (y 1) := funext fun b => by fin_cases b <;> rfl
  exact (congrArg (k0_pay2 (iblk m c 0 t) (iblk m c 1 t) (iblk m c 2 t) (iblk m c 3 t)) hy).trans (sum_at m c t (y 0) (y 1))

theorem left5 (t : Fin cfg0.N) (y : S1024x512.Idx) : out0_5 (iblk m c 0 t) (iblk m c 1 t) (iblk m c 2 t) (iblk m c 3 t) y
    = cell (act m c) (wt m c) ⟨t.val / 4 * 1024 + (y 0).val, by have := t_lt t; have : (y 0).val < 1024 := (y 0).isLt; omega⟩
      ⟨t.val % 4 * 512 + (y 1).val, by have : (y 1).val < 512 := (y 1).isLt; omega⟩ := by
  unfold out0_5
  rw [View.canon_unit_zero hz2, View.ld_unit_zero hz2, View.ld_unit_zero hz2]
  have hy : y = ix2 (y 0) (y 1) := funext fun b => by fin_cases b <;> rfl
  exact (congrArg (k0_pay1 (iblk m c 0 t) (iblk m c 1 t)) hy).trans (prod_at m c t (y 0) (y 1))

/-- The result arrays: the sum and the product. -/
theorem arr4 : (dats m 0 c).arrAt 4 cfg0.N = fun y : S8192x2048.Idx => total (act m c) (wt m c) (res m c) (coef m c) (y 0) (y 1) := by
  have e : ∀ t : Fin cfg0.N, win0_4.index t = ![t.val / 4, t.val % 4] := (by decide +kernel : ∀ t : Fin grid0.N, win0_4.index t = ![t.val / 4, t.val % 4])
  refine (dats m 0 c).arrAt_eq_of_covers 4 _ (by decide +kernel) fun t hf y => ?_
  blk_simp
  rw [after0_4]
  have h0 : ((win0_4.blk t).view.emb y 0).val = t.val / 4 * 1024 + (y 0).val := by blk_simp [e]
  have h1 : ((win0_4.blk t).view.emb y 1).val = t.val % 4 * 512 + (y 1).val := by blk_simp [e]
  refine (left4 m c t y).trans ?_
  have c2 : ∀ (r r' : Fin 8192) (d d' : Fin 2048), r = r' → d = d' → total (act m c) (wt m c) (res m c) (coef m c) r d = total (act m c) (wt m c) (res m c) (coef m c) r' d' := by
    rintro _ _ _ _ rfl rfl; rfl
  exact (c2 _ _ _ _ (Fin.ext h0) (Fin.ext h1)).symm

theorem arr5 : (dats m 0 c).arrAt 5 cfg0.N = fun y : S8192x2048.Idx => cell (act m c) (wt m c) (y 0) (y 1) := by
  have e : ∀ t : Fin cfg0.N, win0_5.index t = ![t.val / 4, t.val % 4] := (by decide +kernel : ∀ t : Fin grid0.N, win0_5.index t = ![t.val / 4, t.val % 4])
  refine (dats m 0 c).arrAt_eq_of_covers 5 _ (by decide +kernel) fun t hf y => ?_
  blk_simp
  rw [after0_5]
  have h0 : ((win0_5.blk t).view.emb y 0).val = t.val / 4 * 1024 + (y 0).val := by blk_simp [e]
  have h1 : ((win0_5.blk t).view.emb y 1).val = t.val % 4 * 512 + (y 1).val := by blk_simp [e]
  refine (left5 m c t y).trans ?_
  have c2 : ∀ (r r' : Fin 8192) (d d' : Fin 2048), r = r' → d = d' → cell (act m c) (wt m c) r d = cell (act m c) (wt m c) r' d' := by
    rintro _ _ _ _ rfl rfl; rfl
  exact (c2 _ _ _ _ (Fin.ext h0) (Fin.ext h1)).symm

/-- An entry of the reference's product. -/
theorem ref_prod (a : FVec Ideal S8192x5632 .bf16) (w : FVec Ideal S5632x2048 .f32) (y : S8192x2048.Idx) : val_main_v1 (F := Ideal) a w y = cell a w (y 0) (y 1) := by
  rw [val_main_v1_apply]
  unfold cell
  refine Finset.sum_congr rfl fun k _ => congrArg₂ (· * ·) (congrArg a ?_) (congrArg w ?_) <;> funext b <;> fin_cases b <;> rfl

/-- An entry of the reference's sum. -/
theorem ref_total (a : FVec Ideal S8192x5632 .bf16) (w : FVec Ideal S5632x2048 .f32) (x : FVec Ideal S8192x2048 .f32) (s : FVec Ideal S1x2048 .f32)
    (y : S8192x2048.Idx) : val_main_v4 (F := Ideal) a w x s y = total a w x s (y 0) (y 1) := by
  rw [val_main_v4_apply, val_main_v3_apply, val_main_v2_apply, ref_prod]
  unfold total
  refine congrArg₂ (· + ·) (congrArg x ?_) (congrArg (· * _) (congrArg s ?_)) <;> funext b <;> fin_cases b <;> rfl

end Cert.Kernel6Ideal.Down
end
-- ==== Proof.MixIn.lean ====
/- The input projection of the mixer (`Kernel7`): the kernel, block by block, and the reference. -/
module
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Tactic
public import Idealize.ShloMosaic.Lib.VecWindow
public import Idealize.ShloMosaic.Lib.StableHlo.RunRead
@[expose] public section
set_option maxRecDepth 65536

noncomputable section

namespace Cert.Kernel7Ideal.Min
open Cert.Kernel7Ideal Cert.Kernel7Ideal.Gen Idealize.ShloMosaic Idealize.ShloMosaic.TcCoe
open Cert.Reference7Ideal.Read

theorem hz2 : (![0, 0] : Fin 2 → Nat) = fun _ => 0 := funext fun a => by fin_cases a <;> rfl

/-- The product of a point. -/
theorem prod_apply (x : Vec Ideal S1024x2048 .bf16) (w : Vec Ideal S1280x2048 .bf16) (r : Fin 1024) (d : Fin 1280) :
    k0_pay1 x w (ix2 r d) = ∑ k : Fin 2048, x (ix2 r k) * w (ix2 d k) := by
  unfold k0_pay1
  pointwise

variable (m : (ℓ : Loc nD τ sig) → Buf (Elt Ideal) ℓ) (c : Dev nD)

/-- The rows and the weights. -/
abbrev rows : FVec Ideal S8192x2048 .bf16 := m (c, main_arg0)
abbrev wt : FVec Ideal S2048x6400 .f32 := m (c, main_arg1)

/-- The weights as the kernel reads them: transposed. -/
theorem turned (k : Fin 6400) (d : Fin 2048) : (V m c main_v1 : FVec Ideal S6400x2048 .bf16) (ix2 k d) = wt m c (ix2 d k) := by
  have e : V m c main_v1 = truncf .bf16 (transpose S6400x2048 [1, 0] (wt m c) transposes_S2048x6400_S6400x2048_1_0) bitsLt_bf16_f32 := by
    dsimp only [V, List.flatten, hostOps0, List.append]
    after_reads_simp
  rw [e]
  pointwise

theorem t_lt (t : Fin cfg0.N) : t.val < 40 := lt_of_lt_of_eq t.isLt N_0

theorem blk0 (t : Fin cfg0.N) (r : Fin 1024) (k : Fin 2048) : (iblk m c 0 t : Vec Ideal S1024x2048 .bf16) (ix2 r k)
    = rows m c (ix2 ⟨t.val / 5 * 1024 + r.val, by have := t_lt t; omega⟩ k) := by
  have e : ∀ t : Fin cfg0.N, win0_0.index t = ![t.val / 5, 0] := (by decide +kernel : ∀ t : Fin grid0.N, win0_0.index t = ![t.val / 5, 0])
  have ht := t_lt t
  blk_ext [iblk, V_main_arg0, e]

theorem blk1 (t : Fin cfg0.N) (d : Fin 1280) (k : Fin 2048) : (iblk m c 1 t : Vec Ideal S1280x2048 .bf16) (ix2 d k)
    = (V m c main_v1 : FVec Ideal S6400x2048 .bf16) (ix2 ⟨t.val % 5 * 1280 + d.val, by omega⟩ k) := by
  have e : ∀ t : Fin cfg0.N, win0_1.index t = ![t.val % 5, 0] := (by decide +kernel : ∀ t : Fin grid0.N, win0_1.index t = ![t.val % 5, 0])
  have ht := t_lt t
  blk_ext [iblk, e]

/-- An entry of the result. -/
def cell (a : FVec Ideal S8192x2048 .bf16) (w : FVec Ideal S2048x6400 .f32) (r : Fin 8192) (d : Fin 6400) : EReal :=
  ∑ k : Fin 2048, a (ix2 r k) * w (ix2 k d)

theorem prod_at (t : Fin cfg0.N) (r : Fin 1024) (d : Fin 1280) : k0_pay1 (iblk m c 0 t) (iblk m c 1 t) (ix2 r d)
    = cell (rows m c) (wt m c) ⟨t.val / 5 * 1024 + r.val, by have := t_lt t; omega⟩ ⟨t.val % 5 * 1280 + d.val, by omega⟩ := by
  rw [prod_apply]
  unfold cell
  refine Finset.sum_congr rfl fun k _ => ?_
  rw [blk0, blk1, turned]

theorem left (t : Fin cfg0.N) (y : S1024x1280.Idx) : out0_2 (iblk m c 0 t) (iblk m c 1 t) y
    = cell (rows m c) (wt m c) ⟨t.val / 5 * 1024 + (y 0).val, by have := t_lt t; have : (y 0).val < 1024 := (y 0).isLt; omega⟩
      ⟨t.val % 5 * 1280 + (y 1).val, by have : (y 1).val < 1280 := (y 1).isLt; omega⟩ := by
  unfold out0_2
  rw [View.canon_unit_zero hz2, View.ld_unit_zero hz2, View.ld_unit_zero hz2]
  have hy : y = ix2 (y 0) (y 1) := funext fun b => by fin_cases b <;> rfl
  exact (congrArg (k0_pay1 (iblk m c 0 t) (iblk m c 1 t)) hy).trans (prod_at m c t (y 0) (y 1))

/-- The result array. -/
theorem arr : (dats m 0 c).arrAt 2 cfg0.N = fun y : S8192x6400.Idx => cell (rows m c) (wt m c) (y 0) (y 1) := by
  have e : ∀ t : Fin cfg0.N, win0_2.index t = ![t.val / 5, t.val % 5] := (by decide +kernel : ∀ t : Fin grid0.N, win0_2.index t = ![t.val / 5, t.val % 5])
  refine (dats m 0 c).arrAt_eq_of_covers 2 _ (by decide +kernel) fun t hf y => ?_
  blk_simp
  rw [after0_2]
  have h0 : ((win0_2.blk t).view.emb y 0).val = t.val / 5 * 1024 + (y 0).val := by blk_simp [e]
  have h1 : ((win0_2.blk t).view.emb y 1).val = t.val % 5 * 1280 + (y 1).val := by blk_simp [e]
  refine (left m c t y).trans ?_
  have c2 : ∀ (r r' : Fin 8192) (d d' : Fin 6400), r = r' → d = d' → cell (rows m c) (wt m c) r d = cell (rows m c) (wt m c) r' d' := by
    rintro _ _ _ _ rfl rfl; rfl
  exact (c2 _ _ _ _ (Fin.ext h0) (Fin.ext h1)).symm

/-- An entry of the reference. -/
theorem ref_apply (a : FVec Ideal S8192x2048 .bf16) (w : FVec Ideal S2048x6400 .f32) (y : S8192x6400.Idx) : val_main_v1 (F := Ideal) a w y = cell a w (y 0) (y 1) := by
  rw [val_main_v1_apply]
  unfold cell
  refine Finset.sum_congr rfl fun k _ => congrArg₂ (· * ·) (congrArg a ?_) (congrArg w ?_) <;> funext b <;> fin_cases b <;> rfl

end Cert.Kernel7Ideal.Min
end
-- ==== Proof.MixDw.lean ====
/- The gradient of the weights of the mixer's input projection (`Kernel8`): the kernel, block by block, and the reference. -/
module
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Tactic
public import Idealize.ShloMosaic.Lib.VecWindow
public import Idealize.ShloMosaic.Lib.StableHlo.RunRead
@[expose] public section
set_option maxRecDepth 65536

noncomputable section

namespace Cert.Kernel8Ideal.Mdw
open Cert.Kernel8Ideal Cert.Kernel8Ideal.Gen Idealize.ShloMosaic Idealize.ShloMosaic.TcCoe
open Cert.Reference8Ideal.Read

theorem hz2 : (![0, 0] : Fin 2 → Nat) = fun _ => 0 := funext fun a => by fin_cases a <;> rfl

/-- The product of a point, over its half of the tokens. -/
theorem prod_apply (x : Vec Ideal S4096x1280 .bf16) (w : Vec Ideal S4096x512 .bf16) (r : Fin 1280) (d : Fin 512) :
    k0_pay1 x w (ix2 r d) = ∑ k : Fin 4096, x (ix2 k r) * w (ix2 k d) := by
  unfold k0_pay1
  pointwise

/-- A finished block is written back in the narrower type. -/
theorem round_apply (s : Vec Ideal S1280x512 .f32) (y : S1280x512.Idx) : k0_pay4 s y = s (ix2 (y 0) (y 1)) := by
  unfold k0_pay4
  pointwise

section
variable (c : Dev nD) (i : grid0.Coords) (a3 : Memref sig .tc .vmem S4096x1280 .bf16) (h3 : a3.IsWhole)
  (a4 : Memref sig .tc .vmem S4096x512 .bf16) (h4 : a4.IsWhole) (a5 : Memref sig .tc .vmem S1280x512 .bf16) (h5 : a5.IsWhole)
  (a6 : Memref sig .tc .vmem S1280x512 .f32) (h6 : a6.IsWhole)
  (x : Vec Ideal S4096x1280 .bf16) (w : Vec Ideal S4096x512 .bf16)

/-- The first point of a pair keeps its product. -/
theorem kept (e0 : cond0_0 i) (e1 : ¬cond0_1 i) (e2 : ¬cond0_2 i) : sout0_A_0 (F := Ideal) c i a3 h3 a4 h4 a5 h5 a6 h6 e0 e1 e2 x w = k0_pay1 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  simp only [View.readAt_eq_ld]
  rw [h3.read_unread x]
  rw [h4.read_unread w]
  unfold k0_pay2
  dsimp only
  rw [shapeCast_self, View.ld_unit_zero hz2, View.ld_unit_zero hz2]

/-- The second point writes what was kept and its own product. -/
theorem written (e0 : ¬cond0_0 i) (e1 : cond0_1 i) (e2 : cond0_2 i) (s : Vec Ideal S1280x512 .f32) :
    out0_B_2 (F := Ideal) c i a3 h3 a4 h4 a5 h5 a6 h6 e0 e1 e2 x w s = k0_pay4 (addf s (k0_pay1 x w)) := by
  unfold out0_B_2
  rw [View.read_writes_eq_canon _ _ _ (cover0_B_2 c i a3 h3 a4 h4 a5 h5 a6 h6 e0 e1 e2 x w s)]
  unfold kernelRun0_B
  dsimp only
  sl_unfold_words
  rw [View.canon_unit_zero hz2]
  rw [View.readCov_full]
  simp only [View.readAt_eq_ld]
  rw [h3.read_unread x]
  rw [h4.read_unread w]
  rw [h6.read_unread s]
  unfold k0_pay3
  dsimp only
  rw [shapeCast_self, View.ld_unit_zero hz2, View.ld_unit_zero hz2, View.ld_unit_zero hz2]
end

variable (m : (ℓ : Loc nD τ sig) → Buf (Elt Ideal) ℓ) (c : Dev nD)

/-- The two arguments. -/
abbrev lhs : FVec Ideal S8192x6400 .bf16 := m (c, main_arg0)
abbrev rhs : FVec Ideal S8192x2048 .bf16 := m (c, main_arg1)

theorem t_lt (t : Fin cfg0.N) : t.val < 40 := lt_of_lt_of_eq t.isLt N_0

theorem blk0 (t : Fin cfg0.N) (k : Fin 4096) (r : Fin 1280) : (iblk m c 0 t : Vec Ideal S4096x1280 .bf16) (ix2 k r)
    = lhs m c (ix2 ⟨t.val % 2 * 4096 + k.val, by omega⟩ ⟨t.val / 8 * 1280 + r.val, by have := t_lt t; omega⟩) := by
  have e : ∀ t : Fin cfg0.N, win0_0.index t = ![t.val % 2, t.val / 8] := (by decide +kernel : ∀ t : Fin grid0.N, win0_0.index t = ![t.val % 2, t.val / 8])
  have ht := t_lt t
  blk_ext [iblk, V_main_arg0, e]

theorem blk1 (t : Fin cfg0.N) (k : Fin 4096) (d : Fin 512) : (iblk m c 1 t : Vec Ideal S4096x512 .bf16) (ix2 k d)
    = rhs m c (ix2 ⟨t.val % 2 * 4096 + k.val, by omega⟩ ⟨t.val / 2 % 4 * 512 + d.val, by omega⟩) := by
  have e : ∀ t : Fin cfg0.N, win0_1.index t = ![t.val % 2, t.val / 2 % 4] := (by decide +kernel : ∀ t : Fin grid0.N, win0_1.index t = ![t.val % 2, t.val / 2 % 4])
  have ht := t_lt t
  blk_ext [iblk, V_main_arg1, e]

/-- Half an entry of the result: the sum over the first or the second half of the tokens. -/
def seg (a : FVec Ideal S8192x6400 .bf16) (b : FVec Ideal S8192x2048 .bf16) (r : Fin 6400) (d : Fin 2048) (h : Fin 2) : EReal :=
  ∑ k : Fin 4096, a (ix2 ⟨h.val * 4096 + k.val, by omega⟩ r) * b (ix2 ⟨h.val * 4096 + k.val, by omega⟩ d)

/-- An entry of the result. -/
def cell (a : FVec Ideal S8192x6400 .bf16) (b : FVec Ideal S8192x2048 .bf16) (r : Fin 6400) (d : Fin 2048) : EReal :=
  seg a b r d 0 + seg a b r d 1

theorem prod_at (t : Fin cfg0.N) (r : Fin 1280) (d : Fin 512) (h : Fin 2) (hh : h.val = t.val % 2) :
    k0_pay1 (iblk m c 0 t) (iblk m c 1 t) (ix2 r d)
      = seg (lhs m c) (rhs m c) ⟨t.val / 8 * 1280 + r.val, by have := t_lt t; omega⟩ ⟨t.val / 2 % 4 * 512 + d.val, by omega⟩ h := by
  rw [prod_apply]
  unfold seg
  refine Finset.sum_congr rfl fun k _ => ?_
  rw [blk0, blk1]
  refine congrArg₂ (· * ·) (congrArg _ ?_) (congrArg _ ?_) <;> funext a <;> fin_cases a <;>
    first | rfl | (apply Fin.ext; simp [ix2]; omega)

theorem scratch (u : Fin cfg0.N) (h0 : u.val % 2 = 0) (h1 : ¬u.val % 2 = 1) : (outsAt0 m c u.val u.isLt).2 = k0_pay1 (iblk m c 0 u) (iblk m c 1 u) := by
  have e := congrArg (fun p => p.2) (outsAt0_A m c u h0 h1 h1)
  dsimp only at e
  rw [e]
  exact kept c (grid0.coords u) (ms0_0 u) (hs0_0 u) (ms0_1 u) (hs0_1 u) (ms0_2 u) (hs0_2 u) scM0_0 (Memref.isWhole_whole _) (iblk m c 0 u) (iblk m c 1 u) _ _ _

theorem left_sum (t : Fin cfg0.N) (h0 : ¬t.val % 2 = 0) (h1 : t.val % 2 = 1) : (outsAt0 m c t.val t.isLt).1
    = k0_pay4 (addf (outsAt0 m c (t.val - 1) (Nat.lt_of_le_of_lt (Nat.sub_le _ _) t.isLt)).2 (k0_pay1 (iblk m c 0 t) (iblk m c 1 t))) := by
  have e := congrArg (fun p => p.1) (outsAt0_B m c t h0 h1 h1)
  dsimp only at e
  rw [e]
  exact written c (grid0.coords t) (ms0_0 t) (hs0_0 t) (ms0_1 t) (hs0_1 t) (ms0_2 t) (hs0_2 t) scM0_0 (Memref.isWhole_whole _) (iblk m c 0 t) (iblk m c 1 t) _ _ _ _

theorem left (t u : Fin cfg0.N) (ho : t.val % 2 = 1) (hu : u.val = t.val - 1) (y : S1280x512.Idx) : (outsAt0 m c t.val t.isLt).1 y
    = cell (lhs m c) (rhs m c) ⟨t.val / 8 * 1280 + (y 0).val, by have := t_lt t; have : (y 0).val < 1280 := (y 0).isLt; omega⟩
      ⟨t.val / 2 % 4 * 512 + (y 1).val, by have : (y 1).val < 512 := (y 1).isLt; omega⟩ := by
  have ht := t_lt t
  have hs : (outsAt0 m c (t.val - 1) (Nat.lt_of_le_of_lt (Nat.sub_le _ _) t.isLt)).2 = k0_pay1 (iblk m c 0 u) (iblk m c 1 u) := by
    rw [← scratch m c u (by omega) (by omega)]
    congr 2
    exact hu.symm
  rw [left_sum m c t (by omega) ho, hs, round_apply, addf_apply, prod_at m c u (y 0) (y 1) 0 (by simp; omega), prod_at m c t (y 0) (y 1) 1 (by simp; omega)]
  have e1 : u.val / 8 = t.val / 8 := by omega
  have e2 : u.val / 2 = t.val / 2 := by omega
  unfold cell
  simp only [e1, e2]
  rfl

/-- The result array. -/
theorem arr : (dats m 0 c).arrAt 2 cfg0.N = fun y : S6400x2048.Idx => cell (lhs m c) (rhs m c) (y 0) (y 1) := by
  have e : ∀ t : Fin cfg0.N, win0_2.index t = ![t.val / 8, t.val / 2 % 4] := (by decide +kernel : ∀ t : Fin grid0.N, win0_2.index t = ![t.val / 8, t.val / 2 % 4])
  refine (dats m 0 c).arrAt_eq_of_covers 2 _ (by decide +kernel) fun t hf y => ?_
  have ho : t.val % 2 = 1 := (flush0_2 t).mp hf
  blk_simp
  rw [after0_2]
  have h0 : ((win0_2.blk t).view.emb y 0).val = t.val / 8 * 1280 + (y 0).val := by blk_simp [e]
  have h1 : ((win0_2.blk t).view.emb y 1).val = t.val / 2 % 4 * 512 + (y 1).val := by blk_simp [e]
  refine (left m c t ⟨t.val - 1, Nat.lt_of_le_of_lt (Nat.sub_le _ _) t.isLt⟩ ho rfl y).trans ?_
  have c2 : ∀ (r r' : Fin 6400) (d d' : Fin 2048), r = r' → d = d' → cell (lhs m c) (rhs m c) r d = cell (lhs m c) (rhs m c) r' d' := by
    rintro _ _ _ _ rfl rfl; rfl
  exact (c2 _ _ _ _ (Fin.ext h0) (Fin.ext h1)).symm

/-- A sum over the tokens, half by half. -/
theorem sum_halves (f : Fin 8192 → EReal) : ∑ k, f k = (∑ k : Fin 4096, f ⟨(0 : Fin 2).val * 4096 + k.val, by simp; omega⟩) + ∑ k : Fin 4096, f ⟨(1 : Fin 2).val * 4096 + k.val, by simp; omega⟩ := by
  refine (Fin.sum_univ_add (a := 4096) (b := 4096) f).trans (congrArg₂ (· + ·) ?_ ?_) <;>
    (refine Finset.sum_congr rfl fun k _ => congrArg f (Fin.ext ?_); simp [add_comm])

/-- An entry of the reference. -/
theorem ref_apply (a : FVec Ideal S8192x6400 .bf16) (b : FVec Ideal S8192x2048 .bf16) (y : S6400x2048.Idx) : val_main_v7 (F := Ideal) a b y = cell a b (y 0) (y 1) := by
  refine (val_main_v6_apply (F := Ideal) a b y).trans ((val_main_v5_apply (F := Ideal) a b _).trans ((val_main_v4_apply a b _).trans ((sum_halves _).trans ?_)))
  have hp : ∀ k : Fin 8192, val_main_v3 (F := Ideal) a (lidx_main_v4 (idx_main_v5 (idx_main_v6 y)) k) * val_main_v1 (F := Ideal) b (ridx_main_v4 (idx_main_v5 (idx_main_v6 y)) k) = a (ix2 k (y 0)) * b (ix2 k (y 1)) := fun k => by
    refine congrArg₂ (· * ·) (congrArg a ?_) (congrArg b ?_) <;> funext e <;> fin_cases e <;> rfl
  unfold cell seg
  exact congrArg₂ (· + ·) (Finset.sum_congr rfl fun k _ => hp _) (Finset.sum_congr rfl fun k _ => hp _)

end Cert.Kernel8Ideal.Mdw
end
-- ==== Proof.MixDh.lean ====
/- The gradient of the rows at the mixer's input projection (`Kernel9`): the kernel, block by block, and the reference. -/
module
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Tactic
public import Idealize.ShloMosaic.Lib.VecWindow
public import Idealize.ShloMosaic.Lib.StableHlo.RunRead
@[expose] public section
set_option maxRecDepth 65536

noncomputable section

namespace Cert.Kernel9Ideal.Mdh
open Cert.Kernel9Ideal Cert.Kernel9Ideal.Gen Idealize.ShloMosaic Idealize.ShloMosaic.TcCoe
open Cert.Reference9Ideal.Read

theorem hz2 : (![0, 0] : Fin 2 → Nat) = fun _ => 0 := funext fun a => by fin_cases a <;> rfl

/-- The product of a point. -/
theorem prod_apply (x : Vec Ideal S1024x6400 .bf16) (w : Vec Ideal S6400x512 .bf16) (r : Fin 1024) (d : Fin 512) :
    k0_pay1 x w (ix2 r d) = ∑ k : Fin 6400, x (ix2 r k) * w (ix2 k d) := by
  unfold k0_pay1
  pointwise

variable (m : (ℓ : Loc nD τ sig) → Buf (Elt Ideal) ℓ) (c : Dev nD)

/-- The rows and the weights. -/
abbrev rows : FVec Ideal S8192x6400 .bf16 := m (c, main_arg0)
abbrev wt : FVec Ideal S2048x6400 .f32 := m (c, main_arg1)

/-- The weights as the kernel reads them: transposed. -/
theorem turned (k : Fin 6400) (d : Fin 2048) : (V m c main_v1 : FVec Ideal S6400x2048 .bf16) (ix2 k d) = wt m c (ix2 d k) := by
  have e : V m c main_v1 = truncf .bf16 (transpose S6400x2048 [1, 0] (wt m c) transposes_S2048x6400_S6400x2048_1_0) bitsLt_bf16_f32 := by
    dsimp only [V, List.flatten, hostOps0, List.append]
    after_reads_simp
  rw [e]
  pointwise

theorem t_lt (t : Fin cfg0.N) : t.val < 32 := lt_of_lt_of_eq t.isLt N_0

theorem blk0 (t : Fin cfg0.N) (r : Fin 1024) (k : Fin 6400) : (iblk m c 0 t : Vec Ideal S1024x6400 .bf16) (ix2 r k)
    = rows m c (ix2 ⟨t.val / 4 * 1024 + r.val, by have := t_lt t; omega⟩ k) := by
  have e : ∀ t : Fin cfg0.N, win0_0.index t = ![t.val / 4, 0] := (by decide +kernel : ∀ t : Fin grid0.N, win0_0.index t = ![t.val / 4, 0])
  have ht := t_lt t
  blk_ext [iblk, V_main_arg0, e]

theorem blk1 (t : Fin cfg0.N) (k : Fin 6400) (d : Fin 512) : (iblk m c 1 t : Vec Ideal S6400x512 .bf16) (ix2 k d)
    = (V m c main_v1 : FVec Ideal S6400x2048 .bf16) (ix2 k ⟨t.val % 4 * 512 + d.val, by omega⟩) := by
  have e : ∀ t : Fin cfg0.N, win0_1.index t = ![0, t.val % 4] := (by decide +kernel : ∀ t : Fin grid0.N, win0_1.index t = ![0, t.val % 4])
  have ht := t_lt t
  blk_ext [iblk, e]

/-- An entry of the result. -/
def cell (a : FVec Ideal S8192x6400 .bf16) (w : FVec Ideal S2048x6400 .f32) (r : Fin 8192) (d : Fin 2048) : EReal :=
  ∑ k : Fin 6400, a (ix2 r k) * w (ix2 d k)

theorem prod_at (t : Fin cfg0.N) (r : Fin 1024) (d : Fin 512) : k0_pay1 (iblk m c 0 t) (iblk m c 1 t) (ix2 r d)
    = cell (rows m c) (wt m c) ⟨t.val / 4 * 1024 + r.val, by have := t_lt t; omega⟩ ⟨t.val % 4 * 512 + d.val, by omega⟩ := by
  rw [prod_apply]
  unfold cell
  refine Finset.sum_congr rfl fun k _ => ?_
  rw [blk0, blk1, turned]

theorem left (t : Fin cfg0.N) (y : S1024x512.Idx) : out0_2 (iblk m c 0 t) (iblk m c 1 t) y
    = cell (rows m c) (wt m c) ⟨t.val / 4 * 1024 + (y 0).val, by have := t_lt t; have : (y 0).val < 1024 := (y 0).isLt; omega⟩
      ⟨t.val % 4 * 512 + (y 1).val, by have : (y 1).val < 512 := (y 1).isLt; omega⟩ := by
  unfold out0_2
  rw [View.canon_unit_zero hz2, View.ld_unit_zero hz2, View.ld_unit_zero hz2]
  have hy : y = ix2 (y 0) (y 1) := funext fun b => by fin_cases b <;> rfl
  exact (congrArg (k0_pay1 (iblk m c 0 t) (iblk m c 1 t)) hy).trans (prod_at m c t (y 0) (y 1))

/-- The result array. -/
theorem arr : (dats m 0 c).arrAt 2 cfg0.N = fun y : S8192x2048.Idx => cell (rows m c) (wt m c) (y 0) (y 1) := by
  have e : ∀ t : Fin cfg0.N, win0_2.index t = ![t.val / 4, t.val % 4] := (by decide +kernel : ∀ t : Fin grid0.N, win0_2.index t = ![t.val / 4, t.val % 4])
  refine (dats m 0 c).arrAt_eq_of_covers 2 _ (by decide +kernel) fun t hf y => ?_
  blk_simp
  rw [after0_2]
  have h0 : ((win0_2.blk t).view.emb y 0).val = t.val / 4 * 1024 + (y 0).val := by blk_simp [e]
  have h1 : ((win0_2.blk t).view.emb y 1).val = t.val % 4 * 512 + (y 1).val := by blk_simp [e]
  refine (left m c t y).trans ?_
  have c2 : ∀ (r r' : Fin 8192) (d d' : Fin 2048), r = r' → d = d' → cell (rows m c) (wt m c) r d = cell (rows m c) (wt m c) r' d' := by
    rintro _ _ _ _ rfl rfl; rfl
  exact (c2 _ _ _ _ (Fin.ext h0) (Fin.ext h1)).symm

/-- An entry of the reference. -/
theorem ref_apply (a : FVec Ideal S8192x6400 .bf16) (w : FVec Ideal S2048x6400 .f32) (y : S8192x2048.Idx) : val_main_v3 (F := Ideal) a w y = cell a w (y 0) (y 1) := by
  rw [val_main_v3_apply]
  unfold cell
  refine Finset.sum_congr rfl fun k _ => congrArg₂ (· * ·) (congrArg a ?_) (congrArg w ?_) <;> funext b <;> fin_cases b <;> rfl

end Cert.Kernel9Ideal.Mdh
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.ReferenceIdeal.Read
public import proofs.«01_k».proof.Proof.Agree
public import proofs.«01_k».proof.Proof.RefRun
public import proofs.«01_k».proof.Proof.Gen.Kernel2
public import proofs.«01_k».proof.Proof.Gen.Kernel2.Frame
public import proofs.«01_k».proof.Proof.Gen.Reference2Ideal
public import proofs.«01_k».proof.Proof.Gen.Kernel3
public import proofs.«01_k».proof.Proof.Gen.Kernel3.Frame
public import proofs.«01_k».proof.Proof.Gen.Reference3Ideal
public import proofs.«01_k».proof.Proof.FfnDwRef
public import proofs.«01_k».proof.Proof.FfnDhRef
public import Idealize.ShloMosaic.Adequacy
public import Idealize.ShloMosaic.Init
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.FfnDwd
public import proofs.«01_k».proof.Proof.FfnUp
public import proofs.«01_k».proof.Proof.FfnDown
public import proofs.«01_k».proof.Proof.MixIn
public import proofs.«01_k».proof.Proof.MixDw
public import proofs.«01_k».proof.Proof.MixDh

@[expose] public section

set_option maxRecDepth 16384

noncomputable section

namespace Cert.Proof

open Idealize.ShloMosaic Idealize.SL.Sem Cert.Kernel

/-- The frame of the reference: its run leaves the arguments unchanged, and it declares no semaphore. -/
theorem frame_r : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- From arguments that agree and satisfy the precondition both programs run, to the same eight results. -/
theorem same : Cert.algebraic_KernelIdeal_ReferenceIdeal_pre_finite := by
  intro m g m' g' hp ha
  have hB : ∀ c n, (Cert.KernelIdeal.Att.refM m c n).Real := fun c n => Cert.KernelIdeal.Att.refM_real m c (hp c) n
  refine ⟨_, _, _, _, _, _, _, _, Cert.KernelIdeal.Value.run_blocks (F := Ideal) m g, ?_⟩
  refine (θ_run Cert.ReferenceIdeal.defs _ _).mono (fun r h c => ?_) (Cert.ReferenceIdeal.Att.run_stages m' g')
  obtain ⟨a0, a1, a2, a3, a4, a5⟩ := ha c
  obtain ⟨h0, h1, h2, h3, h4, h5, h6, h7, ht⟩ := h c
  rw [a0, a1, a2, a3, a4, a5] at h0 h1 h2 h3 h4 h5 h6 h7
  exact ⟨h0.trans (Cert.KernelIdeal.Att.same_dq m c (hB c)),
    h1.trans (Cert.KernelIdeal.Att.same_dkp m c (hB c)),
    h2.trans (Cert.KernelIdeal.Att.same_dkc m c (hB c)),
    h3.trans (Cert.KernelIdeal.Att.same_dvp m c (hB c)),
    h4.trans (Cert.KernelIdeal.Att.same_dvc m c (hB c)),
    h5.trans (Cert.KernelIdeal.Att.same_dl m c (hB c)),
    h6.trans (Cert.KernelIdeal.Att.same_dsink m c (hB c)),
    h7.trans (Cert.KernelIdeal.Att.same_dgain m c (hB c)), ht⟩

/-- The frames of the two references of the feed-forward gradients. -/
theorem frame_r2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_r3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The gradient of the weights of the gate and up projections. -/
theorem same2 : Cert.algebraic_Kernel2Ideal_Reference2Ideal := by
  intro m g m' g' _ ha
  refine ⟨_, Cert.Kernel2Ideal.Value.run_blocks (F := Ideal) m g, ?_⟩
  refine (θ_run Cert.Reference2Ideal.defs _ _).mono (fun r h c => ?_) (Cert.Reference2Ideal.Value.run (F := Ideal) m' g')
  obtain ⟨a0, a1⟩ := ha c
  refine ⟨((h c).1.trans ?_).trans (Cert.Kernel2Ideal.Dw.arr m c).symm, (h c).2⟩
  rw [a0, a1]
  exact (Cert.Reference2Ideal.Read.val_main_v13_eq _ _).trans (funext fun y => Cert.Kernel2Ideal.Dw.ref_apply _ _ y)

/-- The gradient of the input of the gate and up projections. -/
theorem same3 : Cert.algebraic_Kernel3Ideal_Reference3Ideal := by
  intro m g m' g' _ ha
  refine ⟨_, Cert.Kernel3Ideal.Value.run_blocks (F := Ideal) m g, ?_⟩
  refine (θ_run Cert.Reference3Ideal.defs _ _).mono (fun r h c => ?_) (Cert.Reference3Ideal.Value.run (F := Ideal) m' g')
  obtain ⟨a0, a1⟩ := ha c
  refine ⟨((h c).1.trans ?_).trans (Cert.Kernel3Ideal.Dh.arr m c).symm, (h c).2⟩
  rw [a0, a1]
  exact (Cert.Reference3Ideal.Read.val_main_v10_eq _ _).trans (funext fun y => Cert.Kernel3Ideal.Dh.ref_apply _ _ y)

/-- The frames of the references of the other products. -/
theorem frame_r4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem frame_r5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)
theorem frame_r6 : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)
theorem frame_r7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem frame_r8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)
theorem frame_r9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The gradient of the weights of the down projection. -/
theorem same4 : Cert.algebraic_Kernel4Ideal_Reference4Ideal := by
  intro m g m' g' _ ha
  refine ⟨_, Cert.Kernel4Ideal.Value.run_blocks (F := Ideal) m g, ?_⟩
  refine (θ_run Cert.Reference4Ideal.defs _ _).mono (fun r h c => ?_) (Cert.Reference4Ideal.Value.run (F := Ideal) m' g')
  obtain ⟨a0, a1⟩ := ha c
  refine ⟨((h c).1.trans ?_).trans (Cert.Kernel4Ideal.Dwd.arr m c).symm, (h c).2⟩
  rw [a0, a1]
  exact (Cert.Reference4Ideal.Read.val_main_v6_eq _ _).trans (funext fun y => Cert.Kernel4Ideal.Dwd.ref_apply _ _ y)

/-- The gate and up projections and the activation. -/
theorem same5 : Cert.algebraic_Kernel5Ideal_Reference5Ideal := by
  intro m g m' g' _ ha
  refine ⟨_, _, Cert.Kernel5Ideal.Value.run_blocks (F := Ideal) m g, ?_⟩
  refine (θ_run Cert.Reference5Ideal.defs _ _).mono (fun r h c => ?_) (Cert.Reference5Ideal.Value.run (F := Ideal) m' g')
  obtain ⟨a0, a1⟩ := ha c
  refine ⟨((h c).1.trans ?_).trans (Cert.Kernel5Ideal.Up.arr3 m c).symm, ((h c).2.1.trans ?_).trans (Cert.Kernel5Ideal.Up.arr4 m c).symm, (h c).2.2⟩
  · rw [a0, a1]
    exact (Cert.Reference5Ideal.Read.val_main_v7_eq _ _).trans (funext fun y => by
      have hy : y = ValueIdx.ix3 (y 0) (y 1) (y 2) := funext fun b => by fin_cases b <;> rfl
      exact (congrArg (Cert.Reference5Ideal.Read.val_main_v7 (F := Ideal) _ _) hy).trans (Cert.Kernel5Ideal.Up.ref_halves _ _ (y 0) (y 1) (y 2)))
  · rw [a0, a1]
    exact (Cert.Reference5Ideal.Read.val_main_v10_eq _ _).trans (funext fun y => Cert.Kernel5Ideal.Up.ref_act _ _ y)

/-- The down projection, and its sum with the residual. -/
theorem same6 : Cert.algebraic_Kernel6Ideal_Reference6Ideal := by
  intro m g m' g' _ ha
  refine ⟨_, _, Cert.Kernel6Ideal.Value.run_blocks (F := Ideal) m g, ?_⟩
  refine (θ_run Cert.Reference6Ideal.defs _ _).mono (fun r h c => ?_) (Cert.Reference6Ideal.Value.run (F := Ideal) m' g')
  obtain ⟨a0, a1, a2, a3⟩ := ha c
  refine ⟨((h c).1.trans ?_).trans (Cert.Kernel6Ideal.Down.arr4 m c).symm, ((h c).2.1.trans ?_).trans (Cert.Kernel6Ideal.Down.arr5 m c).symm, (h c).2.2⟩
  · rw [a0, a1, a2, a3]
    exact (Cert.Reference6Ideal.Read.val_main_v4_eq _ _ _ _).trans (funext fun y => Cert.Kernel6Ideal.Down.ref_total _ _ _ _ y)
  · rw [a0, a1]
    exact (Cert.Reference6Ideal.Read.val_main_v5_eq _ _).trans (funext fun y => Cert.Kernel6Ideal.Down.ref_prod _ _ y)

/-- The projection into queries, keys, values and gates. -/
theorem same7 : Cert.algebraic_Kernel7Ideal_Reference7Ideal := by
  intro m g m' g' _ ha
  refine ⟨_, Cert.Kernel7Ideal.Value.run_blocks (F := Ideal) m g, ?_⟩
  refine (θ_run Cert.Reference7Ideal.defs _ _).mono (fun r h c => ?_) (Cert.Reference7Ideal.Value.run (F := Ideal) m' g')
  obtain ⟨a0, a1⟩ := ha c
  refine ⟨((h c).1.trans ?_).trans (Cert.Kernel7Ideal.Min.arr m c).symm, (h c).2⟩
  rw [a0, a1]
  exact (Cert.Reference7Ideal.Read.val_main_v1_eq _ _).trans (funext fun y => Cert.Kernel7Ideal.Min.ref_apply _ _ y)

/-- The gradient of its weights. -/
theorem same8 : Cert.algebraic_Kernel8Ideal_Reference8Ideal := by
  intro m g m' g' _ ha
  refine ⟨_, Cert.Kernel8Ideal.Value.run_blocks (F := Ideal) m g, ?_⟩
  refine (θ_run Cert.Reference8Ideal.defs _ _).mono (fun r h c => ?_) (Cert.Reference8Ideal.Value.run (F := Ideal) m' g')
  obtain ⟨a0, a1⟩ := ha c
  refine ⟨((h c).1.trans ?_).trans (Cert.Kernel8Ideal.Mdw.arr m c).symm, (h c).2⟩
  rw [a0, a1]
  exact (Cert.Reference8Ideal.Read.val_main_v7_eq _ _).trans (funext fun y => Cert.Kernel8Ideal.Mdw.ref_apply _ _ y)

/-- The gradient of its input. -/
theorem same9 : Cert.algebraic_Kernel9Ideal_Reference9Ideal := by
  intro m g m' g' _ ha
  refine ⟨_, Cert.Kernel9Ideal.Value.run_blocks (F := Ideal) m g, ?_⟩
  refine (θ_run Cert.Reference9Ideal.defs _ _).mono (fun r h c => ?_) (Cert.Reference9Ideal.Value.run (F := Ideal) m' g')
  obtain ⟨a0, a1⟩ := ha c
  refine ⟨((h c).1.trans ?_).trans (Cert.Kernel9Ideal.Mdh.arr m c).symm, (h c).2⟩
  rw [a0, a1]
  exact (Cert.Reference9Ideal.Read.val_main_v3_eq _ _).trans (funext fun y => Cert.Kernel9Ideal.Mdh.ref_apply _ _ y)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  IdealRules.named_const.statement Cert.KernelIdeal.κ "mask" .f32 0xF149F2CA#32 ⊥ rfl, same,
  trivial, same2, trivial, same3,
  trivial, same4, trivial, same5, trivial, same6, trivial, same7, trivial, same8, trivial, same9⟩

end Cert.Proof

end
